-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gates_are_weights [hPre_gates_are_weights : Cert.Pre_gates_are_weights.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gates_are_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gates_are_weights [hPre_gates_are_weights : Cert.Pre_gates_are_weights.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gates_are_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_gates_are_weights [hKernel2Ideal : Cert.Kernel2Ideal.Facts] [hPre_gates_are_weights : Cert.Pre_gates_are_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gates_are_weights m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_gates_are_weights [hReference2Ideal : Cert.Reference2Ideal.Facts] [hPre_gates_are_weights : Cert.Pre_gates_are_weights.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gates_are_weights m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_gates_are_weights [hKernel2Ideal : Cert.Kernel2Ideal.Facts] [hReference2Ideal : Cert.Reference2Ideal.Facts] [hPre_gates_are_weights : Cert.Pre_gates_are_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gates_are_weights m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "logit_scale" .f32 0x3E38AA3B#32 (((8 * (Real.log 2))⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v64_0)) (v1 : (c : Dev Cert.Kernel4Ideal.nD) → Buf (Elt Ideal) ((c.tc : Thread Cert.Kernel4Ideal.nD Cert.Kernel4Ideal.τ).loc Cert.Kernel4Ideal.main_v64_1)) (v2 : (c : Dev Cert.Kernel4Ideal.nD) → Buf (Elt Ideal) ((c.tc : Thread Cert.Kernel4Ideal.nD Cert.Kernel4Ideal.τ).loc Cert.Kernel4Ideal.main_v64_2)) (v3 : (c : Dev Cert.Kernel4Ideal.nD) → Buf (Elt Ideal) ((c.tc : Thread Cert.Kernel4Ideal.nD Cert.Kernel4Ideal.τ).loc Cert.Kernel4Ideal.main_v64_3)) (v4 : (c : Dev Cert.Kernel4Ideal.nD) → Buf (Elt Ideal) ((c.tc : Thread Cert.Kernel4Ideal.nD Cert.Kernel4Ideal.τ).loc Cert.Kernel4Ideal.main_v64_4)) (v5 : (c : Dev Cert.Kernel4Ideal.nD) → Buf (Elt Ideal) ((c.tc : Thread Cert.Kernel4Ideal.nD Cert.Kernel4Ideal.τ).loc Cert.Kernel4Ideal.main_v64_5)) (v6 : (c : Dev Cert.Kernel4Ideal.nD) → Buf (Elt Ideal) ((c.tc : Thread Cert.Kernel4Ideal.nD Cert.Kernel4Ideal.τ).loc Cert.Kernel4Ideal.main_v64_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v64_0) = v0 c
          ∧ r.2.mem ((c.tc : Thread Cert.Kernel4Ideal.nD Cert.Kernel4Ideal.τ).loc Cert.Kernel4Ideal.main_v64_1) = v1 c
          ∧ r.2.mem ((c.tc : Thread Cert.Kernel4Ideal.nD Cert.Kernel4Ideal.τ).loc Cert.Kernel4Ideal.main_v64_2) = v2 c
          ∧ r.2.mem ((c.tc : Thread Cert.Kernel4Ideal.nD Cert.Kernel4Ideal.τ).loc Cert.Kernel4Ideal.main_v64_3) = v3 c
          ∧ r.2.mem ((c.tc : Thread Cert.Kernel4Ideal.nD Cert.Kernel4Ideal.τ).loc Cert.Kernel4Ideal.main_v64_4) = v4 c
          ∧ r.2.mem ((c.tc : Thread Cert.Kernel4Ideal.nD Cert.Kernel4Ideal.τ).loc Cert.Kernel4Ideal.main_v64_5) = v5 c
          ∧ r.2.mem ((c.tc : Thread Cert.Kernel4Ideal.nD Cert.Kernel4Ideal.τ).loc Cert.Kernel4Ideal.main_v64_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v193) = v0 c
          ∧ r.2.mem ((c.tc : Thread Cert.Reference4Ideal.nD Cert.Reference4Ideal.τ).loc Cert.Reference4Ideal.main_v197) = v1 c
          ∧ r.2.mem ((c.tc : Thread Cert.Reference4Ideal.nD Cert.Reference4Ideal.τ).loc Cert.Reference4Ideal.main_v63) = v2 c
          ∧ r.2.mem ((c.tc : Thread Cert.Reference4Ideal.nD Cert.Reference4Ideal.τ).loc Cert.Reference4Ideal.main_v201) = v3 c
          ∧ r.2.mem ((c.tc : Thread Cert.Reference4Ideal.nD Cert.Reference4Ideal.τ).loc Cert.Reference4Ideal.main_v205) = v4 c
          ∧ r.2.mem ((c.tc : Thread Cert.Reference4Ideal.nD Cert.Reference4Ideal.τ).loc Cert.Reference4Ideal.main_v209) = v5 c
          ∧ r.2.mem ((c.tc : Thread Cert.Reference4Ideal.nD Cert.Reference4Ideal.τ).loc Cert.Reference4Ideal.main_v213) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_queries_and_keys : Cert.Pre_finite_queries_and_keys.Facts) (hPre_gates_are_weights : Cert.Pre_gates_are_weights.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Kernel2Ideal_pre_gates_are_weights (hKernel2Ideal := hKernel2Ideal) (hPre_gates_are_weights := hPre_gates_are_weights)
    ∧ quiescent_Reference2Ideal (hReference2Ideal := hReference2Ideal)
    ∧ quiescent_Reference2Ideal_pre_gates_are_weights (hReference2Ideal := hReference2Ideal) (hPre_gates_are_weights := hPre_gates_are_weights)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal_pre_gates_are_weights (hKernel2Ideal := hKernel2Ideal) (hReference2Ideal := hReference2Ideal) (hPre_gates_are_weights := hPre_gates_are_weights)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_queries_and_keys.lean ====
abbrev S8x4096x512 : Shape := ⟨3, ![8, 4096, 512]⟩
abbrev S8x256x128 : Shape := ⟨3, ![8, 256, 128]⟩
abbrev S8x4096x128 : Shape := ⟨3, ![8, 4096, 128]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x256x128 : S_.BroadcastsInDim S8x256x128 (![] : Fin 0 → Fin S8x256x128.rank)
  reducesTo_S8x256x128_S_d0_1_2 : S8x256x128.ReducesTo [0, 1, 2] S_
  bcast_S_S8x4096x128 : S_.BroadcastsInDim S8x4096x128 (![] : Fin 0 → Fin S8x4096x128.rank)
  reducesTo_S8x4096x128_S_d0_1_2 : S8x4096x128.ReducesTo [0, 1, 2] S_

variable [Facts]

def fn {F : FTy → Type} [FloatOps F] (main_arg0 : FVec F S8x4096x512 .f32) (main_arg1 : FVec F S8x256x128 .f32) (main_arg2 : FVec F S8x256x128 .f32) (main_arg3 : FVec F S8x4096x128 .f32) (main_arg4 : FVec F S8x4096x128 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x256x128 .f32 := Host.absf main_arg1
  let main_cst_0 : FVec F S_ .f32 := constant S_ .f32 0x7F800000#32
  let main_v5 : FVec F S8x256x128 .f32 := broadcastInDim S8x256x128 ![] bcast_S_S8x256x128 main_cst_0
  let main_v6 : IVec S8x256x128 1 := cmpf .olt main_v4 main_v5
  let main_c_1 : IVec S_ 1 := constantI S_ 1 1#1
  let main_v7 : IVec S_ 1 := (fun x v => Host.reduce IntOp.andi x v reducesTo_S8x256x128_S_d0_1_2 h_S_) main_v6 main_c_1
  let main_v8 : FVec F S8x4096x128 .f32 := Host.absf main_arg3
  let main_cst_2 : FVec F S_ .f32 := constant S_ .f32 0x7F800000#32
  let main_v9 : FVec F S8x4096x128 .f32 := broadcastInDim S8x4096x128 ![] bcast_S_S8x4096x128 main_cst_2
  let main_v10 : IVec S8x4096x128 1 := cmpf .olt main_v8 main_v9
  let main_c_3 : IVec S_ 1 := constantI S_ 1 1#1
  let main_v11 : IVec S_ 1 := (fun x v => Host.reduce IntOp.andi x v reducesTo_S8x4096x128_S_d0_1_2 h_S_) main_v10 main_c_3
  let main_v12 : IVec S_ 1 := andi main_v7 main_v11
  let main_v13 : IVec S_ 1 := andi main_v3 main_v12
  main_v13
-- ==== Pre_gates_are_weights.lean ====
abbrev S8x16x512x1024 : Shape := ⟨4, ![8, 16, 512, 1024]⟩
abbrev S2x16x1024x2048 : Shape := ⟨4, ![2, 16, 1024, 2048]⟩
abbrev S2x16x2048x1024 : Shape := ⟨4, ![2, 16, 2048, 1024]⟩
abbrev S8x16x512 : Shape := ⟨3, ![8, 16, 512]⟩
abbrev S_ : Shape := ⟨0, ![]⟩

class Facts : Prop where
  bcast_S_S8x16x512 : S_.BroadcastsInDim S8x16x512 (![] : Fin 0 → Fin S8x16x512.rank)
  reducesTo_S8x16x512_S_d0_1_2 : S8x16x512.ReducesTo [0, 1, 2] S_
  h_S_ : 0 < S_.numel

variable [Facts]

def fn {F : FTy → Type} [FloatOps F] (main_arg0 : FVec F S8x16x512x1024 .f32) (main_arg1 : FVec F S2x16x1024x2048 .f32) (main_arg2 : FVec F S2x16x1024x2048 .f32) (main_arg3 : FVec F S2x16x2048x1024 .f32) (main_arg4 : FVec F S8x16x512 .f32) : IVec S_ 1 :=
  let main_cst : FVec F S_ .f32 := constant S_ .f32 0x00000000#32
  let main_v0 : FVec F S8x16x512 .f32 := broadcastInDim S8x16x512 ![] bcast_S_S8x16x512 main_cst
  let main_v1 : IVec S8x16x512 1 := cmpf .oge main_arg4 main_v0
  let main_cst_0 : FVec F S_ .f32 := constant S_ .f32 0x7F800000#32
  let main_v2 : FVec F S8x16x512 .f32 := broadcastInDim S8x16x512 ![] bcast_S_S8x16x512 main_cst_0
  let main_v3 : IVec S8x16x512 1 := cmpf .olt main_arg4 main_v2
  let main_v4 : IVec S8x16x512 1 := andi main_v1 main_v3
  let main_c : IVec S_ 1 := constantI S_ 1 1#1
  let main_v5 : IVec S_ 1 := (fun x v => Host.reduce IntOp.andi x v reducesTo_S8x16x512_S_d0_1_2 h_S_) main_v4 main_c
  main_v5
-- ==== Kernel.lean ====
abbrev S8x4096x512 : Shape := ⟨3, ![8, 4096, 512]⟩
abbrev S8x256x128 : Shape := ⟨3, ![8, 256, 128]⟩
abbrev S8x4096x128 : Shape := ⟨3, ![8, 4096, 128]⟩
abbrev S_ : Shape := ⟨0, ![]⟩
abbrev S8x256x2x1x64 : Shape := ⟨5, ![8, 256, 2, 1, 64]⟩
abbrev S8x256x2x4x64 : Shape := ⟨5, ![8, 256, 2, 4, 64]⟩
abbrev S8x256x512 : Shape := ⟨3, ![8, 256, 512]⟩
abbrev S8x4096x2x1x64 : Shape := ⟨5, ![8, 4096, 2, 1, 64]⟩
abbrev S8x4096x2x4x64 : Shape := ⟨5, ![8, 4096, 2, 4, 64]⟩
abbrev S1x512x256 : Shape := ⟨3, ![1, 512, 256]⟩
abbrev S1x4096x256 : Shape := ⟨3, ![1, 4096, 256]⟩
abbrev S1x256x256 : Shape := ⟨3, ![1, 256, 256]⟩
abbrev S1 : Shape := ⟨1, ![1]⟩
abbrev S512x256 : Shape := ⟨2, ![512, 256]⟩
abbrev S1x256 : Shape := ⟨2, ![1, 256]⟩
abbrev S256x1 : Shape := ⟨2, ![256, 1]⟩
abbrev S256x256 : Shape := ⟨2, ![256, 256]⟩
abbrev S1x1 : Shape := ⟨2, ![1, 1]⟩
abbrev S256 : Shape := ⟨1, ![256]⟩
abbrev S1x1024x256 : Shape := ⟨3, ![1, 1024, 256]⟩
abbrev S1024x256 : Shape := ⟨2, ![1024, 256]⟩
abbrev S1024 : Shape := ⟨1, ![1024]⟩
abbrev S1024x1 : Shape := ⟨2, ![1024, 1]⟩
abbrev S2048x256 : Shape := ⟨2, ![2048, 256]⟩
abbrev S2048x1 : Shape := ⟨2, ![2048, 1]⟩
abbrev S2048 : Shape := ⟨1, ![2048]⟩
abbrev S2048x1024 : Shape := ⟨2, ![2048, 1024]⟩
abbrev S512x1 : Shape := ⟨2, ![512, 1]⟩

abbrev nBuf : Space → Nat
  | .hbm => 29
  | .vmem => 14
  | .smem => 1
  | _ => 0

abbrev bufTy : (tb : Table) → Fin (tcTables nBuf tb) → BufTy
  | .hbm, ⟨0, _⟩ => ⟨S8x4096x512, .f32⟩
  | .hbm, ⟨1, _⟩ => ⟨S8x256x128, .f32⟩
  | .hbm, ⟨2, _⟩ => ⟨S8x256x128, .f32⟩
  | .hbm, ⟨3, _⟩ => ⟨S8x4096x128, .f32⟩
  | .hbm, ⟨4, _⟩ => ⟨S8x4096x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4096x512, .f32⟩
  | .hbm, ⟨10, _⟩ => ⟨S8x4096x512, .f32⟩
  | .hbm, ⟨11, _⟩ => ⟨S8x4096x512, .bf16⟩
  | .hbm, ⟨12, _⟩ => ⟨S8x256x2x1x64, .f32⟩
  | .hbm, ⟨13, _⟩ => ⟨S8x256x2x4x64, .f32⟩
  | .hbm, ⟨14, _⟩ => ⟨S8x256x512, .f32⟩
  | .hbm, ⟨15, _⟩ => ⟨S8x256x512, .bf16⟩
  | .hbm, ⟨16, _⟩ => ⟨S8x256x2x1x64, .f32⟩
  | .hbm, ⟨17, _⟩ => ⟨S8x256x2x4x64, .f32⟩
  | .hbm, ⟨18, _⟩ => ⟨S8x256x512, .f32⟩
  | .hbm, ⟨19, _⟩ => ⟨S8x256x512, .bf16⟩
  | .hbm, ⟨20, _⟩ => ⟨S8x4096x2x1x64, .f32⟩
  | .hbm, ⟨21, _⟩ => ⟨S8x4096x2x4x64, .f32⟩
  | .hbm, ⟨22, _⟩ => ⟨S8x4096x512, .f32⟩
  | .hbm, ⟨23, _⟩ => ⟨S8x4096x512, .bf16⟩
  | .hbm, ⟨24, _⟩ => ⟨S8x4096x2x1x64, .f32⟩
  | .hbm, ⟨25, _⟩ => ⟨S8x4096x2x4x64, .f32⟩
  | .hbm, ⟨26, _⟩ => ⟨S8x4096x512, .f32⟩
  | .hbm, ⟨27, _⟩ => ⟨S8x4096x512, .bf16⟩
  | .hbm, ⟨28, _⟩ => ⟨S8x4096x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x512x256, .bf16⟩
  | .local _ .vmem, ⟨13, _⟩ => ⟨S1x512x256, .bf16⟩
  | .local _ .smem, ⟨0, _⟩ => ⟨S1, .i32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 8], ![false, false, false]⟩

def k0_cond1 (i : grid0.Coords) : BitVec 1 :=
  let arg2 : BitVec 32 := BitVec.ofNat 32 (i 2).val
  let c0_i32_44 : BitVec 32 := 0#32
  let v163 : BitVec 1 := Scalar.cmpi .eq arg2 c0_i32_44
  let v164 : BitVec 32 := Scalar.extui v163
  let c0_i32_45 : BitVec 32 := 0#32
  let v165 : BitVec 1 := Scalar.cmpi .ne v164 c0_i32_45
  v165

def k0_mult1 : BitVec 32 :=
  let c0_i32_53 : BitVec 32 := 0#32
  let c256_i32 : BitVec 32 := 256#32
  let v176 : BitVec 32 := Scalar.muli c0_i32_53 c256_i32
  v176
def k0_off1 : Fin 3 → Nat :=
  let c0_54 : Index := 0#32
  let c0_i32_53 : BitVec 32 := 0#32
  let c256_i32 : BitVec 32 := 256#32
  let v176 : BitVec 32 := Scalar.muli c0_i32_53 c256_i32
  let v177 : BitVec 32 := v176
  let v178 : Index := Scalar.indexCast v177
  let c0_55 : Index := 0#32
  ![0, v178.toNat, 0]
@[reducible] def k0_t1_loop : Scf.Loop 32 :=
  let c0_i32_61 : BitVec 32 := 0#32
  let c4_i32 : BitVec 32 := 4#32
  let v192 : BitVec 32 := Scalar.addi c0_i32_61 c4_i32
  let c1_i32_62 : BitVec 32 := 1#32
  ⟨c0_i32_61, v192, c1_i32_62⟩
def k0_mult2 (k0_t1 : Fin k0_t1_loop.trips) : BitVec 32 :=
  let c0_i32_61 : BitVec 32 := 0#32
  let c1_i32_62 : BitVec 32 := 1#32
  let arg11 : BitVec 32 := Scf.iv c0_i32_61 c1_i32_62 k0_t1
  let c1024_i32 : BitVec 32 := 1024#32
  let v205 : BitVec 32 := Scalar.muli arg11 c1024_i32
  v205
def k0_off2 (k0_t1 : Fin k0_t1_loop.trips) : Fin 3 → Nat :=
  let c0_74 : Index := 0#32
  let c0_i32_61 : BitVec 32 := 0#32
  let c1_i32_62 : BitVec 32 := 1#32
  let arg11 : BitVec 32 := Scf.iv c0_i32_61 c1_i32_62 k0_t1
  let c1024_i32 : BitVec 32 := 1024#32
  let v205 : BitVec 32 := Scalar.muli arg11 c1024_i32
  let v206 : BitVec 32 := v205
  let v207 : Index := Scalar.indexCast v206
  let c0_75 : Index := 0#32
  ![0, v207.toNat, 0]
@[reducible] def k0_t2_loop : Scf.Loop 32 :=
  let c0_i32_65 : BitVec 32 := 0#32
  let c4_i32_66 : BitVec 32 := 4#32
  let v197 : BitVec 32 := Scalar.addi c0_i32_65 c4_i32_66
  let c1_i32_67 : BitVec 32 := 1#32
  ⟨c0_i32_65, v197, c1_i32_67⟩
def k0_mult3 (k0_t2 : Fin k0_t2_loop.trips) : BitVec 32 :=
  let c0_i32_65 : BitVec 32 := 0#32
  let c1_i32_67 : BitVec 32 := 1#32
  let arg11 : BitVec 32 := Scf.iv c0_i32_65 c1_i32_67 k0_t2
  let c1024_i32 : BitVec 32 := 1024#32
  let v205 : BitVec 32 := Scalar.muli arg11 c1024_i32
  v205
def k0_off3 (k0_t2 : Fin k0_t2_loop.trips) : Fin 3 → Nat :=
  let c0_74 : Index := 0#32
  let c0_i32_65 : BitVec 32 := 0#32
  let c1_i32_67 : BitVec 32 := 1#32
  let arg11 : BitVec 32 := Scf.iv c0_i32_65 c1_i32_67 k0_t2
  let c1024_i32 : BitVec 32 := 1024#32
  let v205 : BitVec 32 := Scalar.muli arg11 c1024_i32
  let v206 : BitVec 32 := v205
  let v207 : Index := Scalar.indexCast v206
  let c0_75 : Index := 0#32
  ![0, v207.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8x4096x512 : Shape := ⟨3, ![8, 4096, 512]⟩
abbrev S8x256x128 : Shape := ⟨3, ![8, 256, 128]⟩
abbrev S8x4096x128 : Shape := ⟨3, ![8, 4096, 128]⟩
abbrev S8x4096x8x64 : Shape := ⟨4, ![8, 4096, 8, 64]⟩
abbrev S8x256x2x64 : Shape := ⟨4, ![8, 256, 2, 64]⟩
abbrev S8x4096x2x64 : Shape := ⟨4, ![8, 4096, 2, 64]⟩
abbrev S8x4096x2x4x64 : Shape := ⟨5, ![8, 4096, 2, 4, 64]⟩
abbrev S8x4352x2x64 : Shape := ⟨4, ![8, 4352, 2, 64]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x256x128, .f32⟩
  | .hbm, ⟨2, _⟩ => ⟨S8x256x128, .f32⟩
  | .hbm, ⟨3, _⟩ => ⟨S8x4096x128, .f32⟩
  | .hbm, ⟨4, _⟩ => ⟨S8x4096x128, .f32⟩
  | .hbm, ⟨5, _⟩ => ⟨S8x4096x8x64, .f32⟩
  | .hbm, ⟨6, _⟩ => ⟨S8x256x2x64, .f32⟩
  | .hbm, ⟨7, _⟩ => ⟨S8x256x2x64, .f32⟩
  | .hbm, ⟨8, _⟩ => ⟨S8x4096x2x64, .f32⟩
  | .hbm, ⟨9, _⟩ => ⟨S8x4096x2x64, .f32⟩
  | .hbm, ⟨10, _⟩ => ⟨S8x4096x2x4x64, .f32⟩
  | .hbm, ⟨11, _⟩ => ⟨S8x4352x2x64, .f32⟩
  | .hbm, ⟨12, _⟩ => ⟨S8x4352x2x64, .f32⟩
  | .hbm, ⟨13, _⟩ => ⟨S8x2x4352x4096x4, .f32⟩
  | .hbm, ⟨14, _⟩ => ⟨S8x2x4x4096x4352, .f32⟩
  | .hbm, ⟨15, _⟩ => ⟨S_, .f32⟩
  | .hbm, ⟨16, _⟩ => ⟨S8x2x4x4096x4352, .f32⟩
  | .hbm, ⟨17, _⟩ => ⟨S8x2x4x4096x4352, .f32⟩
  | .hbm, ⟨18, _⟩ => ⟨S_, .f32⟩
  | .hbm, ⟨19, _⟩ => ⟨S8x2x4x4096, .f32⟩
  | .hbm, ⟨20, _⟩ => ⟨S_, .f32⟩
  | .hbm, ⟨21, _⟩ => ⟨S8x2x4x4096, .f32⟩
  | .hbm, ⟨22, _⟩ => ⟨S8x2x4x4096, .f32⟩
  | .hbm, ⟨23, _⟩ => ⟨S8x2x4x4096x1, .f32⟩
  | .hbm, ⟨24, _⟩ => ⟨S8x2x4x4096x4352, .f32⟩
  | .hbm, ⟨25, _⟩ => ⟨S8x2x4x4096x4352, .f32⟩
  | .hbm, ⟨26, _⟩ => ⟨S8x2x4x4096x4352, .f32⟩
  | .hbm, ⟨27, _⟩ => ⟨S_, .f32⟩
  | .hbm, ⟨28, _⟩ => ⟨S8x2x4x4096, .f32⟩
  | .hbm, ⟨29, _⟩ => ⟨S8x2x4x4096x1, .f32⟩
  | .hbm, ⟨30, _⟩ => ⟨S8x2x4x4096x4352, .f32⟩
  | .hbm, ⟨31, _⟩ => ⟨S8x2x4x4096x4352, .f32⟩
  | .hbm, ⟨32, _⟩ => ⟨S8x2x64x4x4096, .f32⟩
  | .hbm, ⟨33, _⟩ => ⟨S8x4096x2x4x64, .f32⟩
  | .hbm, ⟨34, _⟩ => ⟨S8x4096x512, .f32⟩
  | .hbm, ⟨35, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel2.lean ====
abbrev S8x16x512x1024 : Shape := ⟨4, ![8, 16, 512, 1024]⟩
abbrev S2x16x1024x2048 : Shape := ⟨4, ![2, 16, 1024, 2048]⟩
abbrev S2x16x2048x1024 : Shape := ⟨4, ![2, 16, 2048, 1024]⟩
abbrev S8x16x512 : Shape := ⟨3, ![8, 16, 512]⟩
abbrev S16x8x512x1024 : Shape := ⟨4, ![16, 8, 512, 1024]⟩
abbrev S16x4096x1024 : Shape := ⟨3, ![16, 4096, 1024]⟩
abbrev S16x8x512 : Shape := ⟨3, ![16, 8, 512]⟩
abbrev S16x4096x1 : Shape := ⟨3, ![16, 4096, 1]⟩
abbrev S1x2048x1024 : Shape := ⟨3, ![1, 2048, 1024]⟩
abbrev S1x1x1024x512 : Shape := ⟨4, ![1, 1, 1024, 512]⟩
abbrev S1x1x512x1024 : Shape := ⟨4, ![1, 1, 512, 1024]⟩
abbrev S1x2048x1 : Shape := ⟨3, ![1, 2048, 1]⟩
abbrev S2048x1024 : Shape := ⟨2, ![2048, 1024]⟩
abbrev S1024x512 : Shape := ⟨2, ![1024, 512]⟩
abbrev S2048x512 : Shape := ⟨2, ![2048, 512]⟩
abbrev S512x1024 : Shape := ⟨2, ![512, 1024]⟩
abbrev S2048x1 : Shape := ⟨2, ![2048, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x16x512x1024, .f32⟩
  | .hbm, ⟨1, _⟩ => ⟨S2x16x1024x2048, .f32⟩
  | .hbm, ⟨2, _⟩ => ⟨S2x16x1024x2048, .f32⟩
  | .hbm, ⟨3, _⟩ => ⟨S2x16x2048x1024, .f32⟩
  | .hbm, ⟨4, _⟩ => ⟨S8x16x512, .f32⟩
  | .hbm, ⟨5, _⟩ => ⟨S16x8x512x1024, .f32⟩
  | .hbm, ⟨6, _⟩ => ⟨S16x4096x1024, .f32⟩
  | .hbm, ⟨7, _⟩ => ⟨S16x4096x1024, .bf16⟩
  | .hbm, ⟨8, _⟩ => ⟨S16x8x512, .f32⟩
  | .hbm, ⟨9, _⟩ => ⟨S16x4096x1, .f32⟩
  | .hbm, ⟨10, _⟩ => ⟨S16x4096x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x2048x1, .f32⟩
  | .local _ .vmem, ⟨9, _⟩ => ⟨S1x2048x1, .f32⟩
  | .local _ .vmem, ⟨10, _⟩ => ⟨S1x2048x1024, .f32⟩
  | .local _ .vmem, ⟨11, _⟩ => ⟨S1x2048x1024, .f32⟩
  | _, _ => ⟨S8x16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S8x16x512x1024 : Shape := ⟨4, ![8, 16, 512, 1024]⟩
abbrev S2x16x1024x2048 : Shape := ⟨4, ![2, 16, 1024, 2048]⟩
abbrev S2x16x2048x1024 : Shape := ⟨4, ![2, 16, 2048, 1024]⟩
abbrev S8x16x512 : Shape := ⟨3, ![8, 16, 512]⟩
abbrev S1x16x1024x2048 : Shape := ⟨4, ![1, 16, 1024, 2048]⟩
abbrev S16x1024x2048 : Shape := ⟨3, ![16, 1024, 2048]⟩
abbrev S16x2048x8x512 : Shape := ⟨4, ![16, 2048, 8, 512]⟩
abbrev S8x16x512x2048 : Shape := ⟨4, ![8, 16, 512, 2048]⟩
abbrev S_ : Shape := ⟨0, ![]⟩
abbrev S1x16x2048x1024 : Shape := ⟨4, ![1, 16, 2048, 1024]⟩
abbrev S16x2048x1024 : Shape := ⟨3, ![16, 2048, 1024]⟩
abbrev S16x1024x8x512 : Shape := ⟨4, ![16, 1024, 8, 512]⟩
abbrev S8x16x512x1 : Shape := ⟨4, ![8, 16, 512, 1]⟩
abbrev S16x8x512x1024 : Shape := ⟨4, ![16, 8, 512, 1024]⟩
abbrev S16x4096x1024 : Shape := ⟨3, ![16, 4096, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x16x512x1024, .f32⟩
  | .hbm, ⟨1, _⟩ => ⟨S2x16x1024x2048, .f32⟩
  | .hbm, ⟨2, _⟩ => ⟨S2x16x1024x2048, .f32⟩
  | .hbm, ⟨3, _⟩ => ⟨S2x16x2048x1024, .f32⟩
  | .hbm, ⟨4, _⟩ => ⟨S8x16x512, .f32⟩
  | .hbm, ⟨5, _⟩ => ⟨S1x16x1024x2048, .f32⟩
  | .hbm, ⟨6, _⟩ => ⟨S16x1024x2048, .f32⟩
  | .hbm, ⟨7, _⟩ => ⟨S16x2048x8x512, .f32⟩
  | .hbm, ⟨8, _⟩ => ⟨S8x16x512x2048, .f32⟩
  | .hbm, ⟨9, _⟩ => ⟨S1x16x1024x2048, .f32⟩
  | .hbm, ⟨10, _⟩ => ⟨S16x1024x2048, .f32⟩
  | .hbm, ⟨11, _⟩ => ⟨S16x2048x8x512, .f32⟩
  | .hbm, ⟨12, _⟩ => ⟨S8x16x512x2048, .f32⟩
  | .hbm, ⟨13, _⟩ => ⟨S8x16x512x2048, .f32⟩
  | .hbm, ⟨14, _⟩ => ⟨S8x16x512x2048, .f32⟩
  | .hbm, ⟨15, _⟩ => ⟨S_, .f32⟩
  | .hbm, ⟨16, _⟩ => ⟨S8x16x512x2048, .f32⟩
  | .hbm, ⟨17, _⟩ => ⟨S8x16x512x2048, .f32⟩
  | .hbm, ⟨18, _⟩ => ⟨S_, .f32⟩
  | .hbm, ⟨19, _⟩ => ⟨S8x16x512x2048, .f32⟩
  | .hbm, ⟨20, _⟩ => ⟨S8x16x512x2048, .f32⟩
  | .hbm, ⟨21, _⟩ => ⟨S8x16x512x2048, .f32⟩
  | .hbm, ⟨22, _⟩ => ⟨S8x16x512x2048, .f32⟩
  | .hbm, ⟨23, _⟩ => ⟨S1x16x2048x1024, .f32⟩
  | .hbm, ⟨24, _⟩ => ⟨S16x2048x1024, .f32⟩
  | .hbm, ⟨25, _⟩ => ⟨S16x1024x8x512, .f32⟩
  | .hbm, ⟨26, _⟩ => ⟨S8x16x512x1024, .f32⟩
  | .hbm, ⟨27, _⟩ => ⟨S8x16x512x1, .f32⟩
  | .hbm, ⟨28, _⟩ => ⟨S8x16x512x1024, .f32⟩
  | .hbm, ⟨29, _⟩ => ⟨S8x16x512x1024, .f32⟩
  | .hbm, ⟨30, _⟩ => ⟨S16x8x512x1024, .f32⟩
  | .hbm, ⟨31, _⟩ => ⟨S16x4096x1024, .f32⟩
  | _, _ => ⟨S8x16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x1x1024 : Shape := ⟨3, ![8, 1, 1024]⟩
abbrev S2x1024 : Shape := ⟨2, ![2, 1024]⟩
abbrev S1x1024 : Shape := ⟨2, ![1, 1024]⟩
abbrev S1024 : Shape := ⟨1, ![1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩

abbrev nBuf : Space → Nat
  | .hbm => 12
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x1x1024, .f32⟩
  | .hbm, ⟨3, _⟩ => ⟨S2x1024, .f32⟩
  | .hbm, ⟨4, _⟩ => ⟨S2x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8x4096x1024 : Shape := ⟨3, ![8, 4096, 1024]⟩
abbrev S8x1x1024 : Shape := ⟨3, ![8, 1, 1024]⟩
abbrev S2x1024 : Shape := ⟨2, ![2, 1024]⟩
abbrev S_ : Shape := ⟨0, ![]⟩
abbrev S8x4096 : Shape := ⟨2, ![8, 4096]⟩
abbrev S8x4096x1 : Shape := ⟨3, ![8, 4096, 1]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x1x1024, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S1x1024, .f32⟩
  | .hbm, ⟨35, _⟩ => ⟨S1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | .hbm, ⟨39, _⟩ => ⟨S1x1024, .f32⟩
  | .hbm, ⟨40, _⟩ => ⟨S1024, .f32⟩
  | .hbm, ⟨41, _⟩ => ⟨S1x1x1024, .f32⟩
  | .hbm, ⟨42, _⟩ => ⟨S8x4096x1024, .f32⟩
  | .hbm, ⟨43, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x1x1024 : Shape := ⟨3, ![8, 1, 1024]⟩
abbrev S2x1024x1536 : Shape := ⟨3, ![2, 1024, 1536]⟩
abbrev S2x64 : Shape := ⟨2, ![2, 64]⟩
abbrev S128 : Shape := ⟨1, ![128]⟩
abbrev S4096 : Shape := ⟨1, ![4096]⟩
abbrev S16 : Shape := ⟨1, ![16]⟩
abbrev S_ : Shape := ⟨0, ![]⟩
abbrev S128x1 : Shape := ⟨2, ![128, 1]⟩
abbrev S1x128 : Shape := ⟨2, ![1, 128]⟩
abbrev S4096x1 : Shape := ⟨2, ![4096, 1]⟩
abbrev S4096x128 : Shape := ⟨2, ![4096, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128x128 : Shape := ⟨2, ![128, 128]⟩
abbrev S1x64 : Shape := ⟨2, ![1, 64]⟩
abbrev S64 : Shape := ⟨1, ![64]⟩
abbrev S8x64 : Shape := ⟨2, ![8, 64]⟩
abbrev S1x1024x1536 : Shape := ⟨3, ![1, 1024, 1536]⟩
abbrev S1024x1536 : Shape := ⟨2, ![1024, 1536]⟩
abbrev S8x4096x512 : Shape := ⟨3, ![8, 4096, 512]⟩
abbrev S8x4096x256 : Shape := ⟨3, ![8, 4096, 256]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x512x256 : Shape := ⟨3, ![1, 512, 256]⟩
abbrev S1x128x1024 : Shape := ⟨3, ![1, 128, 1024]⟩
abbrev S128x1024 : Shape := ⟨2, ![128, 1024]⟩
abbrev S1x1024 : Shape := ⟨2, ![1, 1024]⟩
abbrev S128x1536 : Shape := ⟨2, ![128, 1536]⟩
abbrev S128x512 : Shape := ⟨2, ![128, 512]⟩
abbrev S128x256 : Shape := ⟨2, ![128, 256]⟩
abbrev S1x128x512 : Shape := ⟨3, ![1, 128, 512]⟩
abbrev S1x128x256 : Shape := ⟨3, ![1, 128, 256]⟩

abbrev nBuf : Space → Nat
  | .hbm => 161
  | .vmem => 29
  | .smem => 0
  | _ => 0

abbrev hbmTy0_0 (i : Nat) : BufTy := match i % 128 with
  | 0 => ⟨S8x4096x1024, .f32⟩
  | 1 => ⟨S8x1x1024, .f32⟩
  | 2 => ⟨S8x1x1024, .f32⟩
  | 3 => ⟨S2x1024x1536, .f32⟩
  | 4 => ⟨S2x64, .f32⟩
  | 5 => ⟨S2x64, .f32⟩
  | 6 => ⟨S128, .i32⟩
  | 7 => ⟨S128, .i1⟩
  | 8 => ⟨S128, .i1⟩
  | 9 => ⟨S128, .f32⟩
  | 10 => ⟨S4096, .i32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S_, .i32⟩
  | 26 => ⟨S128, .i32⟩
  | 27 => ⟨S128, .i32⟩
  | 28 => ⟨S128, .i32⟩
  | 29 => ⟨S128x1, .i32⟩
  | 30 => ⟨S128, .f32⟩
  | 31 => ⟨S1x128, .i1⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S4096, .i32⟩
  | 39 => ⟨S4096, .i32⟩
  | 40 => ⟨S_, .i32⟩
  | 41 => ⟨S4096, .i32⟩
  | 42 => ⟨S4096, .i1⟩
  | 43 => ⟨S_, .i32⟩
  | 44 => ⟨S4096, .i32⟩
  | 45 => ⟨S4096, .i1⟩
  | 46 => ⟨S_, .i32⟩
  | 47 => ⟨S_, .i1⟩
  | 48 => ⟨S4096, .i1⟩
  | 49 => ⟨S4096, .i1⟩
  | 50 => ⟨S4096, .i1⟩
  | 51 => ⟨S4096, .i32⟩
  | 52 => ⟨S4096, .i32⟩
  | 53 => ⟨S4096, .i32⟩
  | 54 => ⟨S4096x1, .i32⟩
  | 55 => ⟨S_, .i32⟩
  | 56 => ⟨S_, .i32⟩
  | 57 => ⟨S4096, .i32⟩
  | 58 => ⟨S4096, .i32⟩
  | 59 => ⟨S4096, .i32⟩
  | 60 => ⟨S_, .i32⟩
  | 61 => ⟨S4096, .i32⟩
  | 62 => ⟨S4096, .i1⟩
  | 63 => ⟨S4096, .i32⟩
  | 64 => ⟨S4096, .i32⟩
  | 65 => ⟨S_, .i32⟩
  | 66 => ⟨S4096, .i32⟩
  | 67 => ⟨S4096, .i1⟩
  | 68 => ⟨S4096, .i1⟩
  | 69 => ⟨S_, .i32⟩
  | 70 => ⟨S4096, .i32⟩
  | 71 => ⟨S4096, .i32⟩
  | 72 => ⟨S4096, .i32⟩
  | 73 => ⟨S4096x1, .i32⟩
  | 74 => ⟨S4096x128, .i1⟩
  | 75 => ⟨S4096x128, .i32⟩
  | 76 => ⟨S4096x128, .i32⟩
  | 77 => ⟨S4096x128, .i32⟩
  | 78 => ⟨S1x128, .f32⟩
  | 79 => ⟨S4096x128, .f32⟩
  | 80 => ⟨S4096x128, .f32⟩
  | 81 => ⟨S4096x128, .f32⟩
  | 82 => ⟨S4096x128, .f32⟩
  | 83 => ⟨S4096x128, .f32⟩
  | 84 => ⟨S1x128, .f32⟩
  | 85 => ⟨S4096x128, .f32⟩
  | 86 => ⟨S4096x128, .f32⟩
  | 87 => ⟨S512, .i32⟩
  | 88 => ⟨S_, .i32⟩
  | 89 => ⟨S_, .i32⟩
  | 90 => ⟨S512, .i32⟩
  | 91 => ⟨S512, .i32⟩
  | 92 => ⟨S512, .i32⟩
  | 93 => ⟨S_, .i32⟩
  | 94 => ⟨S512, .i32⟩
  | 95 => ⟨S512, .i1⟩
  | 96 => ⟨S512, .i32⟩
  | 97 => ⟨S512, .i32⟩
  | 98 => ⟨S_, .i32⟩
  | 99 => ⟨S512, .i32⟩
  | 100 => ⟨S512, .i1⟩
  | 101 => ⟨S512, .i1⟩
  | 102 => ⟨S_, .i32⟩
  | 103 => ⟨S512, .i32⟩
  | 104 => ⟨S512, .i32⟩
  | 105 => ⟨S512, .i32⟩
  | 106 => ⟨S512x1, .i32⟩
  | 107 => ⟨S1x512, .i32⟩
  | 108 => ⟨S512x512, .i32⟩
  | 109 => ⟨S512x512, .i32⟩
  | 110 => ⟨S512x512, .i1⟩
  | 111 => ⟨S512x512, .f32⟩
  | 112 => ⟨S512x512, .bf16⟩
  | 113 => ⟨S128, .i32⟩
  | 114 => ⟨S_, .i32⟩
  | 115 => ⟨S_, .i32⟩
  | 116 => ⟨S128, .i32⟩
  | 117 => ⟨S128, .i32⟩
  | 118 => ⟨S128, .i32⟩
  | 119 => ⟨S_, .i32⟩
  | 120 => ⟨S128, .i32⟩
  | 121 => ⟨S128, .i1⟩
  | 122 => ⟨S128, .i32⟩
  | 123 => ⟨S128, .i32⟩
  | 124 => ⟨S_, .i32⟩
  | 125 => ⟨S128, .i32⟩
  | 126 => ⟨S128, .i1⟩
  | 127 => ⟨S128, .i1⟩
  | _ => ⟨S8x4096x1024, .f32⟩

abbrev hbmTy0_1 (i : Nat) : BufTy := match i % 128 with
  | 0 => ⟨S_, .i32⟩
  | 1 => ⟨S128, .i32⟩
  | 2 => ⟨S128, .i32⟩
  | 3 => ⟨S128, .i32⟩
  | 4 => ⟨S128x1, .i32⟩
  | 5 => ⟨S1x128, .i32⟩
  | 6 => ⟨S128x128, .i32⟩
  | 7 => ⟨S128x128, .i32⟩
  | 8 => ⟨S128x128, .i1⟩
  | 9 => ⟨S128x128, .f32⟩
  | 10 => ⟨S128x128, .bf16⟩
  | 11 => ⟨S1x64, .f32⟩
  | 12 => ⟨S64, .f32⟩
  | 13 => ⟨S1x64, .f32⟩
  | 14 => ⟨S8x64, .f32⟩
  | 15 => ⟨S512, .f32⟩
  | 16 => ⟨S1x512, .f32⟩
  | 17 => ⟨S1x64, .f32⟩
  | 18 => ⟨S64, .f32⟩
  | 19 => ⟨S1x64, .f32⟩
  | 20 => ⟨S2x64, .f32⟩
  | 21 => ⟨S128, .f32⟩
  | 22 => ⟨S1x128, .f32⟩
  | 23 => ⟨S2x1024x1536, .bf16⟩
  | 24 => ⟨S1x1024x1536, .bf16⟩
  | 25 => ⟨S1024x1536, .bf16⟩
  | 26 => ⟨S8x4096x512, .bf16⟩
  | 27 => ⟨S8x4096x256, .bf16⟩
  | 28 => ⟨S8x4096x256, .f32⟩
  | 29 => ⟨S8x4096x512, .bf16⟩
  | 30 => ⟨S8x4096x512, .bf16⟩
  | 31 => ⟨S8x4096x256, .bf16⟩
  | 32 => ⟨S8x4096x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1536, .bf16⟩
  | .local _ .vmem, ⟨7, _⟩ => ⟨S1x512, .f32⟩
  | .local _ .vmem, ⟨8, _⟩ => ⟨S1x128, .f32⟩
  | .local _ .vmem, ⟨9, _⟩ => ⟨S512x512, .bf16⟩
  | .local _ .vmem, ⟨10, _⟩ => ⟨S128x128, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x512x512, .bf16⟩
  | .local _ .vmem, ⟨16, _⟩ => ⟨S1x512x512, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x256, .f32⟩
  | .local _ .vmem, ⟨20, _⟩ => ⟨S1x512x256, .f32⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x256, .bf16⟩
  | .local _ .vmem, ⟨26, _⟩ => ⟨S1x512x256, .bf16⟩
  | .local _ .vmem, ⟨27, _⟩ => ⟨S1x512x256, .bf16⟩
  | .local _ .vmem, ⟨28, _⟩ => ⟨S1x512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_2 : Ref sig .tc := ⟨.hbm, 12, rfl⟩
abbrev main_v2 : Ref sig .tc := ⟨.hbm, 13, rfl⟩
abbrev main_v3 : Ref sig .tc := ⟨.hbm, 14, rfl⟩
abbrev main_cst_3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_4 : Ref sig .tc := ⟨.hbm, 19, rfl⟩
abbrev main_v7 : Ref sig .tc := ⟨.hbm, 20, rfl⟩
abbrev main_v8 : Ref sig .tc := ⟨.hbm, 21, rfl⟩
abbrev main_cst_5 : Ref sig .tc := ⟨.hbm, 22, rfl⟩
abbrev main_v9 : Ref sig .tc := ⟨.hbm, 23, rfl⟩
abbrev main_v10 : Ref sig .tc := ⟨.hbm, 24, rfl⟩
abbrev main_c_6 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_7 : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_1 : Ref sig .tc := ⟨.hbm, 40, rfl⟩
abbrev main_call0_v5 : Ref sig .tc := ⟨.hbm, 41, rfl⟩
abbrev main_call0_v6 : Ref sig .tc := ⟨.hbm, 42, rfl⟩
abbrev main_call0_c_2 : Ref sig .tc := ⟨.hbm, 43, rfl⟩
abbrev main_call0_v7 : Ref sig .tc := ⟨.hbm, 44, rfl⟩
abbrev main_call0_v8 : Ref sig .tc := ⟨.hbm, 45, rfl⟩
abbrev main_call0_c_3 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_v17 : Ref sig .tc := ⟨.hbm, 53, rfl⟩
abbrev main_v18 : Ref sig .tc := ⟨.hbm, 54, rfl⟩
abbrev main_c_8 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v19 : Ref sig .tc := ⟨.hbm, 72, rfl⟩
abbrev main_v20 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_c_9 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_c : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_0 : Ref sig .tc := ⟨.hbm, 102, rfl⟩
abbrev main_call3_v12 : Ref sig .tc := ⟨.hbm, 103, rfl⟩
abbrev main_call3_v13 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_c_10 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_c : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_0 : Ref sig .tc := ⟨.hbm, 128, rfl⟩
abbrev main_call4_v12 : Ref sig .tc := ⟨.hbm, 129, rfl⟩
abbrev main_call4_v13 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64_0 : Ref sig .tc := ⟨.hbm, 154, rfl⟩
abbrev main_v64_1 : Ref sig .tc := ⟨.hbm, 155, rfl⟩
abbrev main_v64_2 : Ref sig .tc := ⟨.hbm, 156, rfl⟩
abbrev main_v64_3 : Ref sig .tc := ⟨.hbm, 157, rfl⟩
abbrev main_v64_4 : Ref sig .tc := ⟨.hbm, 158, rfl⟩
abbrev main_v64_5 : Ref sig .tc := ⟨.hbm, 159, rfl⟩
abbrev main_v64_6 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Kernel4Ideal.lean ====
variable {F : FTy → Type} [FloatOps F] [Named F]
def κ : String → Option EReal := fun
  | "logit_scale" => some (((8 * (Real.log 2))⁻¹ : ℝ) : EReal)
  | _ => none
-- ==== Reference4Ideal.lean ====
abbrev S8x4096x1024 : Shape := ⟨3, ![8, 4096, 1024]⟩
abbrev S8x1x1024 : Shape := ⟨3, ![8, 1, 1024]⟩
abbrev S2x1024x1536 : Shape := ⟨3, ![2, 1024, 1536]⟩
abbrev S2x64 : Shape := ⟨2, ![2, 64]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x2x16 : Shape := ⟨3, ![4096, 2, 16]⟩
abbrev S8x4096 : Shape := ⟨2, ![8, 4096]⟩
abbrev S8x4096x1 : Shape := ⟨3, ![8, 4096, 1]⟩
abbrev S1x1024x1536 : Shape := ⟨3, ![1, 1024, 1536]⟩
abbrev S1024x1536 : Shape := ⟨2, ![1024, 1536]⟩
abbrev S8x4096x1536 : Shape := ⟨3, ![8, 4096, 1536]⟩
abbrev S8x4096x512 : Shape := ⟨3, ![8, 4096, 512]⟩
abbrev S8x4096x256 : Shape := ⟨3, ![8, 4096, 256]⟩
abbrev S8x4096x128 : Shape := ⟨3, ![8, 4096, 128]⟩
abbrev S8x4096x2x64 : Shape := ⟨4, ![8, 4096, 2, 64]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x8x2x2x16 : Shape := ⟨6, ![8, 4096, 8, 2, 2, 16]⟩
abbrev S8x4096x8x2x1x16 : Shape := ⟨6, ![8, 4096, 8, 2, 1, 16]⟩
abbrev S8x4096x8x2x16 : Shape := ⟨5, ![8, 4096, 8, 2, 16]⟩
abbrev S1x4096x1x2x16 : Shape := ⟨5, ![1, 4096, 1, 2, 16]⟩
abbrev S8x4096x2 : Shape := ⟨3, ![8, 4096, 2]⟩
abbrev S8x4096x2x1 : Shape := ⟨4, ![8, 4096, 2, 1]⟩
abbrev S8x4096x2x2x2x16 : Shape := ⟨6, ![8, 4096, 2, 2, 2, 16]⟩
abbrev S8x4096x2x2x1x16 : Shape := ⟨6, ![8, 4096, 2, 2, 1, 16]⟩
abbrev S8x4096x2x2x16 : Shape := ⟨5, ![8, 4096, 2, 2, 16]⟩
abbrev S8x4096x4x64 : Shape := ⟨4, ![8, 4096, 4, 64]⟩
abbrev S8x4096x4x2x2x16 : Shape := ⟨6, ![8, 4096, 4, 2, 2, 16]⟩
abbrev S8x4096x4x2x1x16 : Shape := ⟨6, ![8, 4096, 4, 2, 1, 16]⟩
abbrev S8x4096x4x2x16 : Shape := ⟨5, ![8, 4096, 4, 2, 16]⟩
abbrev S8x4096x2x4x64 : Shape := ⟨5, ![8, 4096, 2, 4, 64]⟩
abbrev S8x4096x2x2x64 : Shape := ⟨5, ![8, 4096, 2, 2, 64]⟩

abbrev nBuf : Space → Nat
  | .hbm => 238
  | .vmem => 0
  | .smem => 0
  | _ => 0

abbrev hbmTy0_0 (i : Nat) : BufTy := match i % 128 with
  | 0 => ⟨S8x4096x1024, .f32⟩
  | 1 => ⟨S8x1x1024, .f32⟩
  | 2 => ⟨S8x1x1024, .f32⟩
  | 3 => ⟨S2x1024x1536, .f32⟩
  | 4 => ⟨S2x64, .f32⟩
  | 5 => ⟨S2x64, .f32⟩
  | 6 => ⟨S64, .i32⟩
  | 7 => ⟨S64x64, .i32⟩
  | 8 => ⟨S4096, .i32⟩
  | 9 => ⟨S64, .i32⟩
  | 10 => ⟨S1x64, .i32⟩
  | 11 => ⟨S64x64, .i32⟩
  | 12 => ⟨S4096, .i32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S4096x1, .i32⟩
  | 28 => ⟨S4096x1, .f32⟩
  | 29 => ⟨S1x16, .f32⟩
  | 30 => ⟨S4096x16, .f32⟩
  | 31 => ⟨S4096x16, .f32⟩
  | 32 => ⟨S4096x16, .f32⟩
  | 33 => ⟨S4096x1, .i32⟩
  | 34 => ⟨S4096x1, .f32⟩
  | 35 => ⟨S1x16, .f32⟩
  | 36 => ⟨S4096x16, .f32⟩
  | 37 => ⟨S4096x16, .f32⟩
  | 38 => ⟨S4096x16, .f32⟩
  | 39 => ⟨S4096x1x16, .f32⟩
  | 40 => ⟨S4096x1x16, .f32⟩
  | 41 => ⟨S4096x2x16, .f32⟩
  | 42 => ⟨S4096x2x16, .f32⟩
  | 43 => ⟨S4096x2x16, .f32⟩
  | 44 => ⟨S_, .f32⟩
  | 45 => ⟨S8x4096, .f32⟩
  | 46 => ⟨S8x4096x1, .f32⟩
  | 47 => ⟨S_, .f32⟩
  | 48 => ⟨S8x4096x1, .f32⟩
  | 49 => ⟨S8x4096x1, .f32⟩
  | 50 => ⟨S8x4096x1024, .f32⟩
  | 51 => ⟨S8x4096x1024, .f32⟩
  | 52 => ⟨S8x4096x1024, .f32⟩
  | 53 => ⟨S_, .f32⟩
  | 54 => ⟨S8x4096, .f32⟩
  | 55 => ⟨S8x4096x1, .f32⟩
  | 56 => ⟨S_, .f32⟩
  | 57 => ⟨S8x4096x1, .f32⟩
  | 58 => ⟨S8x4096x1, .f32⟩
  | 59 => ⟨S8x4096x1024, .f32⟩
  | 60 => ⟨S8x4096x1024, .f32⟩
  | 61 => ⟨S_, .f32⟩
  | 62 => ⟨S8x4096x1, .f32⟩
  | 63 => ⟨S8x4096x1, .f32⟩
  | 64 => ⟨S8x4096x1, .f32⟩
  | 65 => ⟨S8x4096x1024, .f32⟩
  | 66 => ⟨S8x4096x1024, .f32⟩
  | 67 => ⟨S_, .f32⟩
  | 68 => ⟨S8x1x1024, .f32⟩
  | 69 => ⟨S8x1x1024, .f32⟩
  | 70 => ⟨S8x4096x1024, .f32⟩
  | 71 => ⟨S8x4096x1024, .f32⟩
  | 72 => ⟨S8x4096x1024, .f32⟩
  | 73 => ⟨S8x4096x1024, .f32⟩
  | 74 => ⟨S1x1024x1536, .f32⟩
  | 75 => ⟨S1024x1536, .f32⟩
  | 76 => ⟨S8x4096x1536, .f32⟩
  | 77 => ⟨S8x4096x512, .f32⟩
  | 78 => ⟨S8x4096x256, .f32⟩
  | 79 => ⟨S8x4096x256, .f32⟩
  | 80 => ⟨S8x4096x128, .f32⟩
  | 81 => ⟨S8x4096x2x64, .f32⟩
  | 82 => ⟨S8x4096x128, .f32⟩
  | 83 => ⟨S8x4096x2x64, .f32⟩
  | 84 => ⟨S8x4096x128, .f32⟩
  | 85 => ⟨S8x4096x2x64, .f32⟩
  | 86 => ⟨S8x4096x128, .f32⟩
  | 87 => ⟨S8x4096x2x64, .f32⟩
  | 88 => ⟨S8x4096x8x64, .f32⟩
  | 89 => ⟨S1x64, .f32⟩
  | 90 => ⟨S64, .f32⟩
  | 91 => ⟨S8x4096x8x64, .f32⟩
  | 92 => ⟨S_, .f32⟩
  | 93 => ⟨S8x4096x8, .f32⟩
  | 94 => ⟨S8x4096x8x1, .f32⟩
  | 95 => ⟨S_, .f32⟩
  | 96 => ⟨S8x4096x8x1, .f32⟩
  | 97 => ⟨S8x4096x8x1, .f32⟩
  | 98 => ⟨S_, .f32⟩
  | 99 => ⟨S8x4096x8x1, .f32⟩
  | 100 => ⟨S8x4096x8x1, .f32⟩
  | 101 => ⟨S8x4096x8x1, .f32⟩
  | 102 => ⟨S8x4096x8x64, .f32⟩
  | 103 => ⟨S8x4096x8x64, .f32⟩
  | 104 => ⟨S1x1x1x64, .f32⟩
  | 105 => ⟨S8x4096x8x64, .f32⟩
  | 106 => ⟨S8x4096x8x64, .f32⟩
  | 107 => ⟨S8x4096x8x2x2x16, .f32⟩
  | 108 => ⟨S8x4096x8x2x1x16, .f32⟩
  | 109 => ⟨S8x4096x8x2x16, .f32⟩
  | 110 => ⟨S8x4096x8x2x1x16, .f32⟩
  | 111 => ⟨S8x4096x8x2x16, .f32⟩
  | 112 => ⟨S1x4096x1x2x16, .f32⟩
  | 113 => ⟨S1x4096x1x2x16, .f32⟩
  | 114 => ⟨S8x4096x8x2x16, .f32⟩
  | 115 => ⟨S8x4096x8x2x16, .f32⟩
  | 116 => ⟨S8x4096x8x2x16, .f32⟩
  | 117 => ⟨S8x4096x8x2x16, .f32⟩
  | 118 => ⟨S8x4096x8x2x16, .f32⟩
  | 119 => ⟨S8x4096x8x2x16, .f32⟩
  | 120 => ⟨S8x4096x8x2x16, .f32⟩
  | 121 => ⟨S8x4096x8x2x16, .f32⟩
  | 122 => ⟨S8x4096x8x2x16, .f32⟩
  | 123 => ⟨S8x4096x8x2x16, .f32⟩
  | 124 => ⟨S8x4096x8x2x1x16, .f32⟩
  | 125 => ⟨S8x4096x8x2x1x16, .f32⟩
  | 126 => ⟨S8x4096x8x2x2x16, .f32⟩
  | 127 => ⟨S8x4096x8x64, .f32⟩
  | _ => ⟨S8x4096x1024, .f32⟩

abbrev hbmTy0_1 (i : Nat) : BufTy := match i % 128 with
  | 0 => ⟨S1x64, .f32⟩
  | 1 => ⟨S64, .f32⟩
  | 2 => ⟨S8x4096x2x64, .f32⟩
  | 3 => ⟨S_, .f32⟩
  | 4 => ⟨S8x4096x2, .f32⟩
  | 5 => ⟨S8x4096x2x1, .f32⟩
  | 6 => ⟨S_, .f32⟩
  | 7 => ⟨S8x4096x2x1, .f32⟩
  | 8 => ⟨S8x4096x2x1, .f32⟩
  | 9 => ⟨S_, .f32⟩
  | 10 => ⟨S8x4096x2x1, .f32⟩
  | 11 => ⟨S8x4096x2x1, .f32⟩
  | 12 => ⟨S8x4096x2x1, .f32⟩
  | 13 => ⟨S8x4096x2x64, .f32⟩
  | 14 => ⟨S8x4096x2x64, .f32⟩
  | 15 => ⟨S1x1x1x64, .f32⟩
  | 16 => ⟨S8x4096x2x64, .f32⟩
  | 17 => ⟨S8x4096x2x64, .f32⟩
  | 18 => ⟨S8x4096x2x2x2x16, .f32⟩
  | 19 => ⟨S8x4096x2x2x1x16, .f32⟩
  | 20 => ⟨S8x4096x2x2x16, .f32⟩
  | 21 => ⟨S8x4096x2x2x1x16, .f32⟩
  | 22 => ⟨S8x4096x2x2x16, .f32⟩
  | 23 => ⟨S1x4096x1x2x16, .f32⟩
  | 24 => ⟨S1x4096x1x2x16, .f32⟩
  | 25 => ⟨S8x4096x2x2x16, .f32⟩
  | 26 => ⟨S8x4096x2x2x16, .f32⟩
  | 27 => ⟨S8x4096x2x2x16, .f32⟩
  | 28 => ⟨S8x4096x2x2x16, .f32⟩
  | 29 => ⟨S8x4096x2x2x16, .f32⟩
  | 30 => ⟨S8x4096x2x2x16, .f32⟩
  | 31 => ⟨S8x4096x2x2x16, .f32⟩
  | 32 => ⟨S8x4096x2x2x16, .f32⟩
  | 33 => ⟨S8x4096x2x2x16, .f32⟩
  | 34 => ⟨S8x4096x2x2x16, .f32⟩
  | 35 => ⟨S8x4096x2x2x1x16, .f32⟩
  | 36 => ⟨S8x4096x2x2x1x16, .f32⟩
  | 37 => ⟨S8x4096x2x2x2x16, .f32⟩
  | 38 => ⟨S8x4096x2x64, .f32⟩
  | 39 => ⟨S8x4096x4x64, .f32⟩
  | 40 => ⟨S8x4096x4x2x2x16, .f32⟩
  | 41 => ⟨S8x4096x4x2x1x16, .f32⟩
  | 42 => ⟨S8x4096x4x2x16, .f32⟩
  | 43 => ⟨S8x4096x4x2x1x16, .f32⟩
  | 44 => ⟨S8x4096x4x2x16, .f32⟩
  | 45 => ⟨S1x4096x1x2x16, .f32⟩
  | 46 => ⟨S1x4096x1x2x16, .f32⟩
  | 47 => ⟨S8x4096x4x2x16, .f32⟩
  | 48 => ⟨S8x4096x4x2x16, .f32⟩
  | 49 => ⟨S8x4096x4x2x16, .f32⟩
  | 50 => ⟨S8x4096x4x2x16, .f32⟩
  | 51 => ⟨S8x4096x4x2x16, .f32⟩
  | 52 => ⟨S8x4096x4x2x16, .f32⟩
  | 53 => ⟨S8x4096x4x2x16, .f32⟩
  | 54 => ⟨S8x4096x4x2x16, .f32⟩
  | 55 => ⟨S8x4096x4x2x16, .f32⟩
  | 56 => ⟨S8x4096x4x2x16, .f32⟩
  | 57 => ⟨S8x4096x4x2x1x16, .f32⟩
  | 58 => ⟨S8x4096x4x2x1x16, .f32⟩
  | 59 => ⟨S8x4096x4x2x2x16, .f32⟩
  | 60 => ⟨S8x4096x4x64, .f32⟩
  | 61 => ⟨S8x4096x2x2x2x16, .f32⟩
  | 62 => ⟨S8x4096x2x2x1x16, .f32⟩
  | 63 => ⟨S8x4096x2x2x16, .f32⟩
  | 64 => ⟨S8x4096x2x2x1x16, .f32⟩
  | 65 => ⟨S8x4096x2x2x16, .f32⟩
  | 66 => ⟨S1x4096x1x2x16, .f32⟩
  | 67 => ⟨S1x4096x1x2x16, .f32⟩
  | 68 => ⟨S8x4096x2x2x16, .f32⟩
  | 69 => ⟨S8x4096x2x2x16, .f32⟩
  | 70 => ⟨S8x4096x2x2x16, .f32⟩
  | 71 => ⟨S8x4096x2x2x16, .f32⟩
  | 72 => ⟨S8x4096x2x2x16, .f32⟩
  | 73 => ⟨S8x4096x2x2x16, .f32⟩
  | 74 => ⟨S8x4096x2x2x16, .f32⟩
  | 75 => ⟨S8x4096x2x2x16, .f32⟩
  | 76 => ⟨S8x4096x2x2x16, .f32⟩
  | 77 => ⟨S8x4096x2x2x16, .f32⟩
  | 78 => ⟨S8x4096x2x2x1x16, .f32⟩
  | 79 => ⟨S8x4096x2x2x1x16, .f32⟩
  | 80 => ⟨S8x4096x2x2x2x16, .f32⟩
  | 81 => ⟨S8x4096x2x64, .f32⟩
  | 82 => ⟨S_, .f32⟩
  | 83 => ⟨S_, .f32⟩
  | 84 => ⟨S_, .f32⟩
  | 85 => ⟨S_, .f32⟩
  | 86 => ⟨S8x4096x8x64, .f32⟩
  | 87 => ⟨S8x4096x8x64, .f32⟩
  | 88 => ⟨S8x4096x512, .f32⟩
  | 89 => ⟨S8x4096x512, .bf16⟩
  | 90 => ⟨S8x4096x4x64, .f32⟩
  | 91 => ⟨S8x4096x4x64, .f32⟩
  | 92 => ⟨S8x4096x256, .f32⟩
  | 93 => ⟨S8x4096x256, .bf16⟩
  | 94 => ⟨S8x4096x2x4x64, .f32⟩
  | 95 => ⟨S8x4096x8x64, .f32⟩
  | 96 => ⟨S8x4096x512, .f32⟩
  | 97 => ⟨S8x4096x512, .bf16⟩
  | 98 => ⟨S8x4096x2x4x64, .f32⟩
  | 99 => ⟨S8x4096x8x64, .f32⟩
  | 100 => ⟨S8x4096x512, .f32⟩
  | 101 => ⟨S8x4096x512, .bf16⟩
  | 102 => ⟨S8x4096x2x2x64, .f32⟩
  | 103 => ⟨S8x4096x4x64, .f32⟩
  | 104 => ⟨S8x4096x256, .f32⟩
  | 105 => ⟨S8x4096x256, .bf16⟩
  | 106 => ⟨S8x4096x2x2x64, .f32⟩
  | 107 => ⟨S8x4096x4x64, .f32⟩
  | 108 => ⟨S8x4096x256, .f32⟩
  | 109 => ⟨S8x4096x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_9 : Ref sig .tc := ⟨.hbm, 92, rfl⟩
abbrev main_v76 : Ref sig .tc := ⟨.hbm, 93, rfl⟩
abbrev main_v77 : Ref sig .tc := ⟨.hbm, 94, rfl⟩
abbrev main_cst_10 : Ref sig .tc := ⟨.hbm, 95, rfl⟩
abbrev main_v78 : Ref sig .tc := ⟨.hbm, 96, rfl⟩
abbrev main_v79 : Ref sig .tc := ⟨.hbm, 97, rfl⟩
abbrev main_cst_11 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_12 : Ref sig .tc := ⟨.hbm, 131, rfl⟩
abbrev main_v112 : Ref sig .tc := ⟨.hbm, 132, rfl⟩
abbrev main_v113 : Ref sig .tc := ⟨.hbm, 133, rfl⟩
abbrev main_cst_13 : Ref sig .tc := ⟨.hbm, 134, rfl⟩
abbrev main_v114 : Ref sig .tc := ⟨.hbm, 135, rfl⟩
abbrev main_v115 : Ref sig .tc := ⟨.hbm, 136, rfl⟩
abbrev main_cst_14 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_cst_15 : Ref sig .tc := ⟨.hbm, 210, rfl⟩
abbrev main_v188 : Ref sig .tc := ⟨.hbm, 211, rfl⟩
abbrev main_cst_16 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩

abbrev nD : Nat := 1
abbrev τ : Topo := Topo.v7x

variable {F : FTy → Type} [FloatOps F]
-- ==== Proof.AttnBody.lean ====
/-
  The body of the attention call: its triple, on whole staging buffers. The body writes the one word of its scratch
  buffer at the first query block of a head and reads it back at every query block to choose between two sweeps over
  the keys. What the word holds is not tracked: the triple says that the block written is one of the two sweeps'.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer's bytes are some contents of it. -/
theorem owns_of_points {c : Dev nD} {sp : Space} {sh : Shape} {e : EltTy} (M : Memref sig .tc sp sh e) (f : Buf (Elt F) (M.view.loc (c : Thread nD τ))) :
    (iprop(M.view.loc (c : Thread nD τ) ↦[M.view.set]{fullShare} f) : sProp 𝕄) ⊢ iprop(∃ d, owns (c : Thread nD τ) M fullShare d) := by
  iintro H
  iexists (M.view.read (Elt F) f)
  unfold owns
  iexists f
  isplitr; · ipureintro; rfl
  iexact H

set_option maxHeartbeats 4000000 in
/-- The body run from whole buffers at a head's first query block, where the scratch word is written: the inputs' keep their contents, the output's holds the pieces of one of the two
    sweeps (the first: without a running maximum; the second: with one), the scratch word holds something. -/
noncomputable def runFirst (c : Dev nD) (i : grid0.Coords) (hc0 : k0_cond1 i = 1#1) (arg3 : Memref sig .tc .vmem S1x512x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x512x256 .bf16) (harg9 : arg9.IsWhole) (arg10 : Memref sig .tc .smem S1 .i32) (harg10 : arg10.IsWhole)
    (x0 : Vec F S1x512x256 .bf16) (x1 : Vec F S1x4096x256 .bf16) (x2 x3 : Vec F S1x256x256 .bf16) (x4 x5 : Vec F S1x4096x256 .bf16) :
    { L : List (View.Piece (Elt F) S1x512x256 .bf16) × List (View.Piece (Elt F) S1x512x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg10 fullShare d) ∗ ((∃ f, arg9.view.loc (c : Thread nD τ) ↦[arg9.view.set]{fullShare} arg9.view.writes (Elt F) f L.1) ∨ (∃ f, arg9.view.loc (c : Thread nD τ) ↦[arg9.view.set]{fullShare} arg9.view.writes (Elt F) f L.2))) -∗ K ⟨⟩))
          ⊢ wp frame (wpE (defs₀ (F := F)) Variants.none c none) E (cc0_attention_full_g4 i arg3 harg3 arg4 harg4 arg5 harg5 arg6 harg6 arg7 harg7 arg8 harg8 arg9 harg9 arg10 harg10) K } := by
  refine ⟨(?_, ?_), fun E K => ?run⟩
  case run =>
    simp only [cc0_attention_full_g4_eq_skeleton]; unfold cc0_attention_full_g4_skel
    simp only [k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    split
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H7]
    · iapply (owns_of_points arg10 _); iexact H7
    ileft
    any_goals (iexists _; iexact H6)
    case isFalse =>
      sl_exec
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H7]
      · iapply (owns_of_points arg10 _); iexact H7
      iright
      any_goals (iexists _; iexact H6)

set_option maxHeartbeats 4000000 in
/-- The body run from whole buffers at a head's later query blocks, where the scratch word is read as it was left: the inputs' keep their contents, the output's holds the pieces of one of the two
    sweeps (the first: without a running maximum; the second: with one), the scratch word holds something. -/
noncomputable def runLater (c : Dev nD) (i : grid0.Coords) (hc0 : ¬ k0_cond1 i = 1#1) (arg3 : Memref sig .tc .vmem S1x512x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x512x256 .bf16) (harg9 : arg9.IsWhole) (arg10 : Memref sig .tc .smem S1 .i32) (harg10 : arg10.IsWhole)
    (x0 : Vec F S1x512x256 .bf16) (x1 : Vec F S1x4096x256 .bf16) (x2 x3 : Vec F S1x256x256 .bf16) (x4 x5 : Vec F S1x4096x256 .bf16) :
    { L : List (View.Piece (Elt F) S1x512x256 .bf16) × List (View.Piece (Elt F) S1x512x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg10 fullShare d) ∗ ((∃ f, arg9.view.loc (c : Thread nD τ) ↦[arg9.view.set]{fullShare} arg9.view.writes (Elt F) f L.1) ∨ (∃ f, arg9.view.loc (c : Thread nD τ) ↦[arg9.view.set]{fullShare} arg9.view.writes (Elt F) f L.2))) -∗ K ⟨⟩))
          ⊢ wp frame (wpE (defs₀ (F := F)) Variants.none c none) E (cc0_attention_full_g4 i arg3 harg3 arg4 harg4 arg5 harg5 arg6 harg6 arg7 harg7 arg8 harg8 arg9 harg9 arg10 harg10) K } := by
  refine ⟨(?_, ?_), fun E K => ?run⟩
  case run =>
    simp only [cc0_attention_full_g4_eq_skeleton]; unfold cc0_attention_full_g4_skel
    simp only [k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    split
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H7]
    · iapply (owns_of_points arg10 _); iexact H7
    ileft
    any_goals (iexists _; iexact H6)
    case isFalse =>
      sl_exec
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H7]
      · iapply (owns_of_points arg10 _); iexact H7
      iright
      any_goals (iexists _; iexact H6)

end Cert.KernelIdeal.Attn

end
-- ==== Proof.AttnFrame.lean ====
/-
  The attention call's launch: the pipeline's data, the body obligation, the run. The data are exact but for the output
  block, which is held to a relation: after the body at a point it is the block of one of the two sweeps (`swept`).
  The two query windows stage the same array, so each holds its part of it (`Pipeline.shareOf`).
-/
module

public import proofs.«01_k».proof.Proof.AttnBody
public import Idealize.ShloMosaic.Lib.Pipeline.FrameBody
public import Idealize.ShloMosaic.Lib.Pipeline.DatRel
public import Idealize.ShloMosaic.Lib.Claim
public import Idealize.ShloMosaic.Lib.Ring

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output, through which its contents are stated. -/
abbrev outView : View sig .tc .vmem S1x512x256 .bf16 := (Memref.whole cc0_stg6_0 : Memref sig .tc .vmem S1x512x256 .bf16).view

/-- The pieces that the body's run at point `t` may leave in the output's buffer: the first or the second sweep's. -/
def sweptPieces (c : Dev nD) (t : Fin cfg0.N) (b : Bool) : List (View.Piece (Elt F) S1x512x256 .bf16) :=
  if h : k0_cond1 (grid0.coords t) = 1#1 then
    cond b (runFirst c (grid0.coords t) h (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _)
      (iblk m c 0 t) (iblk m c 1 t) (iblk m c 2 t) (iblk m c 3 t) (iblk m c 4 t) (iblk m c 5 t)).1.1
      (runFirst c (grid0.coords t) h (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _)
      (iblk m c 0 t) (iblk m c 1 t) (iblk m c 2 t) (iblk m c 3 t) (iblk m c 4 t) (iblk m c 5 t)).1.2
  else
    cond b (runLater c (grid0.coords t) h (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _)
      (iblk m c 0 t) (iblk m c 1 t) (iblk m c 2 t) (iblk m c 3 t) (iblk m c 4 t) (iblk m c 5 t)).1.1
      (runLater c (grid0.coords t) h (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _)
      (iblk m c 0 t) (iblk m c 1 t) (iblk m c 2 t) (iblk m c 3 t) (iblk m c 4 t) (iblk m c 5 t)).1.2

/-- Either way they are one store of the whole block. -/
theorem sweptPieces_cover (c : Dev nD) (t : Fin cfg0.N) (b : Bool) (y : S1x512x256.Idx) : ∃ pc ∈ sweptPieces m c t b, y ∈ pc.1.set := by
  unfold sweptPieces
  split <;> cases b <;> exact View.cover_of_tiledL _ S1x512x256.size (by sl_kernel_rfl) y

/-- The block one of the two sweeps writes at point `t`. -/
def swept (c : Dev nD) (t : Fin cfg0.N) (b : Bool) : Vec F S1x512x256 .bf16 :=
  outView.read (Elt F) (outView.writes (Elt F) outView.junk (sweptPieces m c t b))

/-- The proof data: the arrays as the region finds them; each input's buffer at its block after the body; the invariant the
    scoped rest and the generator register; nothing owed; each input window its share of its array. What the output's
    buffer holds is not read off these data (`marked`). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => swept m c t true
  Φ _ := Pipeline.ΦA spec0 c
  q := Pipeline.shareOf spec0
  owed _ := 0

/-- The window whose contents are held to a relation: the output. -/
def marked : Fin cfg0.W → Bool
  | ⟨6, _⟩ => true
  | _ => false

/-- The relation: at point `t` the output's block is one of the two sweeps'. -/
def related (c : Dev nD) : (w : Fin cfg0.W) → Fin cfg0.N → ((cfg0.win w).block.Idx → Elt F (cfg0.win w).elt) → Prop
  | ⟨6, _⟩, t, X => ∃ b, X = swept m c t b
  | _, _, _ => True

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The scoped rest is the scratch word's buffer. -/
theorem ΦA_eq (c : Dev nD) : (Pipeline.ΦA (Val := Elt F) (U := UR sig nD τ) spec0 c : sProp 𝕄)
    = iprop((∃ d, owns (c : Thread nD τ) (Memref.whole cc0_scratch0 : Memref sig .tc .smem S1 .i32) fullShare d) ∗ ∃ r, prngReg c r) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜((dats m 0 c).toRRel marked (related m c)).Finds 6 t Y⌝ ∗ owns (c : Thread nD τ) (st0_6 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜related m c 6 t X⌝ ∗ owns (c : Thread nD τ) (st0_6 t) fullShare X))

/-- A buffer written by the pieces of a sweep holds the sweep's block. -/
theorem owns_swept (c : Dev nD) (t : Fin cfg0.N) (b : Bool) (M : Memref sig .tc .vmem S1x512x256 .bf16) (L : List (View.Piece (Elt F) S1x512x256 .bf16)) (hL : L = sweptPieces m c t b) :
    (iprop(∃ f, M.view.loc (c : Thread nD τ) ↦[M.view.set]{fullShare} M.view.writes (Elt F) f L) : sProp 𝕄)
      ⊢ iprop(∃ X, ⌜related m c 6 t X⌝ ∗ owns (c : Thread nD τ) M fullShare X) := by
  subst hL
  iintro ⟨%f, H⟩
  iexists (swept m c t b)
  isplitr
  · ipureintro; exact ⟨b, rfl⟩
  unfold owns; iexists _; isplitr
  swap; · iexact H
  ipureintro; exact View.read_writes_of_cover _ _ _ _ _ (sweptPieces_cover m c t b)

set_option maxHeartbeats 1600000 in
/-- The body at any point, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, ΦA_eq]
  by_cases h : k0_cond1 (grid0.coords t) = 1#1
  · iintro ⟨⟨HS, Hg⟩, Ho, ⟨%d0, H0⟩, ⟨%d1, H1⟩, ⟨%d2, H2⟩, ⟨%d3, H3⟩, ⟨%d4, H4⟩, ⟨%d5, H5⟩, ⟨%d6, -, H6⟩⟩
    iapply ((runFirst c (grid0.coords t) h _ _ _ _ _ _ _ _ _ _ _ _ _ _ _ _ (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, HS, H6⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    icases H6 with (H6 | H6)
    · iapply (owns_swept m c t true _ _ (by unfold sweptPieces; rw [dif_pos h])); iexact H6
    · iapply (owns_swept m c t false _ _ (by unfold sweptPieces; rw [dif_pos h])); iexact H6
  · iintro ⟨⟨HS, Hg⟩, Ho, ⟨%d0, H0⟩, ⟨%d1, H1⟩, ⟨%d2, H2⟩, ⟨%d3, H3⟩, ⟨%d4, H4⟩, ⟨%d5, H5⟩, ⟨%d6, -, H6⟩⟩
    iapply ((runLater c (grid0.coords t) h _ _ _ _ _ _ _ _ _ _ _ _ _ _ _ _ (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, HS, H6⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    icases H6 with (H6 | H6)
    · iapply (owns_swept m c t true _ _ (by unfold sweptPieces; rw [dif_neg h])); iexact H6
    · iapply (owns_swept m c t false _ _ (by unfold sweptPieces; rw [dif_neg h])); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, the output's block held to `related`. -/
theorem body_obligation (c : Dev nD) : BodyObligationRel (dats (F := F) m 0 c) (defs₀ (F := F)) Variants.none () Set.univ marked (related m c) := fun t => by
  rw [bigSep_W0, bigSep_W0, defs₀_row]
  exact triple_restated (sound_body m c t) rfl .rfl fun _ => .rfl

/-- The data read relationally. -/
abbrev rdat (c : Dev nD) : RDat τ (Elt F) Unit ℕ (UR sig nD τ) ℕ cfg0 c := (dats m 0 c).toRRel marked (related m c)

set_option backward.isDefEq.respectTransparency.types false in
/-- The launch: every weakly fair execution terminates, each array holds contents the data allow after every write-back,
    every other unscoped buffer is as the region found it, and every semaphore counter is at zero. -/
theorem run_main : θ_run defs (onTc (τ := τ) (main (F := F))) (s₀ m ρ) (fun r => RDat.FramePost cfg0 (rdat m) (V m) r ∧ r.2.sem = fun _ => 0) :=
  RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := fun _ => .rfl) (hout := fun _ => .rfl)

/-- The frame: the argument arrays end unchanged, every semaphore counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelIdeal.Attn

end
-- ==== Proof.Frames.lean ====
/-
  The frames: every program runs, its arguments end unchanged and every semaphore counter at zero. The attention kernel's two
  programs are one text, so one run serves both; the feed-forward, norm and projection
  kernels' are the generated ones; the
  references declare no semaphore.
-/
module

public import proofs.«01_k».proof.Defs
public import proofs.«01_k».proof.Proof.AttnFrame
public import proofs.«01_k».proof.Proof.Gen.Kernel
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import Idealize.ShloMosaic.Adequacy
public import Idealize.ShloMosaic.Init

@[expose] public section

noncomputable section

namespace Cert.Proof

open Idealize.ShloMosaic Idealize.SL.Sem

/-- The frame of the attention program over the machine's floats, said of the text printed for the extended reals. -/
def frameText : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The two attention programs are one text. -/
theorem frameText_eq : (Cert.quiescent_Kernel (hKernel := Cert.Kernel.Gen.facts)) = frameText := by sl_kernel_rfl

/-- The attention kernel as it is compiled: the run of `Cert.KernelIdeal.Attn` at the machine's floats. -/
theorem frame_attention : Cert.quiescent_Kernel (hKernel := Cert.Kernel.Gen.facts) :=
  frameText_eq.mpr fun m ρ _ => Cert.KernelIdeal.Attn.frame_run (F := Bits) m ρ

/-- The attention kernel over the extended reals. -/
theorem frame_attention_ideal : Cert.quiescent_KernelIdeal (hKernelIdeal := Cert.KernelIdeal.Gen.facts) := fun m ρ _ =>
  Cert.KernelIdeal.Attn.frame_run (F := Ideal) m ρ

/-- The attention reference over the extended reals. -/
theorem frame_attention_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The expert feed-forward kernel as it is compiled. -/
theorem frame_ffn : Cert.quiescent_Kernel2 (hKernel2 := Cert.Kernel2.Gen.facts) := fun m ρ _ => Cert.Kernel2.Gen.frame m ρ

/-- The expert feed-forward kernel over the extended reals. -/
theorem frame_ffn_ideal : Cert.quiescent_Kernel2Ideal (hKernel2Ideal := Cert.Kernel2Ideal.Gen.facts) := fun m ρ _ => Cert.Kernel2Ideal.Gen.frame m ρ

/-- The expert feed-forward reference over the extended reals. -/
theorem frame_ffn_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The norm kernel as it is compiled. -/
theorem frame_norm : Cert.quiescent_Kernel3 (hKernel3 := Cert.Kernel3.Gen.facts) := fun m ρ _ => Cert.Kernel3.Gen.frame m ρ

/-- The norm kernel over the extended reals. -/
theorem frame_norm_ideal : Cert.quiescent_Kernel3Ideal (hKernel3Ideal := Cert.Kernel3Ideal.Gen.facts) := fun m ρ _ => Cert.Kernel3Ideal.Gen.frame m ρ

/-- The norm reference over the extended reals. -/
theorem frame_norm_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The input projection as it is compiled. -/
theorem frame_projection : Cert.quiescent_Kernel4 (hKernel4 := Cert.Kernel4.Gen.facts) := fun m ρ _ => Cert.Kernel4.Gen.frame m ρ

/-- The input projection over the extended reals. -/
theorem frame_projection_ideal : Cert.quiescent_Kernel4Ideal (hKernel4Ideal := Cert.Kernel4Ideal.Gen.facts) := fun m ρ _ => Cert.Kernel4Ideal.Gen.frame m ρ

/-- The input projection's reference over the extended reals. -/
theorem frame_projection_reference : Cert.quiescent_Reference4Ideal (hReference4Ideal := Cert.Reference4Ideal.Gen.facts) := fun m ρ _ =>
  (θ_run Cert.Reference4Ideal.defs _ _).mono (fun r h => ⟨fun c => (h c).2.2.2.2.2.2.2, sem_eq_zero_of_no_sems (by decide) r.2⟩)
    (Cert.Reference4Ideal.Value.run (F := Ideal) m ρ)

end Cert.Proof

end
-- ==== Proof.AttnSweep.lean ====
/-
  The two sweeps of the attention body over one block of queries, written as steps over the chunks of the keys and values: the first
  takes the exponentials as they are, the second against a running maximum. Each block the body writes is one of them.
-/
module

public import proofs.«01_k».proof.Proof.AttnFrame

@[expose] public section

set_option maxRecDepth 16384

noncomputable section

namespace Cert.KernelIdeal.Attn

open Cert.KernelIdeal Cert.KernelIdeal.Gen
open Idealize.ShloMosaic Idealize.ShloMosaic.TcCoe Idealize.SL.Sem

variable {F : FTy → Type} [FloatOps F]

/-- The lane's number, -/
def laneVec : IVec S1x256 32 := iota .tc S1x256 32 [1] iota_S1x256_d1_w32
/-- and the head it belongs to: the floor of its number by 64. -/
def headVec : IVec S1x256 32 :=
  select (andi (cmpi .ne (subi (extui 32 (cmpi .sgt laneVec (broadcast S1x256 0#32)) natLt_1_32) (extui 32 (cmpi .slt laneVec (broadcast S1x256 0#32)) natLt_1_32)) (broadcast S1x256 1#32))
      (cmpi .ne (remsi laneVec (broadcast S1x256 64#32)) (broadcast S1x256 0#32)))
    (subi (divsi laneVec (broadcast S1x256 64#32)) (broadcast S1x256 1#32)) (divsi laneVec (broadcast S1x256 64#32))
/-- The lanes of head `g`. -/
def lanesOf (g : BitVec 32) : IVec S1x256 1 := cmpi .eq headVec (broadcast S1x256 g)

/-- The queries stacked head by head, each head's other lanes zero. -/
def stacked (q : FVec F S512x256 .bf16) : FVec F S2048x256 .bf16 := k0_pay2 q (lanesOf 0#32) (lanesOf 1#32) (lanesOf 2#32) (lanesOf 3#32)

/-- A column of the stack, each head's part on the head's lanes. -/
def onLanes (a : FVec F S2048x1 .f32) : FVec F S512x256 .f32 :=
  select (broadcastTo S512x256 (shapeCast S1x256 (lanesOf 3#32) shapeCasts_S1x256_S1x256) broadcasts_S1x256_S512x256)
    (broadcastTo S512x256 (shapeCast S512x1 (extractStridedSlice S512x1 ![1536, 0] a slices_S2048x1_o1536_0_S512x1) shapeCasts_S512x1_S512x1) broadcasts_S512x1_S512x256)
    (select (broadcastTo S512x256 (shapeCast S1x256 (lanesOf 2#32) shapeCasts_S1x256_S1x256) broadcasts_S1x256_S512x256)
      (broadcastTo S512x256 (shapeCast S512x1 (extractStridedSlice S512x1 ![1024, 0] a slices_S2048x1_o1024_0_S512x1) shapeCasts_S512x1_S512x1) broadcasts_S512x1_S512x256)
      (select (broadcastTo S512x256 (shapeCast S1x256 (lanesOf 1#32) shapeCasts_S1x256_S1x256) broadcasts_S1x256_S512x256)
        (broadcastTo S512x256 (shapeCast S512x1 (extractStridedSlice S512x1 ![512, 0] a slices_S2048x1_o512_0_S512x1) shapeCasts_S512x1_S512x1) broadcasts_S512x1_S512x256)
        (broadcastTo S512x256 (shapeCast S512x1 (extractStridedSlice S512x1 ![0, 0] a slices_S2048x1_o0_0_S512x1) shapeCasts_S512x1_S512x1) broadcasts_S512x1_S512x256)))

/-- What a stack adds to the block: each head's part on the head's lanes. -/
def addLanes (acc : FVec F S512x256 .f32) (pv : FVec F S2048x256 .f32) : FVec F S512x256 .f32 :=
  addf (addf (addf (addf acc
    (select (broadcastTo S512x256 (shapeCast S1x256 (lanesOf 0#32) shapeCasts_S1x256_S1x256) broadcasts_S1x256_S512x256) (extractStridedSlice S512x256 ![0, 0] pv slices_S2048x256_o0_0_S512x256) (broadcast S512x256 (Scalar.ofBits .f32 0x00000000#32))))
    (select (broadcastTo S512x256 (shapeCast S1x256 (lanesOf 1#32) shapeCasts_S1x256_S1x256) broadcasts_S1x256_S512x256) (extractStridedSlice S512x256 ![512, 0] pv slices_S2048x256_o512_0_S512x256) (broadcast S512x256 (Scalar.ofBits .f32 0x00000000#32))))
    (select (broadcastTo S512x256 (shapeCast S1x256 (lanesOf 2#32) shapeCasts_S1x256_S1x256) broadcasts_S1x256_S512x256) (extractStridedSlice S512x256 ![1024, 0] pv slices_S2048x256_o1024_0_S512x256) (broadcast S512x256 (Scalar.ofBits .f32 0x00000000#32))))
    (select (broadcastTo S512x256 (shapeCast S1x256 (lanesOf 3#32) shapeCasts_S1x256_S1x256) broadcasts_S1x256_S512x256) (extractStridedSlice S512x256 ![1536, 0] pv slices_S2048x256_o1536_0_S512x256) (broadcast S512x256 (Scalar.ofBits .f32 0x00000000#32)))

/-! ## One chunk: its scores, its weights' sums, its weighted values -/

def scoresC (qs : FVec F S2048x256 .bf16) (k : Vec F S1x256x256 .bf16) : FVec F S2048x256 .f32 :=
  matmul dot_S2048x256_S256x256_S2048x256_1_1_0_0_n_n none qs (shapeCast S256x256 k shapeCasts_S1x256x256_S256x256) (constant S2048x256 .f32 0x00000000#32)
def scoresL (qs : FVec F S2048x256 .bf16) (k : Vec F S1x1024x256 .bf16) : FVec F S2048x1024 .f32 :=
  matmul dot_S2048x256_S1024x256_S2048x1024_1_1_0_0_n_n none qs (shapeCast S1024x256 k shapeCasts_S1x1024x256_S1024x256) (constant S2048x1024 .f32 0x00000000#32)
def rowSumC (p : FVec F S2048x256 .f32) : FVec F S2048x1 .f32 :=
  shapeCast S2048x1 (multiReduction .add [1] S2048 p 0x00000000#32 reduces_S2048x256_S2048 (.inl rfl) rfl) shapeCasts_S2048_S2048x1
def rowSumL (p : FVec F S2048x1024 .f32) : FVec F S2048x1 .f32 :=
  shapeCast S2048x1 (multiReduction .add [1] S2048 p 0x00000000#32 reduces_S2048x1024_S2048 (.inl rfl) rfl) shapeCasts_S2048_S2048x1
def rowMaxC (s : FVec F S2048x256 .f32) : FVec F S2048x1 .f32 :=
  shapeCast S2048x1 (multiReduction .maximumf [1] S2048 s 0xFF800000#32 reduces_S2048x256_S2048 (.inl rfl) rfl) shapeCasts_S2048_S2048x1
def rowMaxL (s : FVec F S2048x1024 .f32) : FVec F S2048x1 .f32 :=
  shapeCast S2048x1 (multiReduction .maximumf [1] S2048 s 0xFF800000#32 reduces_S2048x1024_S2048 (.inl rfl) rfl) shapeCasts_S2048_S2048x1
def weighC (p : FVec F S2048x256 .f32) (v : Vec F S1x256x256 .bf16) : FVec F S2048x256 .f32 :=
  matmul dot_S2048x256_S256x256_S2048x256_1_0_0_1_n_n none (truncf .bf16 p bitsLt_bf16_f32) (shapeCast S256x256 v shapeCasts_S1x256x256_S256x256) (constant S2048x256 .f32 0x00000000#32)
def weighL (p : FVec F S2048x1024 .f32) (v : Vec F S1x1024x256 .bf16) : FVec F S2048x256 .f32 :=
  matmul dot_S2048x1024_S1024x256_S2048x256_1_0_0_1_n_n none (truncf .bf16 p bitsLt_bf16_f32) (shapeCast S1024x256 v shapeCasts_S1x1024x256_S1024x256) (constant S2048x256 .f32 0x00000000#32)

/-! ## The steps and the sweeps. A state is the running maximum (second sweep only), the weights' sums, the block. -/

abbrev Plain (F : FTy → Type) := FVec F S2048x1 .f32 × FVec F S512x256 .f32
abbrev Guarded (F : FTy → Type) := FVec F S2048x1 .f32 × FVec F S2048x1 .f32 × FVec F S512x256 .f32

def plainC (qs : FVec F S2048x256 .bf16) (s : Plain F) (k v : Vec F S1x256x256 .bf16) : Plain F :=
  (addf s.1 (rowSumC (exp2 (scoresC qs k))), addLanes s.2 (weighC (exp2 (scoresC qs k)) v))
def plainL (qs : FVec F S2048x256 .bf16) (s : Plain F) (k v : Vec F S1x1024x256 .bf16) : Plain F :=
  (addf s.1 (rowSumL (exp2 (scoresL qs k))), addLanes s.2 (weighL (exp2 (scoresL qs k)) v))

def guardC (m' : FVec F S2048x1 .f32) (sc : FVec F S2048x256 .f32) (s : Guarded F) (v : Vec F S1x256x256 .bf16) : Guarded F :=
  (m', addf (mulf (exp2 (subf s.1 m')) s.2.1) (rowSumC (exp2 (subf sc (broadcastTo S2048x256 m' broadcasts_S2048x1_S2048x256)))),
    addLanes (mulf s.2.2 (onLanes (exp2 (subf s.1 m')))) (weighC (exp2 (subf sc (broadcastTo S2048x256 m' broadcasts_S2048x1_S2048x256))) v))
def guardL (m' : FVec F S2048x1 .f32) (sc : FVec F S2048x1024 .f32) (s : Guarded F) (v : Vec F S1x1024x256 .bf16) : Guarded F :=
  (m', addf (mulf (exp2 (subf s.1 m')) s.2.1) (rowSumL (exp2 (subf sc (broadcastTo S2048x1024 m' broadcasts_S2048x1_S2048x1024)))),
    addLanes (mulf s.2.2 (onLanes (exp2 (subf s.1 m')))) (weighL (exp2 (subf sc (broadcastTo S2048x1024 m' broadcasts_S2048x1_S2048x1024))) v))
def guardedC (qs : FVec F S2048x256 .bf16) (s : Guarded F) (k v : Vec F S1x256x256 .bf16) : Guarded F :=
  guardC (maximumf s.1 (rowMaxC (scoresC qs k))) (scoresC qs k) s v
def guardedL (qs : FVec F S2048x256 .bf16) (s : Guarded F) (k v : Vec F S1x1024x256 .bf16) : Guarded F :=
  guardL (maximumf s.1 (rowMaxL (scoresL qs k))) (scoresL qs k) s v

/-- The block over the weights' sums. -/
def finish (l : FVec F S2048x1 .f32) (acc : FVec F S512x256 .f32) : FVec F S512x256 .f32 :=
  mulf acc (onLanes (divf (broadcast S2048x1 (Scalar.ofBits .f32 0x3F800000#32)) l))

def plainStart : Plain F := (broadcast S2048x1 (Scalar.ofBits .f32 0x00000000#32), broadcast S512x256 (Scalar.ofBits .f32 0x00000000#32))
def guardedStart : Guarded F := (broadcast S2048x1 (Scalar.ofBits .f32 0xF149F2CA#32), broadcast S2048x1 (Scalar.ofBits .f32 0x00000000#32), broadcast S512x256 (Scalar.ofBits .f32 0x00000000#32))

def plainEnd (qs : FVec F S2048x256 .bf16) (kc vc : Vec F S1x256x256 .bf16) (k1 v1 k2 v2 k3 v3 k4 v4 : Vec F S1x1024x256 .bf16) : Plain F :=
  plainL qs (plainL qs (plainL qs (plainL qs (plainC qs plainStart kc vc) k1 v1) k2 v2) k3 v3) k4 v4
def guardedEnd (qs : FVec F S2048x256 .bf16) (kc vc : Vec F S1x256x256 .bf16) (k1 v1 k2 v2 k3 v3 k4 v4 : Vec F S1x1024x256 .bf16) : Guarded F :=
  guardedL qs (guardedL qs (guardedL qs (guardedL qs (guardedC qs guardedStart kc vc) k1 v1) k2 v2) k3 v3) k4 v4

def plainSweep (q : FVec F S512x256 .bf16) (kc vc : Vec F S1x256x256 .bf16) (k1 v1 k2 v2 k3 v3 k4 v4 : Vec F S1x1024x256 .bf16) : FVec F S512x256 .f32 :=
  finish (plainEnd (stacked q) kc vc k1 v1 k2 v2 k3 v3 k4 v4).1 (plainEnd (stacked q) kc vc k1 v1 k2 v2 k3 v3 k4 v4).2
def guardedSweep (q : FVec F S512x256 .bf16) (kc vc : Vec F S1x256x256 .bf16) (k1 v1 k2 v2 k3 v3 k4 v4 : Vec F S1x1024x256 .bf16) : FVec F S512x256 .f32 :=
  finish (guardedEnd (stacked q) kc vc k1 v1 k2 v2 k3 v3 k4 v4).2.1 (guardedEnd (stacked q) kc vc k1 v1 k2 v2 k3 v3 k4 v4).2.2

/-- Chunk `c` of the latent keys or values of a block. -/
abbrev chunkAt (x : Vec F S1x4096x256 .bf16) (o : ℕ) (h : ∀ a, (![0, o, 0] : Fin 3 → Nat) a + S1x1024x256.size a ≤ S1x4096x256.size a) : Vec F S1x1024x256 .bf16 :=
  View.ld x (Rect.unit (s := S1x4096x256) ![0, o, 0] S1x1024x256.size h)

end Cert.KernelIdeal.Attn

end
-- ==== Proof.AttnSteps.lean ====
/-
  The operations of the sweeps, read at an index over the extended reals.
-/
module

public import proofs.«01_k».proof.Proof.AttnSweep
public import Idealize.ShloMosaic.Lib.Pointwise
public import Idealize.ShloMosaic.Lib.WordArith

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem

/-- The head of a lane, -/
def headOf (d : Fin 256) : Fin 4 := ⟨d.val / 64, by omega⟩
/-- and the row of the stack that holds a head's row. -/
def rowOf (g : Fin 4) (r : Fin 512) : Fin 2048 := ⟨512 * g.val + r.val, by omega⟩

theorem lanesOf_at : ∀ (d : Fin 256) (g : Fin 4), lanesOf (BitVec.ofNat 32 g.val) (ix2 0 d) = BitVec.ofBool (decide (headOf d = g)) := by
  decide +kernel

theorem lanes0 (d : Fin 256) : lanesOf 0#32 (ix2 0 d) = BitVec.ofBool (decide (headOf d = 0)) := lanesOf_at d 0
theorem lanes1 (d : Fin 256) : lanesOf 1#32 (ix2 0 d) = BitVec.ofBool (decide (headOf d = 1)) := lanesOf_at d 1
theorem lanes2 (d : Fin 256) : lanesOf 2#32 (ix2 0 d) = BitVec.ofBool (decide (headOf d = 2)) := lanesOf_at d 2
theorem lanes3 (d : Fin 256) : lanesOf 3#32 (ix2 0 d) = BitVec.ofBool (decide (headOf d = 3)) := lanesOf_at d 3

/-- A choice by a proposition's bit. -/
theorem select_ofBool {α : Type} (p : Prop) [Decidable p] (x y : α) : Scalar.select (BitVec.ofBool (decide p)) x y = if p then x else y := by
  by_cases h : p <;> simp [h, Scalar.select]

/-- The part of a stack of four that a row falls in. -/
theorem pick (f : Fin 512 → EReal) (h g : Fin 4) (r : Fin 512) (n : ℕ) (hn : n = 512 * g.val + r.val) (h4 : n - 512 - 512 - 512 < 512) :
    (if h1 : n < 512 then (if h = 0 then f ⟨n, h1⟩ else 0)
      else if h2 : n - 512 < 512 then (if h = 1 then f ⟨n - 512, h2⟩ else 0)
      else if h3 : n - 512 - 512 < 512 then (if h = 2 then f ⟨n - 512 - 512, h3⟩ else 0)
      else (if h = 3 then f ⟨n - 512 - 512 - 512, h4⟩ else 0)) = if h = g then f r else (0 : EReal) := by
  have hr := r.isLt
  obtain ⟨g, hg⟩ := g
  have hn : n = 512 * g + r.val := hn
  interval_cases g
  · rw [dif_pos (show n < 512 by omega), show (⟨n, by omega⟩ : Fin 512) = r from Fin.ext (by show n = r.val; omega)]; rfl
  · rw [dif_neg (show ¬ n < 512 by omega), dif_pos (show n - 512 < 512 by omega),
      show (⟨n - 512, by omega⟩ : Fin 512) = r from Fin.ext (by show n - 512 = r.val; omega)]; rfl
  · rw [dif_neg (show ¬ n < 512 by omega), dif_neg (show ¬ n - 512 < 512 by omega), dif_pos (show n - 512 - 512 < 512 by omega),
      show (⟨n - 512 - 512, by omega⟩ : Fin 512) = r from Fin.ext (by show n - 512 - 512 = r.val; omega)]; rfl
  · rw [dif_neg (show ¬ n < 512 by omega), dif_neg (show ¬ n - 512 < 512 by omega), dif_neg (show ¬ n - 512 - 512 < 512 by omega),
      show (⟨n - 512 - 512 - 512, h4⟩ : Fin 512) = r from Fin.ext (by show n - 512 - 512 - 512 = r.val; omega)]; rfl

theorem stacked_at (q : FVec Ideal S512x256 .bf16) (g : Fin 4) (r : Fin 512) (x : Fin 256) :
    stacked q (ix2 (rowOf g r) x) = if headOf x = g then q (ix2 r x) else 0 := by
  have h0 := lanes0 x; have h1 := lanes1 x; have h2 := lanes2 x; have h3 := lanes3 x
  unfold stacked
  generalize lanesOf 0#32 = a0 at *; generalize lanesOf 1#32 = a1 at *; generalize lanesOf 2#32 = a2 at *; generalize lanesOf 3#32 = a3 at *
  pointwise [k0_pay2]
  rw [h0, h1, h2, h3]
  simp only [select_ofBool]
  generalize headOf x = h
  exact pick (fun r => q (ix2 r x)) h g r _ rfl (by have := r.isLt; have := g.isLt; show 512 * g.val + r.val - 512 - 512 - 512 < 512; omega)

theorem onLanes_at (a : FVec Ideal S2048x1 .f32) (r : Fin 512) (d : Fin 256) :
    onLanes a (ix2 r d) = a (ix2 (rowOf (headOf d) r) 0) := by
  have h1 := lanes1 d; have h2 := lanes2 d; have h3 := lanes3 d
  unfold onLanes
  generalize lanesOf 1#32 = a1 at *; generalize lanesOf 2#32 = a2 at *; generalize lanesOf 3#32 = a3 at *
  pointwise
  rw [h1, h2, h3]
  simp only [select_ofBool]
  generalize headOf d = h
  fin_cases h <;> simp [rowOf]

theorem addLanes_at (acc : FVec Ideal S512x256 .f32) (pv : FVec Ideal S2048x256 .f32) (r : Fin 512) (d : Fin 256) :
    addLanes acc pv (ix2 r d) = acc (ix2 r d) + pv (ix2 (rowOf (headOf d) r) d) := by
  have h0 := lanes0 d; have h1 := lanes1 d; have h2 := lanes2 d; have h3 := lanes3 d
  unfold addLanes
  generalize lanesOf 0#32 = a0 at *; generalize lanesOf 1#32 = a1 at *; generalize lanesOf 2#32 = a2 at *; generalize lanesOf 3#32 = a3 at *
  pointwise
  rw [h0, h1, h2, h3]
  simp only [select_ofBool]
  generalize headOf d = h
  fin_cases h <;> simp [rowOf]

theorem scoresC_at (qs : FVec Ideal S2048x256 .bf16) (k : Vec Ideal S1x256x256 .bf16) (R : Fin 2048) (j : Fin 256) :
    scoresC qs k (ix2 R j) = ∑ x : Fin 256, qs (ix2 R x) * k (ix3 0 j x) := by
  pointwise [scoresC]
theorem scoresL_at (qs : FVec Ideal S2048x256 .bf16) (k : Vec Ideal S1x1024x256 .bf16) (R : Fin 2048) (j : Fin 1024) :
    scoresL qs k (ix2 R j) = ∑ x : Fin 256, qs (ix2 R x) * k (ix3 0 j x) := by
  pointwise [scoresL]
theorem rowSumC_at (p : FVec Ideal S2048x256 .f32) (R : Fin 2048) : rowSumC p (ix2 R 0) = ∑ j : Fin 256, p (ix2 R j) := by
  pointwise [rowSumC]
theorem rowSumL_at (p : FVec Ideal S2048x1024 .f32) (R : Fin 2048) : rowSumL p (ix2 R 0) = ∑ j : Fin 1024, p (ix2 R j) := by
  pointwise [rowSumL]
theorem ofBits_neg_inf : Ideal.ofBits .f32 0xFF800000#32 = (⊥ : EReal) := by simp [Ideal.ofBits, Ideal.ieee]
theorem rowMaxC_at (p : FVec Ideal S2048x256 .f32) (R : Fin 2048) :
    rowMaxC p (ix2 R 0) = Finset.univ.fold max (⊥ : EReal) fun j : Fin 256 => p (ix2 R j) := by
  pointwise [rowMaxC]
  rw [ofBits_neg_inf]
theorem rowMaxL_at (p : FVec Ideal S2048x1024 .f32) (R : Fin 2048) :
    rowMaxL p (ix2 R 0) = Finset.univ.fold max (⊥ : EReal) fun j : Fin 1024 => p (ix2 R j) := by
  pointwise [rowMaxL]
  rw [ofBits_neg_inf]
theorem weighC_at (p : FVec Ideal S2048x256 .f32) (v : Vec Ideal S1x256x256 .bf16) (R : Fin 2048) (d : Fin 256) :
    weighC p v (ix2 R d) = ∑ j : Fin 256, p (ix2 R j) * v (ix3 0 j d) := by
  pointwise [weighC]
theorem weighL_at (p : FVec Ideal S2048x1024 .f32) (v : Vec Ideal S1x1024x256 .bf16) (R : Fin 2048) (d : Fin 256) :
    weighL p v (ix2 R d) = ∑ j : Fin 1024, p (ix2 R j) * v (ix3 0 j d) := by
  pointwise [weighL]

end Cert.KernelIdeal.Attn

end
-- ==== Proof.AttnAlgebra.lean ====
/-
  Sums of extended reals against real weights, and what a sweep over chunks of keys keeps: the sums of the weights and of the weighted
  values, up to the common factor that the running maximum takes out of them.
-/
module

public import proofs.«01_k».proof.Proof.AttnSteps

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem

theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

theorem real_mul_add {a : ℝ} (ha : 0 ≤ a) (x y : EReal) : (a : EReal) * (x + y) = a * x + a * y :=
  EReal.left_distrib_of_nonneg_of_ne_top (by exact_mod_cast ha) (EReal.coe_ne_top a) x y

theorem real_mul_sum {ι : Type} (S : Finset ι) {a : ℝ} (ha : 0 ≤ a) (f : ι → EReal) : (a : EReal) * ∑ i ∈ S, f i = ∑ i ∈ S, a * f i := by
  classical
  induction S using Finset.induction_on with
  | empty => simp
  | insert b S hb ih => rw [Finset.sum_insert hb, Finset.sum_insert hb, real_mul_add ha, ih]

/-- The maximum of a real and of reals is real. -/
theorem max_fold_real {ι : Type} (S : Finset ι) (f : ι → EReal) (hf : ∀ i, ∃ x : ℝ, f i = x) (a : ℝ) :
    ∃ x : ℝ, max (a : EReal) (S.fold max ⊥ f) = x := by
  classical
  have h : S.fold max ⊥ f = ⊥ ∨ ∃ x : ℝ, S.fold max ⊥ f = x := by
    induction S using Finset.induction_on with
    | empty => exact .inl (by simp)
    | insert b S hb ih =>
      right
      rw [Finset.fold_insert hb]
      obtain ⟨y, hy⟩ := hf b
      rcases ih with ih | ⟨x, ih⟩
      · exact ⟨y, by rw [ih, hy]; exact max_eq_left bot_le⟩
      · exact ⟨max y x, by rw [ih, hy]; exact (EReal.coe_strictMono.monotone.map_max (a := y) (b := x)).symm⟩
  rcases h with h | ⟨x, h⟩
  · exact ⟨a, by rw [h]; exact max_eq_left bot_le⟩
  · exact ⟨max a x, by rw [h]; exact (EReal.coe_strictMono.monotone.map_max (a := a) (b := x)).symm⟩

/-- The weight of a score. -/
def wt (x : ℝ) : ℝ := Real.rpow 2 x

theorem wt_pos (x : ℝ) : 0 < wt x := Real.rpow_pos_of_pos (by norm_num) x
theorem wt_add (x y : ℝ) : wt (x + y) = wt x * wt y := Real.rpow_add (by norm_num) x y
theorem exp2_real (x : ℝ) : Ideal.exp2 (x : EReal) = (wt x : EReal) := rfl

/-- The weights' sums with one more chunk's. -/
def moreW {n : ℕ} (W : Fin 2048 → ℝ) (σ : Fin 2048 → Fin n → ℝ) : Fin 2048 → ℝ := fun R => W R + ∑ j, wt (σ R j)
/-- The weighted values' sums with one more chunk's. -/
def moreA {n : ℕ} (A : Fin 512 → Fin 256 → EReal) (σ : Fin 2048 → Fin n → ℝ) (v : Fin n → Fin 256 → EReal) : Fin 512 → Fin 256 → EReal :=
  fun r d => A r d + ∑ j, (wt (σ (rowOf (headOf d) r) j) : EReal) * v j d

def PlainInv (s : Plain Ideal) (W : Fin 2048 → ℝ) (A : Fin 512 → Fin 256 → EReal) : Prop :=
  (∀ R, s.1 (ix2 R 0) = (W R : EReal)) ∧ ∀ r d, s.2 (ix2 r d) = A r d

def GuardInv (s : Guarded Ideal) (W : Fin 2048 → ℝ) (A : Fin 512 → Fin 256 → EReal) : Prop :=
  ∃ μ : Fin 2048 → ℝ, (∀ R, s.1 (ix2 R 0) = (μ R : EReal)) ∧ (∀ R, s.2.1 (ix2 R 0) = ((wt (-μ R) * W R : ℝ) : EReal)) ∧
    ∀ r d, s.2.2 (ix2 r d) = (wt (-μ (rowOf (headOf d) r)) : EReal) * A r d

theorem plain_start : PlainInv plainStart (fun _ => 0) (fun _ _ => 0) := by
  refine ⟨fun R => ?_, fun r d => ?_⟩ <;> · unfold plainStart; dsimp only; pointwise; try rfl

theorem ofBits_start : ∃ x : ℝ, Ideal.ofBits .f32 0xF149F2CA#32 = (x : EReal) := by
  simp only [Ideal.ofBits, Ideal.ieee]
  simp
  exact ⟨_, rfl⟩

theorem guarded_start : GuardInv guardedStart (fun _ => 0) (fun _ _ => 0) := by
  obtain ⟨x, hx⟩ := ofBits_start
  refine ⟨fun _ => x, fun R => ?_, fun R => ?_, fun r d => ?_⟩ <;> (unfold guardedStart; dsimp only; pointwise)
  · exact hx
  · simp
  · simp

theorem plainC_inv {qs : FVec Ideal S2048x256 .bf16} {s : Plain Ideal} {W A} (h : PlainInv s W A) {k v : Vec Ideal S1x256x256 .bf16}
    {σ : Fin 2048 → Fin 256 → ℝ} (hσ : ∀ R j, scoresC qs k (ix2 R j) = (σ R j : EReal)) :
    PlainInv (plainC qs s k v) (moreW W σ) (moreA A σ fun j d => v (ix3 0 j d)) := by
  obtain ⟨h1, h2⟩ := h
  have he : ∀ R j, exp2 (scoresC qs k) (ix2 R j) = (wt (σ R j) : EReal) := fun R j => by
    show Ideal.exp2 (scoresC qs k (ix2 R j)) = _
    rw [hσ]; rfl
  refine ⟨fun R => ?_, fun r d => ?_⟩
  · show (s.1 (ix2 R 0) + rowSumC (exp2 (scoresC qs k)) (ix2 R 0) : EReal) = _
    rw [h1, rowSumC_at]
    simp only [he]
    rw [coe_sum, ← EReal.coe_add]; rfl
  · show addLanes s.2 (weighC (exp2 (scoresC qs k)) v) (ix2 r d) = _
    rw [addLanes_at, h2, weighC_at]
    simp only [he]; rfl

theorem plainL_inv {qs : FVec Ideal S2048x256 .bf16} {s : Plain Ideal} {W A} (h : PlainInv s W A) {k v : Vec Ideal S1x1024x256 .bf16}
    {σ : Fin 2048 → Fin 1024 → ℝ} (hσ : ∀ R j, scoresL qs k (ix2 R j) = (σ R j : EReal)) :
    PlainInv (plainL qs s k v) (moreW W σ) (moreA A σ fun j d => v (ix3 0 j d)) := by
  obtain ⟨h1, h2⟩ := h
  have he : ∀ R j, exp2 (scoresL qs k) (ix2 R j) = (wt (σ R j) : EReal) := fun R j => by
    show Ideal.exp2 (scoresL qs k (ix2 R j)) = _
    rw [hσ]; rfl
  refine ⟨fun R => ?_, fun r d => ?_⟩
  · show (s.1 (ix2 R 0) + rowSumL (exp2 (scoresL qs k)) (ix2 R 0) : EReal) = _
    rw [h1, rowSumL_at]
    simp only [he]
    rw [coe_sum, ← EReal.coe_add]; rfl
  · show addLanes s.2 (weighL (exp2 (scoresL qs k)) v) (ix2 r d) = _
    rw [addLanes_at, h2, weighL_at]
    simp only [he]; rfl

theorem rescale_W {n : ℕ} (μ μ' W : ℝ) (σ : Fin n → ℝ) :
    wt (μ - μ') * (wt (-μ) * W) + ∑ j, wt (σ j - μ') = wt (-μ') * (W + ∑ j, wt (σ j)) := by
  rw [← mul_assoc, ← wt_add, show μ - μ' + -μ = -μ' by ring, mul_add, Finset.mul_sum]
  congr 1
  exact Finset.sum_congr rfl fun j _ => by rw [← wt_add, show -μ' + σ j = σ j - μ' by ring]

theorem rescale_A {n : ℕ} (μ μ' : ℝ) (A : EReal) (σ : Fin n → ℝ) (v : Fin n → EReal) :
    (wt (-μ) : EReal) * A * (wt (μ - μ') : EReal) + ∑ j, (wt (σ j - μ') : EReal) * v j = (wt (-μ') : EReal) * (A + ∑ j, (wt (σ j) : EReal) * v j) := by
  rw [real_mul_add (wt_pos _).le, real_mul_sum _ (wt_pos _).le, mul_right_comm, ← EReal.coe_mul, ← wt_add, show -μ + (μ - μ') = -μ' by ring]
  congr 1
  exact Finset.sum_congr rfl fun j _ => by rw [← mul_assoc, ← EReal.coe_mul, ← wt_add, show -μ' + σ j = σ j - μ' by ring]

theorem guardedC_inv {qs : FVec Ideal S2048x256 .bf16} {s : Guarded Ideal} {W A} (h : GuardInv s W A) {k v : Vec Ideal S1x256x256 .bf16}
    {σ : Fin 2048 → Fin 256 → ℝ} (hσ : ∀ R j, scoresC qs k (ix2 R j) = (σ R j : EReal)) :
    GuardInv (guardedC qs s k v) (moreW W σ) (moreA A σ fun j d => v (ix3 0 j d)) := by
  obtain ⟨μ, h0, h1, h2⟩ := h
  have hm : ∀ R, ∃ x : ℝ, maximumf s.1 (rowMaxC (scoresC qs k)) (ix2 R 0) = (x : EReal) := fun R => by
    show ∃ x : ℝ, max (s.1 (ix2 R 0) : EReal) (rowMaxC (scoresC qs k) (ix2 R 0)) = _
    rw [h0, rowMaxC_at]
    exact max_fold_real _ _ (fun j => ⟨_, hσ R j⟩) _
  unfold guardedC
  generalize maximumf s.1 (rowMaxC (scoresC qs k)) = m' at hm ⊢
  choose μ' hμ' using hm
  generalize scoresC qs k = sc at hσ ⊢
  have ha : ∀ R, exp2 (subf s.1 m') (ix2 R 0) = (wt (μ R - μ' R) : EReal) := fun R => by
    show Ideal.exp2 ((s.1 (ix2 R 0) : EReal) - m' (ix2 R 0)) = _
    rw [h0, hμ', ← EReal.coe_sub]; rfl
  have he : ∀ R j, exp2 (subf sc (broadcastTo S2048x256 m' broadcasts_S2048x1_S2048x256)) (ix2 R j) = (wt (σ R j - μ' R) : EReal) := fun R j => by
    pointwise
    rw [hσ, hμ', ← EReal.coe_sub]; rfl
  refine ⟨μ', hμ', fun R => ?_, fun r d => ?_⟩
  · show (exp2 (subf s.1 m') (ix2 R 0) * s.2.1 (ix2 R 0) + rowSumC (exp2 (subf sc (broadcastTo S2048x256 m' broadcasts_S2048x1_S2048x256))) (ix2 R 0) : EReal) = _
    rw [ha, h1, rowSumC_at]
    simp only [he]
    rw [coe_sum, ← EReal.coe_mul, ← EReal.coe_add, rescale_W]; rfl
  · show addLanes (mulf s.2.2 (onLanes (exp2 (subf s.1 m')))) (weighC (exp2 (subf sc (broadcastTo S2048x256 m' broadcasts_S2048x1_S2048x256))) v) (ix2 r d) = _
    rw [addLanes_at, weighC_at]
    show (s.2.2 (ix2 r d) * onLanes (exp2 (subf s.1 m')) (ix2 r d) : EReal) + _ = _
    rw [onLanes_at, ha, h2]
    simp only [he]
    exact rescale_A _ _ _ _ _

theorem guardedL_inv {qs : FVec Ideal S2048x256 .bf16} {s : Guarded Ideal} {W A} (h : GuardInv s W A) {k v : Vec Ideal S1x1024x256 .bf16}
    {σ : Fin 2048 → Fin 1024 → ℝ} (hσ : ∀ R j, scoresL qs k (ix2 R j) = (σ R j : EReal)) :
    GuardInv (guardedL qs s k v) (moreW W σ) (moreA A σ fun j d => v (ix3 0 j d)) := by
  obtain ⟨μ, h0, h1, h2⟩ := h
  have hm : ∀ R, ∃ x : ℝ, maximumf s.1 (rowMaxL (scoresL qs k)) (ix2 R 0) = (x : EReal) := fun R => by
    show ∃ x : ℝ, max (s.1 (ix2 R 0) : EReal) (rowMaxL (scoresL qs k) (ix2 R 0)) = _
    rw [h0, rowMaxL_at]
    exact max_fold_real _ _ (fun j => ⟨_, hσ R j⟩) _
  unfold guardedL
  generalize maximumf s.1 (rowMaxL (scoresL qs k)) = m' at hm ⊢
  choose μ' hμ' using hm
  generalize scoresL qs k = sc at hσ ⊢
  have ha : ∀ R, exp2 (subf s.1 m') (ix2 R 0) = (wt (μ R - μ' R) : EReal) := fun R => by
    show Ideal.exp2 ((s.1 (ix2 R 0) : EReal) - m' (ix2 R 0)) = _
    rw [h0, hμ', ← EReal.coe_sub]; rfl
  have he : ∀ R j, exp2 (subf sc (broadcastTo S2048x1024 m' broadcasts_S2048x1_S2048x1024)) (ix2 R j) = (wt (σ R j - μ' R) : EReal) := fun R j => by
    pointwise
    rw [hσ, hμ', ← EReal.coe_sub]; rfl
  refine ⟨μ', hμ', fun R => ?_, fun r d => ?_⟩
  · show (exp2 (subf s.1 m') (ix2 R 0) * s.2.1 (ix2 R 0) + rowSumL (exp2 (subf sc (broadcastTo S2048x1024 m' broadcasts_S2048x1_S2048x1024))) (ix2 R 0) : EReal) = _
    rw [ha, h1, rowSumL_at]
    simp only [he]
    rw [coe_sum, ← EReal.coe_mul, ← EReal.coe_add, rescale_W]; rfl
  · show addLanes (mulf s.2.2 (onLanes (exp2 (subf s.1 m')))) (weighL (exp2 (subf sc (broadcastTo S2048x1024 m' broadcasts_S2048x1_S2048x1024))) v) (ix2 r d) = _
    rw [addLanes_at, weighL_at]
    show (s.2.2 (ix2 r d) * onLanes (exp2 (subf s.1 m')) (ix2 r d) : EReal) + _ = _
    rw [onLanes_at, ha, h2]
    simp only [he]
    exact rescale_A _ _ _ _ _

theorem ofBits_one : Ideal.ofBits .f32 0x3F800000#32 = (1 : EReal) := by
  simp [Ideal.ofBits, Ideal.ieee]
  rw [← EReal.coe_mul]; norm_num

theorem finish_at (l : FVec Ideal S2048x1 .f32) (acc : FVec Ideal S512x256 .f32) (r : Fin 512) (d : Fin 256) :
    finish l acc (ix2 r d) = acc (ix2 r d) * Ideal.div 1 (l (ix2 (rowOf (headOf d) r) 0)) := by
  show (acc (ix2 r d) * onLanes (divf (broadcast S2048x1 (Scalar.ofBits .f32 0x3F800000#32)) l) (ix2 r d) : EReal) = _
  rw [onLanes_at]
  show acc (ix2 r d) * Ideal.div (Ideal.ofBits .f32 0x3F800000#32) (l (ix2 (rowOf (headOf d) r) 0)) = _
  rw [ofBits_one]

theorem plain_finish {s : Plain Ideal} {W A} (h : PlainInv s W A) (hW : ∀ R, 0 < W R) (r : Fin 512) (d : Fin 256) :
    finish s.1 s.2 (ix2 r d) = A r d * ((1 / W (rowOf (headOf d) r) : ℝ) : EReal) := by
  rw [finish_at, h.1, h.2, Ideal.div_coe (hW _).ne', one_mul]

theorem guarded_finish {s : Guarded Ideal} {W A} (h : GuardInv s W A) (hW : ∀ R, 0 < W R) (r : Fin 512) (d : Fin 256) :
    finish s.2.1 s.2.2 (ix2 r d) = A r d * ((1 / W (rowOf (headOf d) r) : ℝ) : EReal) := by
  obtain ⟨μ, -, h1, h2⟩ := h
  have hw := hW (rowOf (headOf d) r)
  have hk := wt_pos (-μ (rowOf (headOf d) r))
  rw [finish_at, h1, h2, Ideal.div_coe (mul_pos hk hw).ne', one_mul, mul_right_comm, ← EReal.coe_mul, mul_comm]
  congr 2
  field_simp

end Cert.KernelIdeal.Attn

end
-- ==== Proof.AttnPieces.lean ====
/-
  What the body writes at a point is one of the two sweeps over its blocks.
-/
module

public import proofs.«01_k».proof.Proof.AttnSweep
public import Idealize.ShloMosaic.Lib.Pipeline.Value

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl

/-- The store of a whole block. -/
def onePiece (w : FVec F S512x256 .f32) : View.Piece (Elt F) S1x512x256 .bf16 :=
  ⟨Rect.unit ![0, 0, 0] ![1, 512, 256] inb_S1x512x256_S1x512x256_0_0_0, shapeCast S1x512x256 (truncf .bf16 w bitsLt_bf16_f32) shapeCasts_S512x256_S1x512x256⟩

/-- The sweep over what the body loads. -/
def plainSweepOf (arg3 : Memref sig .tc .vmem S1x512x256 .bf16) (harg3 : arg3.IsWhole) (arg5 : Memref sig .tc .vmem S1x256x256 .bf16) (harg5 : arg5.IsWhole) (arg6 : Memref sig .tc .vmem S1x256x256 .bf16) (harg6 : arg6.IsWhole) (arg7 : Memref sig .tc .vmem S1x4096x256 .bf16) (harg7 : arg7.IsWhole) (arg8 : Memref sig .tc .vmem S1x4096x256 .bf16) (harg8 : arg8.IsWhole)
    (x0 : Vec F S1x512x256 .bf16) (x2 x3 : Vec F S1x256x256 .bf16) (x4 x5 : Vec F S1x4096x256 .bf16) : FVec F S512x256 .f32 :=
  plainSweep (shapeCast S512x256 (View.readAt (Elt F) arg3.view (Rect.unit (s := S1x512x256) ![0, 0, 0] S1x512x256.size inb_S1x512x256_S1x512x256_0_0_0).toLoadRect (harg3.unread x0)) shapeCasts_S1x512x256_S512x256)
    (View.readAt (Elt F) arg5.view (Rect.unit (s := S1x256x256) ![0, 0, 0] S1x256x256.size inb_S1x256x256_S1x256x256_0_0_0).toLoadRect (harg5.unread x2))
    (View.readAt (Elt F) arg6.view (Rect.unit (s := S1x256x256) ![0, 0, 0] S1x256x256.size inb_S1x256x256_S1x256x256_0_0_0).toLoadRect (harg6.unread x3))
    (View.readAt (Elt F) arg7.view (Rect.unit (s := S1x4096x256) ![0, 0, 0] S1x1024x256.size inb_S1x4096x256_S1x1024x256_0_0_0).toLoadRect (harg7.unread x4))
    (View.readAt (Elt F) arg8.view (Rect.unit (s := S1x4096x256) ![0, 0, 0] S1x1024x256.size inb_S1x4096x256_S1x1024x256_0_0_0).toLoadRect (harg8.unread x5))
    (View.readAt (Elt F) arg7.view (Rect.unit (s := S1x4096x256) ![0, 1024, 0] S1x1024x256.size inb_S1x4096x256_S1x1024x256_0_1024_0).toLoadRect (harg7.unread x4))
    (View.readAt (Elt F) arg8.view (Rect.unit (s := S1x4096x256) ![0, 1024, 0] S1x1024x256.size inb_S1x4096x256_S1x1024x256_0_1024_0).toLoadRect (harg8.unread x5))
    (View.readAt (Elt F) arg7.view (Rect.unit (s := S1x4096x256) ![0, 2048, 0] S1x1024x256.size inb_S1x4096x256_S1x1024x256_0_2048_0).toLoadRect (harg7.unread x4))
    (View.readAt (Elt F) arg8.view (Rect.unit (s := S1x4096x256) ![0, 2048, 0] S1x1024x256.size inb_S1x4096x256_S1x1024x256_0_2048_0).toLoadRect (harg8.unread x5))
    (View.readAt (Elt F) arg7.view (Rect.unit (s := S1x4096x256) ![0, 3072, 0] S1x1024x256.size inb_S1x4096x256_S1x1024x256_0_3072_0).toLoadRect (harg7.unread x4))
    (View.readAt (Elt F) arg8.view (Rect.unit (s := S1x4096x256) ![0, 3072, 0] S1x1024x256.size inb_S1x4096x256_S1x1024x256_0_3072_0).toLoadRect (harg8.unread x5))

theorem plainSweepOf_eq (arg3 : Memref sig .tc .vmem S1x512x256 .bf16) (harg3 : arg3.IsWhole) (arg5 : Memref sig .tc .vmem S1x256x256 .bf16) (harg5 : arg5.IsWhole) (arg6 : Memref sig .tc .vmem S1x256x256 .bf16) (harg6 : arg6.IsWhole) (arg7 : Memref sig .tc .vmem S1x4096x256 .bf16) (harg7 : arg7.IsWhole) (arg8 : Memref sig .tc .vmem S1x4096x256 .bf16) (harg8 : arg8.IsWhole)
    (x0 : Vec F S1x512x256 .bf16) (x2 x3 : Vec F S1x256x256 .bf16) (x4 x5 : Vec F S1x4096x256 .bf16) :
    plainSweepOf arg3 harg3 arg5 harg5 arg6 harg6 arg7 harg7 arg8 harg8 x0 x2 x3 x4 x5 = plainSweep (shapeCast S512x256 x0 shapeCasts_S1x512x256_S512x256) x2 x3
      (chunkAt x4 0 inb_S1x4096x256_S1x1024x256_0_0_0)
      (chunkAt x5 0 inb_S1x4096x256_S1x1024x256_0_0_0)
      (chunkAt x4 1024 inb_S1x4096x256_S1x1024x256_0_1024_0)
      (chunkAt x5 1024 inb_S1x4096x256_S1x1024x256_0_1024_0)
      (chunkAt x4 2048 inb_S1x4096x256_S1x1024x256_0_2048_0)
      (chunkAt x5 2048 inb_S1x4096x256_S1x1024x256_0_2048_0)
      (chunkAt x4 3072 inb_S1x4096x256_S1x1024x256_0_3072_0)
      (chunkAt x5 3072 inb_S1x4096x256_S1x1024x256_0_3072_0) := by
  unfold plainSweepOf chunkAt
  simp only [View.readAt_eq_ld, harg3.read_unread, harg5.read_unread, harg6.read_unread, harg7.read_unread, harg8.read_unread,
    View.ld_unit_zero (S := S1x512x256) hz3, View.ld_unit_zero (S := S1x256x256) hz3]

/-- The sweep over what the body loads. -/
def guardedSweepOf (arg3 : Memref sig .tc .vmem S1x512x256 .bf16) (harg3 : arg3.IsWhole) (arg5 : Memref sig .tc .vmem S1x256x256 .bf16) (harg5 : arg5.IsWhole) (arg6 : Memref sig .tc .vmem S1x256x256 .bf16) (harg6 : arg6.IsWhole) (arg7 : Memref sig .tc .vmem S1x4096x256 .bf16) (harg7 : arg7.IsWhole) (arg8 : Memref sig .tc .vmem S1x4096x256 .bf16) (harg8 : arg8.IsWhole)
    (x0 : Vec F S1x512x256 .bf16) (x2 x3 : Vec F S1x256x256 .bf16) (x4 x5 : Vec F S1x4096x256 .bf16) : FVec F S512x256 .f32 :=
  guardedSweep (shapeCast S512x256 (View.readAt (Elt F) arg3.view (Rect.unit (s := S1x512x256) ![0, 0, 0] S1x512x256.size inb_S1x512x256_S1x512x256_0_0_0).toLoadRect (harg3.unread x0)) shapeCasts_S1x512x256_S512x256)
    (View.readAt (Elt F) arg5.view (Rect.unit (s := S1x256x256) ![0, 0, 0] S1x256x256.size inb_S1x256x256_S1x256x256_0_0_0).toLoadRect (harg5.unread x2))
    (View.readAt (Elt F) arg6.view (Rect.unit (s := S1x256x256) ![0, 0, 0] S1x256x256.size inb_S1x256x256_S1x256x256_0_0_0).toLoadRect (harg6.unread x3))
    (View.readAt (Elt F) arg7.view (Rect.unit (s := S1x4096x256) ![0, 0, 0] S1x1024x256.size inb_S1x4096x256_S1x1024x256_0_0_0).toLoadRect (harg7.unread x4))
    (View.readAt (Elt F) arg8.view (Rect.unit (s := S1x4096x256) ![0, 0, 0] S1x1024x256.size inb_S1x4096x256_S1x1024x256_0_0_0).toLoadRect (harg8.unread x5))
    (View.readAt (Elt F) arg7.view (Rect.unit (s := S1x4096x256) ![0, 1024, 0] S1x1024x256.size inb_S1x4096x256_S1x1024x256_0_1024_0).toLoadRect (harg7.unread x4))
    (View.readAt (Elt F) arg8.view (Rect.unit (s := S1x4096x256) ![0, 1024, 0] S1x1024x256.size inb_S1x4096x256_S1x1024x256_0_1024_0).toLoadRect (harg8.unread x5))
    (View.readAt (Elt F) arg7.view (Rect.unit (s := S1x4096x256) ![0, 2048, 0] S1x1024x256.size inb_S1x4096x256_S1x1024x256_0_2048_0).toLoadRect (harg7.unread x4))
    (View.readAt (Elt F) arg8.view (Rect.unit (s := S1x4096x256) ![0, 2048, 0] S1x1024x256.size inb_S1x4096x256_S1x1024x256_0_2048_0).toLoadRect (harg8.unread x5))
    (View.readAt (Elt F) arg7.view (Rect.unit (s := S1x4096x256) ![0, 3072, 0] S1x1024x256.size inb_S1x4096x256_S1x1024x256_0_3072_0).toLoadRect (harg7.unread x4))
    (View.readAt (Elt F) arg8.view (Rect.unit (s := S1x4096x256) ![0, 3072, 0] S1x1024x256.size inb_S1x4096x256_S1x1024x256_0_3072_0).toLoadRect (harg8.unread x5))

theorem guardedSweepOf_eq (arg3 : Memref sig .tc .vmem S1x512x256 .bf16) (harg3 : arg3.IsWhole) (arg5 : Memref sig .tc .vmem S1x256x256 .bf16) (harg5 : arg5.IsWhole) (arg6 : Memref sig .tc .vmem S1x256x256 .bf16) (harg6 : arg6.IsWhole) (arg7 : Memref sig .tc .vmem S1x4096x256 .bf16) (harg7 : arg7.IsWhole) (arg8 : Memref sig .tc .vmem S1x4096x256 .bf16) (harg8 : arg8.IsWhole)
    (x0 : Vec F S1x512x256 .bf16) (x2 x3 : Vec F S1x256x256 .bf16) (x4 x5 : Vec F S1x4096x256 .bf16) :
    guardedSweepOf arg3 harg3 arg5 harg5 arg6 harg6 arg7 harg7 arg8 harg8 x0 x2 x3 x4 x5 = guardedSweep (shapeCast S512x256 x0 shapeCasts_S1x512x256_S512x256) x2 x3
      (chunkAt x4 0 inb_S1x4096x256_S1x1024x256_0_0_0)
      (chunkAt x5 0 inb_S1x4096x256_S1x1024x256_0_0_0)
      (chunkAt x4 1024 inb_S1x4096x256_S1x1024x256_0_1024_0)
      (chunkAt x5 1024 inb_S1x4096x256_S1x1024x256_0_1024_0)
      (chunkAt x4 2048 inb_S1x4096x256_S1x1024x256_0_2048_0)
      (chunkAt x5 2048 inb_S1x4096x256_S1x1024x256_0_2048_0)
      (chunkAt x4 3072 inb_S1x4096x256_S1x1024x256_0_3072_0)
      (chunkAt x5 3072 inb_S1x4096x256_S1x1024x256_0_3072_0) := by
  unfold guardedSweepOf chunkAt
  simp only [View.readAt_eq_ld, harg3.read_unread, harg5.read_unread, harg6.read_unread, harg7.read_unread, harg8.read_unread,
    View.ld_unit_zero (S := S1x512x256) hz3, View.ld_unit_zero (S := S1x256x256) hz3]

theorem runFirst_fst (c : Dev nD) (i : grid0.Coords) (hc0 : k0_cond1 i = 1#1) (arg3 : Memref sig .tc .vmem S1x512x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x512x256 .bf16) (harg9 : arg9.IsWhole) (arg10 : Memref sig .tc .smem S1 .i32) (harg10 : arg10.IsWhole)
    (x0 : Vec F S1x512x256 .bf16) (x1 : Vec F S1x4096x256 .bf16) (x2 x3 : Vec F S1x256x256 .bf16) (x4 x5 : Vec F S1x4096x256 .bf16) :
    (runFirst c i hc0 arg3 harg3 arg4 harg4 arg5 harg5 arg6 harg6 arg7 harg7 arg8 harg8 arg9 harg9 arg10 harg10 x0 x1 x2 x3 x4 x5).1.1 = [onePiece (plainSweepOf arg3 harg3 arg5 harg5 arg6 harg6 arg7 harg7 arg8 harg8 x0 x2 x3 x4 x5)] := by
  sl_kernel_rfl

theorem runFirst_snd (c : Dev nD) (i : grid0.Coords) (hc0 : k0_cond1 i = 1#1) (arg3 : Memref sig .tc .vmem S1x512x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x512x256 .bf16) (harg9 : arg9.IsWhole) (arg10 : Memref sig .tc .smem S1 .i32) (harg10 : arg10.IsWhole)
    (x0 : Vec F S1x512x256 .bf16) (x1 : Vec F S1x4096x256 .bf16) (x2 x3 : Vec F S1x256x256 .bf16) (x4 x5 : Vec F S1x4096x256 .bf16) :
    (runFirst c i hc0 arg3 harg3 arg4 harg4 arg5 harg5 arg6 harg6 arg7 harg7 arg8 harg8 arg9 harg9 arg10 harg10 x0 x1 x2 x3 x4 x5).1.2 = [onePiece (guardedSweepOf arg3 harg3 arg5 harg5 arg6 harg6 arg7 harg7 arg8 harg8 x0 x2 x3 x4 x5)] := by
  sl_kernel_rfl

theorem runLater_fst (c : Dev nD) (i : grid0.Coords) (hc0 : ¬ k0_cond1 i = 1#1) (arg3 : Memref sig .tc .vmem S1x512x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x512x256 .bf16) (harg9 : arg9.IsWhole) (arg10 : Memref sig .tc .smem S1 .i32) (harg10 : arg10.IsWhole)
    (x0 : Vec F S1x512x256 .bf16) (x1 : Vec F S1x4096x256 .bf16) (x2 x3 : Vec F S1x256x256 .bf16) (x4 x5 : Vec F S1x4096x256 .bf16) :
    (runLater c i hc0 arg3 harg3 arg4 harg4 arg5 harg5 arg6 harg6 arg7 harg7 arg8 harg8 arg9 harg9 arg10 harg10 x0 x1 x2 x3 x4 x5).1.1 = [onePiece (plainSweepOf arg3 harg3 arg5 harg5 arg6 harg6 arg7 harg7 arg8 harg8 x0 x2 x3 x4 x5)] := by
  sl_kernel_rfl

theorem runLater_snd (c : Dev nD) (i : grid0.Coords) (hc0 : ¬ k0_cond1 i = 1#1) (arg3 : Memref sig .tc .vmem S1x512x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x512x256 .bf16) (harg9 : arg9.IsWhole) (arg10 : Memref sig .tc .smem S1 .i32) (harg10 : arg10.IsWhole)
    (x0 : Vec F S1x512x256 .bf16) (x1 : Vec F S1x4096x256 .bf16) (x2 x3 : Vec F S1x256x256 .bf16) (x4 x5 : Vec F S1x4096x256 .bf16) :
    (runLater c i hc0 arg3 harg3 arg4 harg4 arg5 harg5 arg6 harg6 arg7 harg7 arg8 harg8 arg9 harg9 arg10 harg10 x0 x1 x2 x3 x4 x5).1.2 = [onePiece (guardedSweepOf arg3 harg3 arg5 harg5 arg6 harg6 arg7 harg7 arg8 harg8 x0 x2 x3 x4 x5)] := by
  sl_kernel_rfl

variable (m : (ℓ : Loc nD τ sig) → Buf (Elt F) ℓ)

/-- The two sweeps over the blocks of point `t`. -/
def sweepAt (c : Dev nD) (t : Fin cfg0.N) (b : Bool) : FVec F S512x256 .f32 :=
  cond b (plainSweep (shapeCast S512x256 (iblk m c 0 t : Vec F S1x512x256 .bf16) shapeCasts_S1x512x256_S512x256) (iblk m c 2 t) (iblk m c 3 t)
      (chunkAt (iblk m c 4 t) 0 inb_S1x4096x256_S1x1024x256_0_0_0) (chunkAt (iblk m c 5 t) 0 inb_S1x4096x256_S1x1024x256_0_0_0)
      (chunkAt (iblk m c 4 t) 1024 inb_S1x4096x256_S1x1024x256_0_1024_0) (chunkAt (iblk m c 5 t) 1024 inb_S1x4096x256_S1x1024x256_0_1024_0)
      (chunkAt (iblk m c 4 t) 2048 inb_S1x4096x256_S1x1024x256_0_2048_0) (chunkAt (iblk m c 5 t) 2048 inb_S1x4096x256_S1x1024x256_0_2048_0)
      (chunkAt (iblk m c 4 t) 3072 inb_S1x4096x256_S1x1024x256_0_3072_0) (chunkAt (iblk m c 5 t) 3072 inb_S1x4096x256_S1x1024x256_0_3072_0))
    (guardedSweep (shapeCast S512x256 (iblk m c 0 t : Vec F S1x512x256 .bf16) shapeCasts_S1x512x256_S512x256) (iblk m c 2 t) (iblk m c 3 t)
      (chunkAt (iblk m c 4 t) 0 inb_S1x4096x256_S1x1024x256_0_0_0) (chunkAt (iblk m c 5 t) 0 inb_S1x4096x256_S1x1024x256_0_0_0)
      (chunkAt (iblk m c 4 t) 1024 inb_S1x4096x256_S1x1024x256_0_1024_0) (chunkAt (iblk m c 5 t) 1024 inb_S1x4096x256_S1x1024x256_0_1024_0)
      (chunkAt (iblk m c 4 t) 2048 inb_S1x4096x256_S1x1024x256_0_2048_0) (chunkAt (iblk m c 5 t) 2048 inb_S1x4096x256_S1x1024x256_0_2048_0)
      (chunkAt (iblk m c 4 t) 3072 inb_S1x4096x256_S1x1024x256_0_3072_0) (chunkAt (iblk m c 5 t) 3072 inb_S1x4096x256_S1x1024x256_0_3072_0))

theorem sweptPieces_eq (c : Dev nD) (t : Fin cfg0.N) (b : Bool) : sweptPieces m c t b = [onePiece (sweepAt m c t b)] := by
  unfold sweptPieces sweepAt
  split <;> cases b <;> simp only [cond_true, cond_false, runFirst_fst, runFirst_snd, runLater_fst, runLater_snd, plainSweepOf_eq, guardedSweepOf_eq]

/-- The block a sweep leaves in the output's buffer. -/
theorem swept_eq (c : Dev nD) (t : Fin cfg0.N) (b : Bool) :
    swept m c t b = shapeCast S1x512x256 (truncf .bf16 (sweepAt m c t b) bitsLt_bf16_f32) shapeCasts_S512x256_S1x512x256 := by
  unfold swept
  rw [View.read_writes_eq_canon _ _ _ (sweptPieces_cover m c t b), sweptPieces_eq]
  unfold onePiece
  rw [View.canon_unit_zero hz3]

end Cert.KernelIdeal.Attn

end
-- ==== Proof.AttnRef.lean ====
/-
  What the attention computes, written plainly, and the reference read as it. Lane `d` of the result belongs to query head `d / 64`,
  which reads the keys and values of group `d / 256`.
-/
module

public import proofs.«01_k».proof.Defs
public import proofs.«01_k».proof.Proof.Gen.ReferenceIdeal.Run
public import proofs.«01_k».proof.Proof.AttnAlgebra
public import Idealize.ShloMosaic.Lib.Pointwise
public import Idealize.ShloMosaic.Lib.Tactic

@[expose] public section

set_option maxRecDepth 16384

noncomputable section

namespace Cert.Attn

open Idealize.ShloMosaic Idealize.ShloMosaic.Tactic

abbrev Queries (α : Type) : Type := (⟨3, ![8, 4096, 512]⟩ : Shape).Idx → α
abbrev Context (α : Type) : Type := (⟨3, ![8, 256, 128]⟩ : Shape).Idx → α
abbrev Latent (α : Type) : Type := (⟨3, ![8, 4096, 128]⟩ : Shape).Idx → α

/-- The group of keys and values that lane `d` reads, -/
def groupOf (d : Fin 512) : Fin 2 := ⟨d.val / 256, by omega⟩
/-- and which of the group's query heads it belongs to. -/
def memberOf (d : Fin 512) : Fin 4 := ⟨d.val / 64 % 4, by omega⟩
/-- The lanes of the query head that lane `d` belongs to, -/
def qLane (d : Fin 512) (y : Fin 64) : Fin 512 := ⟨d.val / 256 * 256 + d.val / 64 % 4 * 64 + y.val, by omega⟩
/-- the lanes of its keys, -/
def kLane (d : Fin 512) (y : Fin 64) : Fin 128 := ⟨d.val / 256 * 64 + y.val, by omega⟩
/-- and the lane of its values. -/
def vLane (d : Fin 512) : Fin 128 := ⟨d.val / 256 * 64 + d.val % 64, by omega⟩

/-- The query of row `t` against context key `j`, -/
def dotC (q : Queries ℝ) (k : Context ℝ) (b : Fin 8) (t : Fin 4096) (d : Fin 512) (j : Fin 256) : ℝ :=
  ∑ y : Fin 64, k (ix3 b j (kLane d y)) * q (ix3 b t (qLane d y))
/-- and against latent key `j`. -/
def dotL (q : Queries ℝ) (k : Latent ℝ) (b : Fin 8) (t : Fin 4096) (d : Fin 512) (j : Fin 4096) : ℝ :=
  ∑ y : Fin 64, k (ix3 b j (kLane d y)) * q (ix3 b t (qLane d y))

/-- The sum of a row's weights. -/
def total (q : Queries ℝ) (kc : Context ℝ) (kl : Latent ℝ) (b : Fin 8) (t : Fin 4096) (d : Fin 512) : ℝ :=
  ∑ j : Fin 256, Real.exp (dotC q kc b t d j / 8) + ∑ j : Fin 4096, Real.exp (dotL q kl b t d j / 8)

/-- Softmax attention over the context and the latents. -/
def attend (q : Queries ℝ) (kc : Context ℝ) (kl : Latent ℝ) (vc : Context EReal) (vl : Latent EReal) (b : Fin 8) (t : Fin 4096) (d : Fin 512) : EReal :=
  (∑ j : Fin 256, (Real.exp (dotC q kc b t d j / 8) : EReal) * vc (ix3 b j (vLane d))
    + ∑ j : Fin 4096, (Real.exp (dotL q kl b t d j / 8) : EReal) * vl (ix3 b j (vLane d)))
  * ((1 / total q kc kl b t d : ℝ) : EReal)

theorem total_pos (q : Queries ℝ) (kc : Context ℝ) (kl : Latent ℝ) (b : Fin 8) (t : Fin 4096) (d : Fin 512) : 0 < total q kc kl b t d :=
  add_pos (Finset.sum_pos (fun _ _ => Real.exp_pos _) ⟨0, Finset.mem_univ _⟩) (Finset.sum_pos (fun _ _ => Real.exp_pos _) ⟨0, Finset.mem_univ _⟩)

end Cert.Attn

namespace Cert.ReferenceIdeal.Attn

open Idealize.ShloMosaic Idealize.SL.Sem Idealize.ShloMosaic.TcCoe Idealize.ShloMosaic.Tactic
open Cert.ReferenceIdeal Cert.ReferenceIdeal.Gen Cert.ReferenceIdeal.Value
open Cert.Attn
open Cert.KernelIdeal.Attn (coe_sum real_mul_add real_mul_sum)

/-- The logits: every query against every key of its group, context keys first. -/
def scoreVec (q : FVec Ideal S8x4096x512 .f32) (kc : FVec Ideal S8x256x128 .f32) (kl : FVec Ideal S8x4096x128 .f32) : FVec Ideal S8x2x4x4096x4352 .f32 :=
  mulf (transpose S8x2x4x4096x4352 [0, 1, 4, 3, 2] (Host.dotGeneral dot_S8x4352x2x64_S8x4096x2x4x64_S8x2x4352x4096x4_3_4_1_13_02_02 none (concatenate S8x4352x2x64 1 [⟨S8x256x2x64, (shapeCast S8x256x2x64 kc shapeCasts_S8x256x128_S8x256x2x64)⟩, ⟨S8x4096x2x64, (shapeCast S8x4096x2x64 kl shapeCasts_S8x4096x128_S8x4096x2x64)⟩] concatenates_S8x256x2x64_S8x4096x2x64_S8x4352x2x64_d1) (shapeCast S8x4096x2x4x64 (shapeCast S8x4096x8x64 q shapeCasts_S8x4096x512_S8x4096x8x64) shapeCasts_S8x4096x8x64_S8x4096x2x4x64)) transposes_S8x2x4352x4096x4_S8x2x4x4096x4352_0_1_4_3_2) (broadcastInDim S8x2x4x4096x4352 ![] bcast_S_S8x2x4x4096x4352 (constant S_ .f32 0x3E000000#32))

/-- The logits' maximum over the keys. -/
def maxVec (s : FVec Ideal S8x2x4x4096x4352 .f32) : FVec Ideal S8x2x4x4096 .f32 :=
  maximumf (broadcastInDim S8x2x4x4096 ![] bcast_S_S8x2x4x4096 (constant S_ .f32 0xFF800000#32)) (Host.reduce FloatOps.maximumf s (constant S_ .f32 0xFF800000#32) reducesTo_S8x2x4x4096x4352_S8x2x4x4096_d4 h_S_)

/-- The exponentials against a maximum. -/
def expVec (s : FVec Ideal S8x2x4x4096x4352 .f32) (mx : FVec Ideal S8x2x4x4096 .f32) : FVec Ideal S8x2x4x4096x4352 .f32 :=
  Host.exp (subf s (broadcastInDim S8x2x4x4096x4352 ![0, 1, 2, 3, 4] bcast_S8x2x4x4096x1_S8x2x4x4096x4352_0_1_2_3_4 (broadcastInDim S8x2x4x4096x1 ![0, 1, 2, 3] bcast_S8x2x4x4096_S8x2x4x4096x1_0_1_2_3 mx)))

/-- The exponentials' sums over the keys, -/
def sumVec (e : FVec Ideal S8x2x4x4096x4352 .f32) : FVec Ideal S8x2x4x4096 .f32 :=
  Host.reduceAdd e (constant S_ .f32 0x00000000#32) reducesTo_S8x2x4x4096x4352_S8x2x4x4096_d4 h_S_

/-- and the values weighed by the exponentials over them. -/
def outVec (vc : FVec Ideal S8x256x128 .f32) (vl : FVec Ideal S8x4096x128 .f32) (e : FVec Ideal S8x2x4x4096x4352 .f32) (l : FVec Ideal S8x2x4x4096 .f32) : FVec Ideal S8x4096x512 .bf16 :=
  truncf .bf16 (shapeCast S8x4096x512 (transpose S8x4096x2x4x64 [0, 4, 1, 3, 2] (Host.dotGeneral dot_S8x4352x2x64_S8x2x4x4096x4352_S8x2x64x4x4096_1_4_3_23_02_01 none (concatenate S8x4352x2x64 1 [⟨S8x256x2x64, (shapeCast S8x256x2x64 vc shapeCasts_S8x256x128_S8x256x2x64)⟩, ⟨S8x4096x2x64, (shapeCast S8x4096x2x64 vl shapeCasts_S8x4096x128_S8x4096x2x64)⟩] concatenates_S8x256x2x64_S8x4096x2x64_S8x4352x2x64_d1)
    (Host.divf e (broadcastInDim S8x2x4x4096x4352 ![0, 1, 2, 3, 4] bcast_S8x2x4x4096x1_S8x2x4x4096x4352_0_1_2_3_4 (broadcastInDim S8x2x4x4096x1 ![0, 1, 2, 3] bcast_S8x2x4x4096_S8x2x4x4096x1_0_1_2_3 l)))) transposes_S8x2x64x4x4096_S8x4096x2x4x64_0_4_1_3_2) shapeCasts_S8x4096x2x4x64_S8x4096x512) bitsLt_bf16_f32

theorem result_stages (m : (ℓ : Loc nD τ sig) → Buf (Elt Ideal) ℓ) (c : Dev nD) : res_main_v26 (F := Ideal) m c =
    outVec (m ((c.tc : Thread nD τ).loc main_arg2)) (m ((c.tc : Thread nD τ).loc main_arg4))
      (expVec (scoreVec (m ((c.tc : Thread nD τ).loc main_arg0)) (m ((c.tc : Thread nD τ).loc main_arg1)) (m ((c.tc : Thread nD τ).loc main_arg3)))
        (maxVec (scoreVec (m ((c.tc : Thread nD τ).loc main_arg0)) (m ((c.tc : Thread nD τ).loc main_arg1)) (m ((c.tc : Thread nD τ).loc main_arg3)))))
      (sumVec (expVec (scoreVec (m ((c.tc : Thread nD τ).loc main_arg0)) (m ((c.tc : Thread nD τ).loc main_arg1)) (m ((c.tc : Thread nD τ).loc main_arg3)))
        (maxVec (scoreVec (m ((c.tc : Thread nD τ).loc main_arg0)) (m ((c.tc : Thread nD τ).loc main_arg1)) (m ((c.tc : Thread nD τ).loc main_arg3)))))) := by
  rfl

/-- The maximum of reals over an inhabited set is real. -/
theorem fold_real {ι : Type} (S : Finset ι) (f : ι → EReal) (hf : ∀ i, ∃ x : ℝ, f i = x) (hS : S.Nonempty) :
    ∃ x : ℝ, S.fold max ⊥ f = x := by
  classical
  induction hS using Finset.Nonempty.cons_induction with
  | singleton a => obtain ⟨y, hy⟩ := hf a; exact ⟨y, by simp [hy]⟩
  | cons a S ha _ ih =>
    obtain ⟨y, hy⟩ := hf a
    obtain ⟨x, hx⟩ := ih
    exact ⟨max y x, by rw [Finset.fold_cons, hy, hx]; exact (EReal.coe_strictMono.monotone.map_max (a := y) (b := x)).symm⟩

theorem negInf : Ideal.ofBits .f32 0xFF800000#32 = (⊥ : EReal) := by simp [Ideal.ofBits, Ideal.ieee]

/-- The host's maximum, from minus infinity, of reals is real where it is taken over something. -/
theorem reduce_real {s t u : Shape} {axes : List (Fin s.rank)} (x : FVec Ideal s .f32) (init : FVec Ideal u .f32) (w : FVec Ideal t .f32) (h : s.ReducesTo axes t) (hu : 0 < u.numel) (j : t.Idx)
    (hx : ∀ i, ∃ y : ℝ, x i = (y : EReal)) (hi : init (Shape.Idx.first hu) = (⊥ : EReal)) (hw : w j = (⊥ : EReal)) (i : s.Idx) (hj : h.drop i = j) :
    ∃ y : ℝ, maximumf w (Host.reduce FloatOps.maximumf x init h hu) j = (y : EReal) := by
  have e : Host.reduce FloatOps.maximumf x init h hu j = (Finset.univ.filter fun i => h.drop i = j).fold (max : EReal → EReal → EReal) ⊥ x := by
    rw [Host.reduce_eq_fold, hi]; rfl
  obtain ⟨y, hy⟩ := fold_real (Finset.univ.filter fun i => h.drop i = j) x hx ⟨i, by rw [Finset.mem_filter]; exact ⟨Finset.mem_univ _, hj⟩⟩
  refine ⟨y, ?_⟩
  show max (w j : EReal) (Host.reduce FloatOps.maximumf x init h hu j) = y
  rw [e, hy, hw]
  exact max_eq_right bot_le

theorem drop_at (b : Fin 8) (h : Fin 2) (g : Fin 4) (t : Fin 4096) : reducesTo_S8x2x4x4096x4352_S8x2x4x4096_d4.drop (ix5 b h g t 0) = ix4 b h g t := by
  funext a
  fin_cases a <;> rfl

theorem maxVec_real (s : FVec Ideal S8x2x4x4096x4352 .f32) (hs : ∀ i, ∃ x : ℝ, s i = (x : EReal)) (b : Fin 8) (h : Fin 2) (g : Fin 4) (t : Fin 4096) :
    ∃ x : ℝ, maxVec s (ix4 b h g t) = (x : EReal) := by
  unfold maxVec
  exact reduce_real s _ _ reducesTo_S8x2x4x4096x4352_S8x2x4x4096_d4 h_S_ (ix4 b h g t) hs negInf negInf _ (drop_at b h g t)

/-- A row's logits as reals. -/
def logit (q : Queries ℝ) (kc : Context ℝ) (kl : Latent ℝ) (b : Fin 8) (h : Fin 2) (g : Fin 4) (t : Fin 4096) (j : Fin 4352) : ℝ :=
  (∑ y : Fin 64, (if hj : j.val < 256 then kc (ix3 b ⟨j.val, hj⟩ ⟨h.val * 64 + y.val, by omega⟩) else kl (ix3 b ⟨j.val - 256, by omega⟩ ⟨h.val * 64 + y.val, by omega⟩))
    * q (ix3 b t ⟨h.val * 256 + g.val * 64 + y.val, by omega⟩)) / 8

theorem eighth : Ideal.ofBits .f32 0x3E000000#32 = ((1 / 8 : ℝ) : EReal) := by
  simp [Ideal.ofBits, Ideal.ieee]
  rw [← EReal.coe_mul]; norm_num

theorem logit_factors (q : Queries EReal) (kc : Context EReal) (kl : Latent EReal)
    (qr : Queries ℝ) (kcr : Context ℝ) (klr : Latent ℝ) (hq : ∀ i, q i = (qr i : EReal)) (hc : ∀ i, kc i = (kcr i : EReal)) (hl : ∀ i, kl i = (klr i : EReal))
    (b : Fin 8) (h : Fin 2) (g : Fin 4) (t : Fin 4096) (j : Fin 4352) :
    (∑ y : Fin 64, (if hj : j.val < 256 then kc (ix3 b (⟨j.val, hj⟩ : Fin 256) (⟨h.val * 64 + y.val, by omega⟩ : Fin 128))
        else kl (ix3 b (⟨j.val - 256, by omega⟩ : Fin 4096) (⟨h.val * 64 + y.val, by omega⟩ : Fin 128)))
      * q (ix3 b t (⟨h.val * 256 + g.val * 64 + y.val, by omega⟩ : Fin 512))) * Ideal.ofBits .f32 0x3E000000#32 = (logit qr kcr klr b h g t j : EReal) := by
  unfold logit
  rw [div_eq_mul_one_div, EReal.coe_mul, ← coe_sum, eighth]
  refine congrArg (· * _) (Finset.sum_congr rfl fun y _ => ?_)
  rw [EReal.coe_mul, hq]
  refine congrArg (· * _) ?_
  by_cases hj : j.val < 256
  · rw [dif_pos hj, dif_pos hj, hc]
  · rw [dif_neg hj, dif_neg hj, hl]

theorem scoreVec_at (q : FVec Ideal S8x4096x512 .f32) (kc : FVec Ideal S8x256x128 .f32) (kl : FVec Ideal S8x4096x128 .f32)
    (qr : Queries ℝ) (kcr : Context ℝ) (klr : Latent ℝ) (hq : ∀ i, q i = (qr i : EReal)) (hc : ∀ i, kc i = (kcr i : EReal)) (hl : ∀ i, kl i = (klr i : EReal))
    (b : Fin 8) (h : Fin 2) (g : Fin 4) (t : Fin 4096) (j : Fin 4352) : scoreVec q kc kl (ix5 b h g t j) = (logit qr kcr klr b h g t j : EReal) := by
  pointwise [scoreVec]
  exact logit_factors q kc kl qr kcr klr hq hc hl b h g t j

theorem logit_ctx (qr : Queries ℝ) (kcr : Context ℝ) (klr : Latent ℝ) (b : Fin 8) (t : Fin 4096) (d : Fin 512) (j : Fin 256) :
    logit qr kcr klr b (groupOf d) (memberOf d) t ⟨j.val, by omega⟩ = dotC qr kcr b t d j / 8 := by
  unfold logit dotC
  refine congrArg (· / 8) (Finset.sum_congr rfl fun y _ => ?_)
  rw [dif_pos j.isLt]; rfl

theorem logit_lat (qr : Queries ℝ) (kcr : Context ℝ) (klr : Latent ℝ) (b : Fin 8) (t : Fin 4096) (d : Fin 512) (j : Fin 4096) :
    logit qr kcr klr b (groupOf d) (memberOf d) t ⟨256 + j.val, by omega⟩ = dotL qr klr b t d j / 8 := by
  unfold logit dotL
  refine congrArg (· / 8) (Finset.sum_congr rfl fun y _ => ?_)
  rw [dif_neg (show ¬ 256 + j.val < 256 by omega)]
  have e : ∀ hb : 256 + j.val - 256 < 4096, (⟨256 + j.val - 256, hb⟩ : Fin 4096) = j := fun _ => Fin.ext (by show 256 + j.val - 256 = j.val; omega)
  rw [e]; rfl

theorem expVec_at (s : FVec Ideal S8x2x4x4096x4352 .f32) (mx : FVec Ideal S8x2x4x4096 .f32) (b : Fin 8) (h : Fin 2) (g : Fin 4) (t : Fin 4096) (j : Fin 4352) :
    expVec s mx (ix5 b h g t j) = Ideal.exp (s (ix5 b h g t j) - mx (ix4 b h g t)) := by
  pointwise [expVec]

theorem sumVec_at (s : FVec Ideal S8x2x4x4096x4352 .f32) (b : Fin 8) (h : Fin 2) (g : Fin 4) (t : Fin 4096) :
    sumVec s (ix4 b h g t) = ∑ x : Fin 4352, s (ix5 b h g t x) := by
  pointwise [sumVec]

theorem outVec_at (vc : FVec Ideal S8x256x128 .f32) (vl : FVec Ideal S8x4096x128 .f32) (e : FVec Ideal S8x2x4x4096x4352 .f32) (l : FVec Ideal S8x2x4x4096 .f32) (b : Fin 8) (t : Fin 4096) (d : Fin 512) :
    outVec vc vl e l (ix3 b t d) =
      ∑ x : Fin 256, vc (ix3 b x (vLane d)) * Ideal.div (e (ix5 b (groupOf d) (memberOf d) t (⟨x.val, by omega⟩ : Fin 4352)))
          (l (ix4 b (groupOf d) (memberOf d) t))
      + ∑ x : Fin 4096, vl (ix3 b x (vLane d)) * Ideal.div (e (ix5 b (groupOf d) (memberOf d) t (⟨256 + x.val, by omega⟩ : Fin 4352)))
          (l (ix4 b (groupOf d) (memberOf d) t)) := by
  pointwise [outVec]
  rfl

/-- Values weighed by exponentials against a maximum `M`, each over the exponentials' sum: the maximum cancels. -/
theorem normalise {n : ℕ} (σ : Fin n → ℝ) (M W : ℝ) (hW : 0 < W) (v : Fin n → EReal) :
    ∑ x, v x * Ideal.div ((Real.exp (σ x - M) : ℝ) : EReal) ((Real.exp (-M) * W : ℝ) : EReal) = ((1 / W : ℝ) : EReal) * ∑ x, (Real.exp (σ x) : EReal) * v x := by
  rw [real_mul_sum _ (by positivity)]
  refine Finset.sum_congr rfl fun x _ => ?_
  have hne : Real.exp (-M) * W ≠ 0 := (mul_pos (Real.exp_pos _) hW).ne'
  rw [Ideal.div_coe hne, ← EReal.coe_mul, ← mul_assoc, ← EReal.coe_mul, mul_comm]
  congr 2
  rw [sub_eq_add_neg, Real.exp_add]
  have := (Real.exp_pos (-M)).ne'
  field_simp

theorem sum_split (f : Fin 4352 → ℝ) : ∑ j, f j = ∑ j : Fin 256, f ⟨j.val, by omega⟩ + ∑ j : Fin 4096, f ⟨256 + j.val, by omega⟩ :=
  Fin.sum_univ_add (a := 256) (b := 4096) f

theorem weights_sum (qr : Queries ℝ) (kcr : Context ℝ) (klr : Latent ℝ) (b : Fin 8) (t : Fin 4096) (d : Fin 512) (M : ℝ) :
    ∑ j : Fin 4352, Real.exp (logit qr kcr klr b (groupOf d) (memberOf d) t j - M) = Real.exp (-M) * total qr kcr klr b t d := by
  rw [sum_split]
  simp only [logit_ctx, logit_lat]
  unfold total
  rw [mul_add, Finset.mul_sum, Finset.mul_sum]
  refine congrArg₂ (· + ·) ?_ ?_ <;> exact Finset.sum_congr rfl fun j _ => by rw [← Real.exp_add, neg_add_eq_sub]

theorem stages_at (q : FVec Ideal S8x4096x512 .f32) (kc : FVec Ideal S8x256x128 .f32) (kl : FVec Ideal S8x4096x128 .f32)
    (vc : FVec Ideal S8x256x128 .f32) (vl : FVec Ideal S8x4096x128 .f32)
    (qr : Queries ℝ) (kcr : Context ℝ) (klr : Latent ℝ) (hq : ∀ i, q i = (qr i : EReal)) (hc : ∀ i, kc i = (kcr i : EReal)) (hl : ∀ i, kl i = (klr i : EReal))
    (b : Fin 8) (t : Fin 4096) (d : Fin 512) :
    outVec vc vl (expVec (scoreVec q kc kl) (maxVec (scoreVec q kc kl))) (sumVec (expVec (scoreVec q kc kl) (maxVec (scoreVec q kc kl)))) (ix3 b t d)
      = attend qr kcr klr vc vl b t d := by
  have hs := scoreVec_at q kc kl qr kcr klr hq hc hl
  generalize scoreVec q kc kl = s at hs ⊢
  have hs' : ∀ i, ∃ x : ℝ, s i = (x : EReal) := fun i => by
    idx_vars i
    exact ⟨_, hs _ _ _ _ _⟩
  rw [outVec_at, sumVec_at]
  obtain ⟨M, hM⟩ := maxVec_real s hs' b (groupOf d) (memberOf d) t
  have he : ∀ j, expVec s (maxVec s) (ix5 b (groupOf d) (memberOf d) t j)
      = ((Real.exp (logit qr kcr klr b (groupOf d) (memberOf d) t j - M) : ℝ) : EReal) := fun j => by
    rw [expVec_at, hs, hM, ← EReal.coe_sub, Ideal.exp_coe]
  simp only [he]
  have hW : ∑ j : Fin 4352, ((Real.exp (logit qr kcr klr b (groupOf d) (memberOf d) t j - M) : ℝ) : EReal)
      = ((Real.exp (-M) * total qr kcr klr b t d : ℝ) : EReal) := by
    rw [coe_sum]
    exact congrArg _ (weights_sum qr kcr klr b t d M)
  rw [hW]
  simp only [logit_ctx, logit_lat]
  rw [normalise _ M _ (total_pos qr kcr klr b t d), normalise _ M _ (total_pos qr kcr klr b t d), ← real_mul_add (by have := total_pos qr kcr klr b t d; positivity)]
  unfold attend
  exact mul_comm _ _

/-- The reference's result is softmax attention of its arguments. -/
theorem result_at (m : (ℓ : Loc nD τ sig) → Buf (Elt Ideal) ℓ) (c : Dev nD) (qr : Queries ℝ) (kcr : Context ℝ) (klr : Latent ℝ)
    (hq : ∀ i, (m ((c.tc : Thread nD τ).loc main_arg0) : Queries EReal) i = (qr i : EReal)) (hc : ∀ i, (m ((c.tc : Thread nD τ).loc main_arg1) : Context EReal) i = (kcr i : EReal))
    (hl : ∀ i, (m ((c.tc : Thread nD τ).loc main_arg3) : Latent EReal) i = (klr i : EReal)) (b : Fin 8) (t : Fin 4096) (d : Fin 512) :
    (res_main_v26 (F := Ideal) m c : Queries EReal) (ix3 b t d) = attend qr kcr klr (m ((c.tc : Thread nD τ).loc main_arg2)) (m ((c.tc : Thread nD τ).loc main_arg4)) b t d := by
  rw [result_stages]
  exact stages_at _ _ _ _ _ qr kcr klr hq hc hl b t d

end Cert.ReferenceIdeal.Attn

end
-- ==== Proof.AttnBlocks.lean ====
/-
  The blocks of one grid point of the attention kernel, as entries of the arguments: point `16 b + 8 h + j` has queries
  `512 j … 512 j + 511` of sample `b` on the lanes of group `h`, and the keys and values of the group, repeated for its heads.
-/
module

public import proofs.«01_k».proof.Proof.AttnPieces
public import proofs.«01_k».proof.Proof.AttnRef
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem
open Cert.Attn

/-- The window index maps, decided over the grid. -/
theorem index_facts : ∀ t : Fin cfg0.N,
    win0_0.index t (0 : Fin 3) = t.val / 16 ∧ win0_0.index t (1 : Fin 3) = t.val % 8 ∧ win0_0.index t (2 : Fin 3) = t.val / 8 % 2
    ∧ win0_2.index t (0 : Fin 3) = t.val / 16 ∧ win0_2.index t (1 : Fin 3) = 0 ∧ win0_2.index t (2 : Fin 3) = t.val / 8 % 2
    ∧ win0_3.index t (0 : Fin 3) = t.val / 16 ∧ win0_3.index t (1 : Fin 3) = 0 ∧ win0_3.index t (2 : Fin 3) = t.val / 8 % 2
    ∧ win0_4.index t (0 : Fin 3) = t.val / 16 ∧ win0_4.index t (1 : Fin 3) = 0 ∧ win0_4.index t (2 : Fin 3) = t.val / 8 % 2
    ∧ win0_5.index t (0 : Fin 3) = t.val / 16 ∧ win0_5.index t (1 : Fin 3) = 0 ∧ win0_5.index t (2 : Fin 3) = t.val / 8 % 2
    ∧ win0_6.index t (0 : Fin 3) = t.val / 16 ∧ win0_6.index t (1 : Fin 3) = t.val % 8 ∧ win0_6.index t (2 : Fin 3) = t.val / 8 % 2 :=
  (by decide +kernel : ∀ t : Fin grid0.N, _)

theorem ix3_ext {n0 n1 n2 : ℕ} {a a' : Fin n0} {b b' : Fin n1} {d d' : Fin n2} (h0 : a.val = a'.val) (h1 : b.val = b'.val) (h2 : d.val = d'.val) :
    ix3 a b d = ix3 a' b' d' := by
  obtain rfl := Fin.ext h0; obtain rfl := Fin.ext h1; obtain rfl := Fin.ext h2; rfl

variable (m : (ℓ : Loc nD τ sig) → Buf (Elt Ideal) ℓ)

/-- The arguments of core `c`. -/
def queries (c : Dev nD) : Queries EReal := m ((c.tc : Thread nD τ).loc main_arg0)
def contextKeys (c : Dev nD) : Context EReal := m ((c.tc : Thread nD τ).loc main_arg1)
def contextValues (c : Dev nD) : Context EReal := m ((c.tc : Thread nD τ).loc main_arg2)
def latentKeys (c : Dev nD) : Latent EReal := m ((c.tc : Thread nD τ).loc main_arg3)
def latentValues (c : Dev nD) : Latent EReal := m ((c.tc : Thread nD τ).loc main_arg4)

/-- The sample of a point, -/
def sampleOf (t : Fin cfg0.N) : Fin 8 := ⟨t.val / 16, by have h := lt_of_lt_of_eq t.isLt (show cfg0.N = 128 from N_0); omega⟩
/-- the query of its row, -/
def queryOf (t : Fin cfg0.N) (r : Fin 512) : Fin 4096 := ⟨512 * (t.val % 8) + r.val, by omega⟩
/-- the lane of its column, -/
def laneOf (t : Fin cfg0.N) (x : Fin 256) : Fin 512 := ⟨256 * (t.val / 8 % 2) + x.val, by omega⟩
/-- and the lane of the keys and values behind its column. -/
def sharedLane (t : Fin cfg0.N) (x : Fin 256) : Fin 128 := ⟨64 * (t.val / 8 % 2) + x.val % 64, by omega⟩

/-- The scale the queries carry. -/
def scale : EReal := Ideal.div (Ideal.ofBits .f32 0x3E000000#32) (Ideal.log (Ideal.ofBits .f32 0x40000000#32))

theorem blk0 (c : Dev nD) (t : Fin cfg0.N) (r : Fin 512) (x : Fin 256) :
    iblk m c 0 t (ix3 0 r x) = queries m c (ix3 (sampleOf t) (queryOf t r) (laneOf t x)) * scale := by
  obtain ⟨e0, e1, e2, -⟩ := index_facts t
  have hb0 : (((cfg0.win 0).blk t).view.emb (ix3 0 r x) 0).val = win0_0.index t (0 : Fin 3) * 1 + 1 * 0 := rfl
  have hb1 : (((cfg0.win 0).blk t).view.emb (ix3 0 r x) 1).val = win0_0.index t (1 : Fin 3) * 512 + 1 * r.val := rfl
  have hb2 : (((cfg0.win 0).blk t).view.emb (ix3 0 r x) 2).val = win0_0.index t (2 : Fin 3) * 256 + 1 * x.val := rfl
  have e : iblk m c 0 t (ix3 0 r x) = V m c main_v4 (((cfg0.win 0).blk t).view.emb (ix3 0 r x)) := rfl
  rw [e]
  generalize ((cfg0.win 0).blk t).view.emb (ix3 0 r x) = i at hb0 hb1 hb2 ⊢
  entry_read
  pointwise
  refine congrArg (fun z => queries m c z * scale) ?_
  rw [e0] at hb0; rw [e1] at hb1; rw [e2] at hb2
  funext a; apply Fin.ext
  match a with
  | ⟨0, _⟩ => exact hb0.trans (by show _ = t.val / 16; omega)
  | ⟨1, _⟩ => exact hb1.trans (by show _ = 512 * (t.val % 8) + r.val; omega)
  | ⟨2, _⟩ => exact hb2.trans (by show _ = 256 * (t.val / 8 % 2) + x.val; omega)

theorem blk2 (c : Dev nD) (t : Fin cfg0.N) (y : Fin 256) (x : Fin 256) :
    iblk m c 2 t (ix3 0 y x) = (contextKeys m c) (ix3 (sampleOf t) y (sharedLane t x)) := by
  obtain ⟨-, -, -, e0, e1, e2, -⟩ := index_facts t
  have hb0 : (((cfg0.win 2).blk t).view.emb (ix3 0 y x) 0).val = win0_2.index t (0 : Fin 3) * 1 + 1 * 0 := rfl
  have hb1 : (((cfg0.win 2).blk t).view.emb (ix3 0 y x) 1).val = win0_2.index t (1 : Fin 3) * 256 + 1 * y.val := rfl
  have hb2 : (((cfg0.win 2).blk t).view.emb (ix3 0 y x) 2).val = win0_2.index t (2 : Fin 3) * 256 + 1 * x.val := rfl
  have e : iblk m c 2 t (ix3 0 y x) = V m c main_v8 (((cfg0.win 2).blk t).view.emb (ix3 0 y x)) := rfl
  rw [e]
  generalize ((cfg0.win 2).blk t).view.emb (ix3 0 y x) = i at hb0 hb1 hb2 ⊢
  entry_read
  pointwise
  refine congrArg (contextKeys m c) (ix3_ext ?_ ?_ ?_)
  · show (i 0).val = _
    rw [hb0, e0]; simp only [sampleOf]; omega
  · show (i 1).val = _
    rw [hb1, e1]; omega
  · show (i 2).val / 256 * 64 + (i 2).val % 64 = _
    rw [hb2, e2]; simp only [sharedLane]; omega

theorem blk3 (c : Dev nD) (t : Fin cfg0.N) (y : Fin 256) (x : Fin 256) :
    iblk m c 3 t (ix3 0 y x) = (contextValues m c) (ix3 (sampleOf t) y (sharedLane t x)) := by
  obtain ⟨-, -, -, -, -, -, e0, e1, e2, -⟩ := index_facts t
  have hb0 : (((cfg0.win 3).blk t).view.emb (ix3 0 y x) 0).val = win0_3.index t (0 : Fin 3) * 1 + 1 * 0 := rfl
  have hb1 : (((cfg0.win 3).blk t).view.emb (ix3 0 y x) 1).val = win0_3.index t (1 : Fin 3) * 256 + 1 * y.val := rfl
  have hb2 : (((cfg0.win 3).blk t).view.emb (ix3 0 y x) 2).val = win0_3.index t (2 : Fin 3) * 256 + 1 * x.val := rfl
  have e : iblk m c 3 t (ix3 0 y x) = V m c main_v12 (((cfg0.win 3).blk t).view.emb (ix3 0 y x)) := rfl
  rw [e]
  generalize ((cfg0.win 3).blk t).view.emb (ix3 0 y x) = i at hb0 hb1 hb2 ⊢
  entry_read
  pointwise
  refine congrArg (contextValues m c) (ix3_ext ?_ ?_ ?_)
  · show (i 0).val = _
    rw [hb0, e0]; simp only [sampleOf]; omega
  · show (i 1).val = _
    rw [hb1, e1]; omega
  · show (i 2).val / 256 * 64 + (i 2).val % 64 = _
    rw [hb2, e2]; simp only [sharedLane]; omega

theorem blk4 (c : Dev nD) (t : Fin cfg0.N) (y : Fin 4096) (x : Fin 256) :
    iblk m c 4 t (ix3 0 y x) = (latentKeys m c) (ix3 (sampleOf t) y (sharedLane t x)) := by
  obtain ⟨-, -, -, -, -, -, -, -, -, e0, e1, e2, -⟩ := index_facts t
  have hb0 : (((cfg0.win 4).blk t).view.emb (ix3 0 y x) 0).val = win0_4.index t (0 : Fin 3) * 1 + 1 * 0 := rfl
  have hb1 : (((cfg0.win 4).blk t).view.emb (ix3 0 y x) 1).val = win0_4.index t (1 : Fin 3) * 4096 + 1 * y.val := rfl
  have hb2 : (((cfg0.win 4).blk t).view.emb (ix3 0 y x) 2).val = win0_4.index t (2 : Fin 3) * 256 + 1 * x.val := rfl
  have e : iblk m c 4 t (ix3 0 y x) = V m c main_v16 (((cfg0.win 4).blk t).view.emb (ix3 0 y x)) := rfl
  rw [e]
  generalize ((cfg0.win 4).blk t).view.emb (ix3 0 y x) = i at hb0 hb1 hb2 ⊢
  entry_read
  pointwise
  refine congrArg (latentKeys m c) (ix3_ext ?_ ?_ ?_)
  · show (i 0).val = _
    rw [hb0, e0]; simp only [sampleOf]; omega
  · show (i 1).val = _
    rw [hb1, e1]; omega
  · show (i 2).val / 256 * 64 + (i 2).val % 64 = _
    rw [hb2, e2]; simp only [sharedLane]; omega

theorem blk5 (c : Dev nD) (t : Fin cfg0.N) (y : Fin 4096) (x : Fin 256) :
    iblk m c 5 t (ix3 0 y x) = (latentValues m c) (ix3 (sampleOf t) y (sharedLane t x)) := by
  obtain ⟨-, -, -, -, -, -, -, -, -, -, -, -, e0, e1, e2, -⟩ := index_facts t
  have hb0 : (((cfg0.win 5).blk t).view.emb (ix3 0 y x) 0).val = win0_5.index t (0 : Fin 3) * 1 + 1 * 0 := rfl
  have hb1 : (((cfg0.win 5).blk t).view.emb (ix3 0 y x) 1).val = win0_5.index t (1 : Fin 3) * 4096 + 1 * y.val := rfl
  have hb2 : (((cfg0.win 5).blk t).view.emb (ix3 0 y x) 2).val = win0_5.index t (2 : Fin 3) * 256 + 1 * x.val := rfl
  have e : iblk m c 5 t (ix3 0 y x) = V m c main_v20 (((cfg0.win 5).blk t).view.emb (ix3 0 y x)) := rfl
  rw [e]
  generalize ((cfg0.win 5).blk t).view.emb (ix3 0 y x) = i at hb0 hb1 hb2 ⊢
  entry_read
  pointwise
  refine congrArg (latentValues m c) (ix3_ext ?_ ?_ ?_)
  · show (i 0).val = _
    rw [hb0, e0]; simp only [sampleOf]; omega
  · show (i 1).val = _
    rw [hb1, e1]; omega
  · show (i 2).val / 256 * 64 + (i 2).val % 64 = _
    rw [hb2, e2]; simp only [sharedLane]; omega

theorem chunk_at (X : Vec Ideal S1x4096x256 .bf16) (o : ℕ) (h : ∀ a, (![0, o, 0] : Fin 3 → Nat) a + S1x1024x256.size a ≤ S1x4096x256.size a) (ho : o + 1024 ≤ 4096) (j : Fin 1024) (x : Fin 256) :
    chunkAt X o h (ix3 0 j x) = X (ix3 0 (⟨o + j.val, by omega⟩ : Fin 4096) x) := by
  unfold chunkAt
  show X _ = _
  refine congrArg X ?_
  funext a; apply Fin.ext
  match a with
  | ⟨0, _⟩ => rfl
  | ⟨1, _⟩ => show o + 1 * j.val = o + j.val; omega
  | ⟨2, _⟩ => show 0 + 1 * x.val = x.val; omega

end Cert.KernelIdeal.Attn

end
-- ==== Proof.AttnScores.lean ====
/-
  A whole sweep, read at an entry of its block: the values weighed by powers of two of the scores of their own head, over the sum of the
  weights. Both the plain sweep and the one that carries a running maximum come to it.
-/
module

public import proofs.«01_k».proof.Proof.AttnAlgebra
public import proofs.«01_k».proof.Proof.AttnBlocks

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem

/-- Lane `y` of head `g` among the block's lanes. -/
def headLane (g : Fin 4) (y : Fin 64) : Fin 256 := ⟨64 * g.val + y.val, by omega⟩

/-- A sum over one head's lanes, masked out of all of them. -/
theorem sum_head (f : Fin 256 → ℝ) (g : Fin 4) : (∑ x : Fin 256, if headOf x = g then f x else 0) = ∑ y : Fin 64, f (headLane g y) := by
  rw [← (finProdFinEquiv (m := 4) (n := 64)).sum_comp (fun x : Fin 256 => if headOf x = g then f x else 0), Fintype.sum_prod_type]
  have h' : ∀ (a : Fin 4) (y : Fin 64), headOf (headLane a y) = a := fun a y => by
    apply Fin.ext; show (64 * a.val + y.val) / 64 = a.val; omega
  have e : ∀ (a : Fin 4) (y : Fin 64), (finProdFinEquiv (a, y) : Fin 256) = headLane a y := fun a y => by
    apply Fin.ext; show y.val + 64 * a.val = 64 * a.val + y.val; omega
  have s : ∀ a : Fin 4, (∑ y : Fin 64, if headOf (finProdFinEquiv (a, y) : Fin 256) = g then f (finProdFinEquiv (a, y)) else 0)
      = if a = g then ∑ y : Fin 64, f (headLane a y) else 0 := fun a => by
    simp only [e, h']
    by_cases ha : a = g <;> simp [ha]
  refine (Finset.sum_congr rfl fun a _ => s a).trans ?_
  simp

/-- The score of a stacked row against a key. -/
def stackedScore {n : ℕ} (q : Fin 512 → Fin 256 → ℝ) (k : Fin n → Fin 256 → ℝ) (R : Fin 2048) (j : Fin n) : ℝ :=
  ∑ x : Fin 256, (if headOf x = (⟨R.val / 512, by omega⟩ : Fin 4) then q ⟨R.val % 512, by omega⟩ x else 0) * k j x

/-- The score of a row, within the head of lane `d`, against a key. -/
def headScore {n : ℕ} (q : Fin 512 → Fin 256 → ℝ) (k : Fin n → Fin 256 → ℝ) (r : Fin 512) (d : Fin 256) (j : Fin n) : ℝ :=
  ∑ y : Fin 64, q r (headLane (headOf d) y) * k j (headLane (headOf d) y)

theorem stackedScore_row {n : ℕ} (q : Fin 512 → Fin 256 → ℝ) (k : Fin n → Fin 256 → ℝ) (r : Fin 512) (d : Fin 256) (j : Fin n) :
    stackedScore q k (rowOf (headOf d) r) j = headScore q k r d j := by
  have h1 : (⟨(rowOf (headOf d) r).val / 512, by omega⟩ : Fin 4) = headOf d := Fin.ext (by show (512 * (headOf d).val + r.val) / 512 = _; omega)
  have h2 : (⟨(rowOf (headOf d) r).val % 512, by omega⟩ : Fin 512) = r := Fin.ext (by show (512 * (headOf d).val + r.val) % 512 = _; omega)
  unfold stackedScore headScore
  rw [h1, h2, ← sum_head (fun x => q r x * k j x)]
  refine Finset.sum_congr rfl fun x _ => ?_
  split <;> simp

theorem stacked_real (q : FVec Ideal S512x256 .bf16) (qf : Fin 512 → Fin 256 → ℝ) (hq : ∀ r x, q (ix2 r x) = (qf r x : EReal)) (R : Fin 2048) (x : Fin 256) :
    stacked q (ix2 R x) = ((if headOf x = (⟨R.val / 512, by omega⟩ : Fin 4) then qf ⟨R.val % 512, by omega⟩ x else 0 : ℝ) : EReal) := by
  have h : R = rowOf ⟨R.val / 512, by omega⟩ ⟨R.val % 512, by omega⟩ := Fin.ext (by show R.val = 512 * (R.val / 512) + R.val % 512; omega)
  have h' : stacked q (ix2 R x) = stacked q (ix2 (rowOf ⟨R.val / 512, by omega⟩ ⟨R.val % 512, by omega⟩) x) := congrArg (fun z => stacked q (ix2 z x)) h
  rw [h', stacked_at]
  split
  · exact hq _ _
  · simp

section
variable {q : FVec Ideal S512x256 .bf16} {qf : Fin 512 → Fin 256 → ℝ} (hq : ∀ r x, q (ix2 r x) = (qf r x : EReal))
include hq

theorem scoresC_real {k : Vec Ideal S1x256x256 .bf16} {kf : Fin 256 → Fin 256 → ℝ} (hk : ∀ j x, k (ix3 0 j x) = (kf j x : EReal)) (R : Fin 2048) (j : Fin 256) :
    scoresC (stacked q) k (ix2 R j) = (stackedScore qf kf R j : EReal) := by
  rw [scoresC_at]
  unfold stackedScore
  rw [← coe_sum]
  refine Finset.sum_congr rfl fun x _ => ?_
  rw [stacked_real q qf hq, hk, EReal.coe_mul]

theorem scoresL_real {k : Vec Ideal S1x1024x256 .bf16} {kf : Fin 1024 → Fin 256 → ℝ} (hk : ∀ j x, k (ix3 0 j x) = (kf j x : EReal)) (R : Fin 2048) (j : Fin 1024) :
    scoresL (stacked q) k (ix2 R j) = (stackedScore qf kf R j : EReal) := by
  rw [scoresL_at]
  unfold stackedScore
  rw [← coe_sum]
  refine Finset.sum_congr rfl fun x _ => ?_
  rw [stacked_real q qf hq, hk, EReal.coe_mul]
end

/-- Key `j` of the chunk that starts at `o`. -/
def inChunk (o : ℕ) (ho : o + 1024 ≤ 4096) (j : Fin 1024) : Fin 4096 := ⟨o + j.val, by omega⟩

/-- A sum over the four chunks is the sum over all keys. -/
theorem sum_keys {M : Type} [AddCommMonoid M] (F : Fin 4096 → M) (a : M) :
    a + ∑ j, F (inChunk 0 (by omega) j) + ∑ j, F (inChunk 1024 (by omega) j) + ∑ j, F (inChunk 2048 (by omega) j) + ∑ j, F (inChunk 3072 (by omega) j)
      = a + ∑ j, F j := by
  rw [← (finProdFinEquiv (m := 4) (n := 1024)).sum_comp F, Fintype.sum_prod_type, Fin.sum_univ_four, add_assoc, add_assoc, add_assoc]
  refine congrArg (a + ·) ?_
  rw [add_assoc, add_assoc]
  have h : ∀ (k : Fin 4) (o : ℕ) (ho : o + 1024 ≤ 4096), o = 1024 * k.val → ∑ j, F (inChunk o ho j) = ∑ j : Fin 1024, F (finProdFinEquiv (k, j)) :=
    fun k o ho h => Finset.sum_congr rfl fun j _ => congrArg F (Fin.ext (by show o + j.val = j.val + 1024 * k.val; omega))
  rw [h 0 0 _ rfl, h 1 1024 _ rfl, h 2 2048 _ rfl, h 3 3072 _ rfl]

/-- The sum of a row's weights, and of its values by their weights. -/
def weights (qf : Fin 512 → Fin 256 → ℝ) (kc : Fin 256 → Fin 256 → ℝ) (kl : Fin 4096 → Fin 256 → ℝ) (r : Fin 512) (d : Fin 256) : ℝ :=
  ∑ j, wt (headScore qf kc r d j) + ∑ j, wt (headScore qf kl r d j)
def weighted (qf : Fin 512 → Fin 256 → ℝ) (kc : Fin 256 → Fin 256 → ℝ) (kl : Fin 4096 → Fin 256 → ℝ) (vc : Fin 256 → Fin 256 → EReal) (vl : Fin 4096 → Fin 256 → EReal)
    (r : Fin 512) (d : Fin 256) : EReal :=
  ∑ j, (wt (headScore qf kc r d j) : EReal) * vc j d + ∑ j, (wt (headScore qf kl r d j) : EReal) * vl j d

/-- What a sweep has kept at its end. -/
def endW (qf : Fin 512 → Fin 256 → ℝ) (kc : Fin 256 → Fin 256 → ℝ) (kl : Fin 4096 → Fin 256 → ℝ) : Fin 2048 → ℝ :=
  moreW (moreW (moreW (moreW (moreW (fun _ => 0) (stackedScore qf kc)) (stackedScore qf fun j => kl (inChunk 0 (by omega) j)))
    (stackedScore qf fun j => kl (inChunk 1024 (by omega) j))) (stackedScore qf fun j => kl (inChunk 2048 (by omega) j)))
    (stackedScore qf fun j => kl (inChunk 3072 (by omega) j))
def endA (qf : Fin 512 → Fin 256 → ℝ) (kc : Fin 256 → Fin 256 → ℝ) (kl : Fin 4096 → Fin 256 → ℝ) (vc : Fin 256 → Fin 256 → EReal) (vl : Fin 4096 → Fin 256 → EReal) :
    Fin 512 → Fin 256 → EReal :=
  moreA (moreA (moreA (moreA (moreA (fun _ _ => 0) (stackedScore qf kc) vc) (stackedScore qf fun j => kl (inChunk 0 (by omega) j)) fun j => vl (inChunk 0 (by omega) j))
    (stackedScore qf fun j => kl (inChunk 1024 (by omega) j)) fun j => vl (inChunk 1024 (by omega) j)) (stackedScore qf fun j => kl (inChunk 2048 (by omega) j)) fun j => vl (inChunk 2048 (by omega) j))
    (stackedScore qf fun j => kl (inChunk 3072 (by omega) j)) fun j => vl (inChunk 3072 (by omega) j)

theorem endW_row (qf : Fin 512 → Fin 256 → ℝ) (kc : Fin 256 → Fin 256 → ℝ) (kl : Fin 4096 → Fin 256 → ℝ) (r : Fin 512) (d : Fin 256) :
    endW qf kc kl (rowOf (headOf d) r) = weights qf kc kl r d := by
  simp only [endW, moreW, stackedScore_row, zero_add]
  exact sum_keys (fun j => wt (headScore qf kl r d j)) _

theorem endA_row (qf : Fin 512 → Fin 256 → ℝ) (kc : Fin 256 → Fin 256 → ℝ) (kl : Fin 4096 → Fin 256 → ℝ) (vc : Fin 256 → Fin 256 → EReal) (vl : Fin 4096 → Fin 256 → EReal)
    (r : Fin 512) (d : Fin 256) : endA qf kc kl vc vl r d = weighted qf kc kl vc vl r d := by
  simp only [endA, moreA, stackedScore_row, zero_add]
  exact sum_keys (fun j => (wt (headScore qf kl r d j) : EReal) * vl j d) _

theorem moreW_pos {n : ℕ} {W : Fin 2048 → ℝ} {σ : Fin 2048 → Fin n → ℝ} (h : ∀ R, 0 < W R) (R : Fin 2048) : 0 < moreW W σ R :=
  add_pos_of_pos_of_nonneg (h R) (Finset.sum_nonneg fun j _ => (wt_pos _).le)

theorem endW_pos (qf : Fin 512 → Fin 256 → ℝ) (kc : Fin 256 → Fin 256 → ℝ) (kl : Fin 4096 → Fin 256 → ℝ) (R : Fin 2048) : 0 < endW qf kc kl R := by
  refine moreW_pos (moreW_pos (moreW_pos (moreW_pos fun R => ?_))) R
  show 0 < 0 + ∑ j, wt (stackedScore qf kc R j)
  rw [zero_add]
  exact Finset.sum_pos (fun j _ => wt_pos _) ⟨0, Finset.mem_univ _⟩

section
variable {q : FVec Ideal S512x256 .bf16} {qf : Fin 512 → Fin 256 → ℝ} (hq : ∀ r x, q (ix2 r x) = (qf r x : EReal))
  {kc vc : Vec Ideal S1x256x256 .bf16} {kcf : Fin 256 → Fin 256 → ℝ} (hkc : ∀ j x, kc (ix3 0 j x) = (kcf j x : EReal))
  {kl vl : Vec Ideal S1x4096x256 .bf16} {klf : Fin 4096 → Fin 256 → ℝ} (hkl : ∀ j x, kl (ix3 0 j x) = (klf j x : EReal))
include hq hkc hkl

theorem scores_chunk (o : ℕ) (h : ∀ a, (![0, o, 0] : Fin 3 → Nat) a + S1x1024x256.size a ≤ S1x4096x256.size a) (ho : o + 1024 ≤ 4096) (R : Fin 2048) (j : Fin 1024) :
    scoresL (stacked q) (chunkAt kl o h) (ix2 R j) = (stackedScore qf (fun j => klf (inChunk o ho j)) R j : EReal) :=
  scoresL_real hq (fun j x => (chunk_at kl o h ho j x).trans (hkl _ _)) R j

theorem values_chunk (o : ℕ) (h : ∀ a, (![0, o, 0] : Fin 3 → Nat) a + S1x1024x256.size a ≤ S1x4096x256.size a) (ho : o + 1024 ≤ 4096) :
    (fun (j : Fin 1024) (d : Fin 256) => (chunkAt vl o h (ix3 0 j d) : EReal)) = fun j d => vl (ix3 0 (inChunk o ho j) d) := by
  funext j d
  exact chunk_at vl o h ho j d

theorem plain_sweep (h0 h1 h2 h3) (r : Fin 512) (d : Fin 256) :
    plainSweep q kc vc (chunkAt kl 0 h0) (chunkAt vl 0 h0) (chunkAt kl 1024 h1) (chunkAt vl 1024 h1) (chunkAt kl 2048 h2) (chunkAt vl 2048 h2) (chunkAt kl 3072 h3) (chunkAt vl 3072 h3) (ix2 r d)
      = weighted qf kcf klf (fun j d => vc (ix3 0 j d)) (fun j d => vl (ix3 0 j d)) r d * ((1 / weights qf kcf klf r d : ℝ) : EReal) := by
  have e1 := plainC_inv (v := vc) plain_start (scoresC_real hq hkc)
  have e2 := plainL_inv (v := chunkAt vl 0 h0) e1 (scores_chunk hq hkc hkl 0 h0 (by omega))
  have e3 := plainL_inv (v := chunkAt vl 1024 h1) e2 (scores_chunk hq hkc hkl 1024 h1 (by omega))
  have e4 := plainL_inv (v := chunkAt vl 2048 h2) e3 (scores_chunk hq hkc hkl 2048 h2 (by omega))
  have e5 := plainL_inv (v := chunkAt vl 3072 h3) e4 (scores_chunk hq hkc hkl 3072 h3 (by omega))
  rw [values_chunk hq hkc hkl 0 h0 (by omega), values_chunk hq hkc hkl 1024 h1 (by omega), values_chunk hq hkc hkl 2048 h2 (by omega), values_chunk hq hkc hkl 3072 h3 (by omega)] at e5
  have e : PlainInv (plainEnd (stacked q) kc vc (chunkAt kl 0 h0) (chunkAt vl 0 h0) (chunkAt kl 1024 h1) (chunkAt vl 1024 h1) (chunkAt kl 2048 h2) (chunkAt vl 2048 h2) (chunkAt kl 3072 h3) (chunkAt vl 3072 h3))
      (endW qf kcf klf) (endA qf kcf klf (fun j d => vc (ix3 0 j d)) (fun j d => vl (ix3 0 j d))) := e5
  refine (plain_finish e (endW_pos _ _ _) r d).trans ?_
  rw [endA_row, endW_row]

theorem guarded_sweep (h0 h1 h2 h3) (r : Fin 512) (d : Fin 256) :
    guardedSweep q kc vc (chunkAt kl 0 h0) (chunkAt vl 0 h0) (chunkAt kl 1024 h1) (chunkAt vl 1024 h1) (chunkAt kl 2048 h2) (chunkAt vl 2048 h2) (chunkAt kl 3072 h3) (chunkAt vl 3072 h3) (ix2 r d)
      = weighted qf kcf klf (fun j d => vc (ix3 0 j d)) (fun j d => vl (ix3 0 j d)) r d * ((1 / weights qf kcf klf r d : ℝ) : EReal) := by
  have e1 := guardedC_inv (v := vc) guarded_start (scoresC_real hq hkc)
  have e2 := guardedL_inv (v := chunkAt vl 0 h0) e1 (scores_chunk hq hkc hkl 0 h0 (by omega))
  have e3 := guardedL_inv (v := chunkAt vl 1024 h1) e2 (scores_chunk hq hkc hkl 1024 h1 (by omega))
  have e4 := guardedL_inv (v := chunkAt vl 2048 h2) e3 (scores_chunk hq hkc hkl 2048 h2 (by omega))
  have e5 := guardedL_inv (v := chunkAt vl 3072 h3) e4 (scores_chunk hq hkc hkl 3072 h3 (by omega))
  rw [values_chunk hq hkc hkl 0 h0 (by omega), values_chunk hq hkc hkl 1024 h1 (by omega), values_chunk hq hkc hkl 2048 h2 (by omega), values_chunk hq hkc hkl 3072 h3 (by omega)] at e5
  have e : GuardInv (guardedEnd (stacked q) kc vc (chunkAt kl 0 h0) (chunkAt vl 0 h0) (chunkAt kl 1024 h1) (chunkAt vl 1024 h1) (chunkAt kl 2048 h2) (chunkAt vl 2048 h2) (chunkAt kl 3072 h3) (chunkAt vl 3072 h3))
      (endW qf kcf klf) (endA qf kcf klf (fun j d => vc (ix3 0 j d)) (fun j d => vl (ix3 0 j d))) := e5
  refine (guarded_finish e (endW_pos _ _ _) r d).trans ?_
  rw [endA_row, endW_row]
end

end Cert.KernelIdeal.Attn

end
-- ==== Proof.AttnValue.lean ====
/-
  The attention kernel's value: each block either sweep leaves is softmax attention of the arguments, hence so is the result array, hence
  kernel and reference agree wherever the queries and the keys are real.
-/
module

public import proofs.«01_k».proof.Proof.AttnScores
public import Idealize.ShloMosaic.Lib.Pipeline.ArrRel
public import Idealize.ShloMosaic.Lib.WordArith
public import Idealize.ShloMosaic.Lib.ReduceAll

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem
open Idealize.ShloMosaic.Pipeline (Dat RDat Cfg Window)
open Cert.Attn

/-- The scale is `1 / (8 log 2)`. -/
theorem scale_eq : scale = ((1 / 8 * (1 / Real.log 2) : ℝ) : EReal) := by
  have h2 : Ideal.ofBits .f32 0x40000000#32 = ((2 : ℝ) : EReal) := by
    simp [Ideal.ofBits, Ideal.ieee]
    rw [← EReal.coe_mul]; norm_num
  have h8 : Ideal.ofBits .f32 0x3E000000#32 = ((1 / 8 : ℝ) : EReal) := by
    simp [Ideal.ofBits, Ideal.ieee]
    rw [← EReal.coe_mul]; norm_num
  have hl : Real.log 2 ≠ 0 := (Real.log_pos (by norm_num)).ne'
  unfold scale
  rw [h2, h8, Ideal.log_coe, if_neg (by norm_num), Ideal.div_coe hl, ← EReal.coe_mul]

/-- A power of two of a scaled score is the exponential of an eighth of the score. -/
theorem wt_scaled (x : ℝ) : wt (x * (1 / 8 * (1 / Real.log 2))) = Real.exp (x / 8) := by
  have hl : Real.log 2 ≠ 0 := (Real.log_pos (by norm_num)).ne'
  show (2 : ℝ) ^ (x * (1 / 8 * (1 / Real.log 2))) = _
  rw [Real.rpow_def_of_pos (by norm_num)]
  congr 1
  field_simp

variable (m : (ℓ : Loc nD τ sig) → Buf (Elt Ideal) ℓ)

/-- The arguments' reals. -/
def realQueries (c : Dev nD) : Queries ℝ := fun i => (queries m c i).toReal
def realContext (c : Dev nD) : Context ℝ := fun i => (contextKeys m c i).toReal
def realLatent (c : Dev nD) : Latent ℝ := fun i => (latentKeys m c i).toReal

/-- The queries and keys are real. -/
structure Finite (c : Dev nD) : Prop where
  q : ∀ i, queries m c i = (realQueries m c i : EReal)
  kc : ∀ i, contextKeys m c i = (realContext m c i : EReal)
  kl : ∀ i, latentKeys m c i = (realLatent m c i : EReal)

section
variable (t : Fin cfg0.N) (d : Fin 256) (y : Fin 64)

theorem laneOf_head : laneOf t (headLane (headOf d) y) = qLane (laneOf t d) y := by
  have hN := lt_of_lt_of_eq t.isLt (show cfg0.N = 128 from N_0)
  have h1 : (256 * (t.val / 8 % 2) + d.val) / 256 = t.val / 8 % 2 := by omega
  have h2 : (256 * (t.val / 8 % 2) + d.val) / 64 % 4 = d.val / 64 := by omega
  apply Fin.ext
  show 256 * (t.val / 8 % 2) + (64 * (d.val / 64) + y.val) = (256 * (t.val / 8 % 2) + d.val) / 256 * 256 + (256 * (t.val / 8 % 2) + d.val) / 64 % 4 * 64 + y.val
  omega
theorem sharedLane_head : sharedLane t (headLane (headOf d) y) = kLane (laneOf t d) y := by
  apply Fin.ext
  show 64 * (t.val / 8 % 2) + (64 * (d.val / 64) + y.val) % 64 = (256 * (t.val / 8 % 2) + d.val) / 256 * 64 + y.val
  omega
theorem sharedLane_value : sharedLane t d = vLane (laneOf t d) := by
  apply Fin.ext
  show 64 * (t.val / 8 % 2) + d.val % 64 = (256 * (t.val / 8 % 2) + d.val) / 256 * 64 + (256 * (t.val / 8 % 2) + d.val) % 64
  omega
end

/-- The scaled queries and the keys of a point. -/
def pointQueries (c : Dev nD) (t : Fin cfg0.N) : Fin 512 → Fin 256 → ℝ := fun r x => realQueries m c (ix3 (sampleOf t) (queryOf t r) (laneOf t x)) * (1 / 8 * (1 / Real.log 2))
def pointContext (c : Dev nD) (t : Fin cfg0.N) : Fin 256 → Fin 256 → ℝ := fun j x => realContext m c (ix3 (sampleOf t) j (sharedLane t x))
def pointLatent (c : Dev nD) (t : Fin cfg0.N) : Fin 4096 → Fin 256 → ℝ := fun j x => realLatent m c (ix3 (sampleOf t) j (sharedLane t x))

theorem weight_context (c : Dev nD) (t : Fin cfg0.N) (r : Fin 512) (d : Fin 256) (j : Fin 256) :
    wt (headScore (pointQueries m c t) (pointContext m c t) r d j)
      = Real.exp (dotC (realQueries m c) (realContext m c) (sampleOf t) (queryOf t r) (laneOf t d) j / 8) := by
  rw [← wt_scaled]
  refine congrArg wt ?_
  unfold headScore dotC pointQueries pointContext
  rw [Finset.sum_mul]
  refine Finset.sum_congr rfl fun y _ => ?_
  rw [laneOf_head, sharedLane_head]
  ring

theorem weight_latent (c : Dev nD) (t : Fin cfg0.N) (r : Fin 512) (d : Fin 256) (j : Fin 4096) :
    wt (headScore (pointQueries m c t) (pointLatent m c t) r d j)
      = Real.exp (dotL (realQueries m c) (realLatent m c) (sampleOf t) (queryOf t r) (laneOf t d) j / 8) := by
  rw [← wt_scaled]
  refine congrArg wt ?_
  unfold headScore dotL pointQueries pointLatent
  rw [Finset.sum_mul]
  refine Finset.sum_congr rfl fun y _ => ?_
  rw [laneOf_head, sharedLane_head]
  ring

/-- The attention of core `c`'s arguments. -/
def attention (c : Dev nD) (b : Fin 8) (t : Fin 4096) (d : Fin 512) : EReal :=
  attend (realQueries m c) (realContext m c) (realLatent m c) (contextValues m c) (latentValues m c) b t d

theorem weighted_at (c : Dev nD) (t : Fin cfg0.N) (r : Fin 512) (d : Fin 256) :
    weighted (pointQueries m c t) (pointContext m c t) (pointLatent m c t) (fun j d => iblk m c 3 t (ix3 0 j d)) (fun j d => iblk m c 5 t (ix3 0 j d)) r d
        * ((1 / weights (pointQueries m c t) (pointContext m c t) (pointLatent m c t) r d : ℝ) : EReal)
      = attention m c (sampleOf t) (queryOf t r) (laneOf t d) := by
  unfold weighted weights attention attend total
  simp only [weight_context, weight_latent]
  have h3 : ∀ j, (iblk m c 3 t (ix3 0 j d) : EReal) = contextValues m c (ix3 (sampleOf t) j (vLane (laneOf t d))) := fun j => by rw [blk3, sharedLane_value]
  have h5 : ∀ j, (iblk m c 5 t (ix3 0 j d) : EReal) = latentValues m c (ix3 (sampleOf t) j (vLane (laneOf t d))) := fun j => by rw [blk5, sharedLane_value]
  refine congrArg (· * _) (congrArg₂ (· + ·) (Finset.sum_congr rfl fun j _ => congrArg (_ * ·) (h3 j)) (Finset.sum_congr rfl fun j _ => congrArg (_ * ·) (h5 j)))

theorem unstack_at (x : Vec Ideal S1x512x256 .bf16) (r : Fin 512) (d : Fin 256) :
    shapeCast S512x256 x shapeCasts_S1x512x256_S512x256 (ix2 r d) = x (ix3 0 r d) := by
  pointwise

theorem stored_at (x : FVec Ideal S512x256 .f32) (r : Fin 512) (d : Fin 256) :
    shapeCast S1x512x256 (truncf .bf16 x bitsLt_bf16_f32) shapeCasts_S512x256_S1x512x256 (ix3 0 r d) = x (ix2 r d) := by
  pointwise

/-- Either sweep, read at an entry. -/
theorem sweepAt_eq (c : Dev nD) (hf : Finite m c) (t : Fin cfg0.N) (b : Bool) (r : Fin 512) (d : Fin 256) :
    sweepAt m c t b (ix2 r d) = attention m c (sampleOf t) (queryOf t r) (laneOf t d) := by
  have hq : ∀ r x, (shapeCast S512x256 (iblk m c 0 t : Vec Ideal S1x512x256 .bf16) shapeCasts_S1x512x256_S512x256 : FVec Ideal S512x256 .bf16) (ix2 r x) = (pointQueries m c t r x : EReal) := fun r x => by
    refine (unstack_at _ r x).trans ((blk0 m c t r x).trans ?_)
    rw [hf.q, scale_eq, ← EReal.coe_mul]
    rfl
  have hkc : ∀ j x, (iblk m c 2 t : Vec Ideal S1x256x256 .bf16) (ix3 0 j x) = (pointContext m c t j x : EReal) := fun j x => (blk2 m c t j x).trans (hf.kc _)
  have hkl : ∀ j x, (iblk m c 4 t : Vec Ideal S1x4096x256 .bf16) (ix3 0 j x) = (pointLatent m c t j x : EReal) := fun j x => (blk4 m c t j x).trans (hf.kl _)
  refine Eq.trans ?_ (weighted_at m c t r d)
  unfold sweepAt
  cases b
  · exact guarded_sweep (vc := iblk m c 3 t) (vl := iblk m c 5 t) hq hkc hkl _ _ _ _ r d
  · exact plain_sweep (vc := iblk m c 3 t) (vl := iblk m c 5 t) hq hkc hkl _ _ _ _ r d

theorem swept_at (c : Dev nD) (hf : Finite m c) (t : Fin cfg0.N) (b : Bool) (r : Fin 512) (d : Fin 256) :
    swept m c t b (ix3 0 r d) = attention m c (sampleOf t) (queryOf t r) (laneOf t d) := by
  rw [swept_eq]
  exact (stored_at _ r d).trans (sweepAt_eq m c hf t b r d)

/-- A flushed output block lies at its point's sample, queries and lanes. -/
theorem blk6_emb (t : Fin cfg0.N) (r : Fin 512) (d : Fin 256) :
    (((cfg0.win 6).blk t).view.emb (ix3 0 r d) : S8x4096x512.Idx) = ix3 (sampleOf t) (queryOf t r) (laneOf t d) := by
  obtain ⟨-, -, -, -, -, -, -, -, -, -, -, -, -, -, -, e0, e1, e2⟩ := index_facts t
  have hb0 : (((cfg0.win 6).blk t).view.emb (ix3 0 r d) 0).val = win0_6.index t (0 : Fin 3) * 1 + 1 * 0 := rfl
  have hb1 : (((cfg0.win 6).blk t).view.emb (ix3 0 r d) 1).val = win0_6.index t (1 : Fin 3) * 512 + 1 * r.val := rfl
  have hb2 : (((cfg0.win 6).blk t).view.emb (ix3 0 r d) 2).val = win0_6.index t (2 : Fin 3) * 256 + 1 * d.val := rfl
  rw [e0] at hb0; rw [e1] at hb1; rw [e2] at hb2
  funext a; apply Fin.ext
  match a with
  | ⟨0, _⟩ => exact hb0.trans (by show _ = t.val / 16; omega)
  | ⟨1, _⟩ => exact hb1.trans (by show _ = 512 * (t.val % 8) + r.val; omega)
  | ⟨2, _⟩ => exact hb2.trans (by show _ = 256 * (t.val / 8 % 2) + d.val; omega)

/-- The attention of core `c`'s arguments, as the result array. -/
def attentionArray (c : Dev nD) : Queries EReal := fun i => attention m c (i 0) (i 1) (i 2)

/-- Data whose output blocks are attention end with the result array at attention. -/
theorem array_eq (c : Dev nD) (dat : Dat τ (Elt Ideal) Unit ℕ (UR sig nD τ) ℕ cfg0 c)
    (h : ∀ t r d, (dat.after 6 t : Vec Ideal S1x512x256 .bf16) (ix3 0 r d) = attention m c (sampleOf t) (queryOf t r) (laneOf t d)) :
    dat.arrAt 6 cfg0.N = attentionArray m c := by
  refine dat.arrAt_eq_of_covers 6 _ (by decide +kernel) fun t hf y => ?_
  have hy : ∀ y : S1x512x256.Idx, ∃ (r : Fin 512) (d : Fin 256), y = ix3 0 r d := fun y => ⟨y 1, y 2, by
    idx_vars y
    exact ix3_ext (by show y0.val = 0; omega) rfl rfl⟩
  obtain ⟨r, d, rfl⟩ := hy y
  refine (h t r d).trans ?_
  exact (congrArg (attentionArray m c) (blk6_emb t r d)).symm

/-- What a run leaves in the result array. -/
theorem result_of_post (r : PUnit × MemSt nD τ sig (Elt Ideal)) (h : RDat.FramePost cfg0 (rdat m) (V m) r) (c : Dev nD) (hf : Finite m c) :
    r.2.mem ((c.tc : Thread nD τ).loc main_v21) = attentionArray m c := by
  obtain ⟨after, hL, hA⟩ := h.exists_exact c
  refine (hA 6).trans (array_eq m c _ fun t r' d => ?_)
  obtain ⟨b, hb⟩ : related m c 6 t (after 6 t) := Dat.toRRel_leaves (dats m 0 c) (w := 6) rfl (hL 6 t (flush0_6 t))
  exact (congrFun hb (ix3 0 r' d)).trans (swept_at m c hf t b r' d)

/-- The kernel's run: its result is softmax attention of its arguments. -/
theorem kernel_run (ρ : Dev nD → PrngReg) (hf : ∀ c, Finite m c) :
    θ_run defs (onTc (τ := τ) (main (F := Ideal))) ⟨m, fun _ => 0, ρ⟩ fun r => ∀ c : Dev nD,
      r.2.mem ((c.tc : Thread nD τ).loc main_v21) = attentionArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨result_of_post m r h.1 c (hf c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_main m ρ)

end Cert.KernelIdeal.Attn

end
-- ==== Proof.AttnClaim.lean ====
/-
  The attention claim: where the precondition holds, the queries and the keys are real, and the kernel's run and the reference's leave the
  same result.
-/
module

public import proofs.«01_k».proof.Proof.AttnValue
public import proofs.«01_k».proof.Pre_finite_queries_and_keys

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem
open Cert.Attn

theorem finite_facts : Cert.Pre_finite_queries_and_keys.Facts := ⟨by decide, by decide, by decide, by decide, by decide, by decide, by decide⟩

theorem real_of_abs {x : EReal} (h : max x (-x) < ⊤) : x = ((x.toReal : ℝ) : EReal) := by
  refine (EReal.coe_toReal ?_ ?_).symm
  · rintro rfl; simp at h
  · rintro rfl; simp at h

theorem real_of_bit {x : EReal} (h : BitVec.ofBool (decide (max x (-x) < Ideal.ofBits .f32 0x7F800000#32)) = 1#1) : x = ((x.toReal : ℝ) : EReal) := by
  have htop : Ideal.ofBits .f32 0x7F800000#32 = ⊤ := by simp [Ideal.ofBits, Ideal.ieee]
  rw [WordArith.ofBool_eq_one_iff, decide_eq_true_eq, htop] at h
  exact real_of_abs h

/-- The precondition, read: queries and keys are real. -/
theorem real_of_pre (q : FVec Ideal Cert.Pre_finite_queries_and_keys.S8x4096x512 .f32) (kc vc : FVec Ideal Cert.Pre_finite_queries_and_keys.S8x256x128 .f32)
    (kl vl : FVec Ideal Cert.Pre_finite_queries_and_keys.S8x4096x128 .f32) (hPre : Cert.Pre_finite_queries_and_keys.Facts)
    (h : Cert.Pre_finite_queries_and_keys.fn (F := Ideal) q kc vc kl vl = fun _ => 1#1) :
    (∀ i, (q i : EReal) = ((q i : EReal).toReal : EReal)) ∧ (∀ i, (kc i : EReal) = ((kc i : EReal).toReal : EReal)) ∧ ∀ i, (kl i : EReal) = ((kl i : EReal).toReal : EReal) := by
  have h0 := congrFun h ix0
  dsimp only [Cert.Pre_finite_queries_and_keys.fn] at h0
  obtain ⟨hq, h1⟩ := IntOp.andi_eq_one.mp h0
  obtain ⟨hkc, hkl⟩ := IntOp.andi_eq_one.mp h1
  refine ⟨fun i => ?_, fun i => ?_, fun i => ?_⟩
  · have h := Host.reduce_andi_all _ _ _ _ _ hq i
    pointwise at h
    exact real_of_bit h
  · have h := Host.reduce_andi_all _ _ _ _ _ hkc i
    pointwise at h
    exact real_of_bit h
  · have h := Host.reduce_andi_all _ _ _ _ _ hkl i
    pointwise at h
    exact real_of_bit h

/-- Over the extended reals the kernel and the reference leave the same result, for real queries and keys. -/
theorem algebraic [hP : Cert.Pre_finite_queries_and_keys.Facts] :
    Cert.algebraic_KernelIdeal_ReferenceIdeal_pre_finite_queries_and_keys (hKernelIdeal := Cert.KernelIdeal.Gen.facts) (hReferenceIdeal := Cert.ReferenceIdeal.Gen.facts) (hPre_finite_queries_and_keys := hP) := by
  intro m g m' g' hpre hargs
  have hf : ∀ c, Finite m c := fun c =>
    let h := real_of_pre _ _ _ _ _ hP (hpre c)
    ⟨h.1, h.2.1, h.2.2⟩
  refine ⟨attentionArray m, kernel_run m g hf, (θ_run _ _ _).mono (fun r h c => ⟨(h c).1.trans ?_, (h c).2⟩) (Cert.ReferenceIdeal.Value.run (F := Ideal) m' g')⟩
  obtain ⟨h0, h1, h2, h3, h4⟩ := hargs c
  have e : ∀ i : S8x4096x512.Idx, (Cert.ReferenceIdeal.Value.res_main_v26 (F := Ideal) m' c : Queries EReal) i = attentionArray m c i := fun i => by
    idx_vars i
    refine (Cert.ReferenceIdeal.Attn.result_at m' c (realQueries m c) (realContext m c) (realLatent m c) (fun i => ?_) (fun i => ?_) (fun i => ?_) i0 i1 i2).trans ?_
    · rw [h0]; exact (hf c).q i
    · rw [h1]; exact (hf c).kc i
    · rw [h3]; exact (hf c).kl i
    · rw [h2, h4]; rfl
  exact funext e

end Cert.KernelIdeal.Attn

end
-- ==== Proof.FfnSpec.lean ====
/-
  What the expert feed-forward computes, written plainly over the extended reals, and the reference's run read as it. Token
  `r` of expert `e` is slot `r % 512` of sample `r / 512`.
-/
module

public import proofs.«01_k».proof.Defs
public import proofs.«01_k».proof.Proof.Gen.Reference2Ideal.Run
public import Idealize.ShloMosaic.Lib.Pointwise
public import Idealize.ShloMosaic.Lib.ReduceAll
public import Idealize.ShloMosaic.Lib.WordArith
public import Idealize.ShloMosaic.Lib.Claim

@[expose] public section

set_option maxRecDepth 16384

noncomputable section

namespace Cert.Ffn

open Idealize.ShloMosaic Idealize.SL.Sem Idealize.ShloMosaic.TcCoe

abbrev Tokens : Type := (⟨4, ![8, 16, 512, 1024]⟩ : Shape).Idx → EReal
abbrev Widening : Type := (⟨4, ![2, 16, 1024, 2048]⟩ : Shape).Idx → EReal
abbrev Narrowing : Type := (⟨4, ![2, 16, 2048, 1024]⟩ : Shape).Idx → EReal
abbrev Gates : Type := (⟨3, ![8, 16, 512]⟩ : Shape).Idx → EReal

/-- Token `r` of expert `e`, projected on hidden unit `f` by the first layer of `w`. -/
def proj (x : Tokens) (w : Widening) (e : Fin 16) (r : Fin 4096) (f : Fin 2048) : EReal :=
  ∑ k : Fin 1024, x (ix4 (⟨r.val / 512, by omega⟩ : Fin 8) e (⟨r.val % 512, by omega⟩ : Fin 512) k) * w (ix4 (0 : Fin 2) e k f)

/-- Hidden unit `f` of the token: the logistic gating of one projection, times the other. -/
def hidden (x : Tokens) (wg wu : Widening) (e : Fin 16) (r : Fin 4096) (f : Fin 2048) : EReal :=
  proj x wg e r f * Ideal.div 1 (1 + Ideal.exp (-proj x wg e r f)) * proj x wu e r f

/-- The token's gate. -/
def gateOf (g : Gates) (e : Fin 16) (r : Fin 4096) : EReal :=
  g (ix3 (⟨r.val / 512, by omega⟩ : Fin 8) e (⟨r.val % 512, by omega⟩ : Fin 512))

/-- The feed-forward network's result. -/
def ffn (x : Tokens) (wg wu : Widening) (wd : Narrowing) (g : Gates) (e : Fin 16) (r : Fin 4096) (d : Fin 1024) : EReal :=
  gateOf g e r * ∑ f : Fin 2048, hidden x wg wu e r f * wd (ix4 (0 : Fin 2) e f d)

/-- The same with the factors of every product in the other order. -/
theorem ffn_factors (x : Tokens) (wg wu : Widening) (wd : Narrowing) (g : Gates) (e : Fin 16) (r : Fin 4096) (d : Fin 1024) :
    (∑ f : Fin 2048, wd (ix4 (0 : Fin 2) e f d)
      * ((∑ k : Fin 1024, wg (ix4 (0 : Fin 2) e k f) * x (ix4 (⟨r.val / 512, by omega⟩ : Fin 8) e (⟨r.val % 512, by omega⟩ : Fin 512) k))
        * Ideal.div 1 (1 + Ideal.exp (-∑ k : Fin 1024, wg (ix4 (0 : Fin 2) e k f) * x (ix4 (⟨r.val / 512, by omega⟩ : Fin 8) e (⟨r.val % 512, by omega⟩ : Fin 512) k)))
        * ∑ k : Fin 1024, wu (ix4 (0 : Fin 2) e k f) * x (ix4 (⟨r.val / 512, by omega⟩ : Fin 8) e (⟨r.val % 512, by omega⟩ : Fin 512) k)))
      * g (ix3 (⟨r.val / 512, by omega⟩ : Fin 8) e (⟨r.val % 512, by omega⟩ : Fin 512)) = ffn x wg wu wd g e r d := by
  have hp : ∀ (w : Widening) (f : Fin 2048), (∑ k : Fin 1024, w (ix4 (0 : Fin 2) e k f) * x (ix4 (⟨r.val / 512, by omega⟩ : Fin 8) e (⟨r.val % 512, by omega⟩ : Fin 512) k)) = proj x w e r f :=
    fun w f => Finset.sum_congr rfl fun k _ => mul_comm _ _
  rw [mul_comm]
  refine congrArg _ (Finset.sum_congr rfl fun f _ => ?_)
  rw [hp, hp, mul_comm]
  rfl

/-- The reference's run: its result is `ffn` of its arguments. -/
theorem reference_run (m : (ℓ : Loc Cert.Reference2Ideal.nD Cert.Reference2Ideal.τ Cert.Reference2Ideal.sig) → Buf (Elt Ideal) ℓ) (ρ : Dev Cert.Reference2Ideal.nD → PrngReg) :
    θ_run Cert.Reference2Ideal.defs (onTc (τ := Cert.Reference2Ideal.τ) (Cert.Reference2Ideal.main (F := Ideal))) ⟨m, fun _ => 0, ρ⟩ fun r => ∀ c : Dev Cert.Reference2Ideal.nD,
      r.2.mem ((c.tc : Thread Cert.Reference2Ideal.nD Cert.Reference2Ideal.τ).loc Cert.Reference2Ideal.main_v18)
        = (fun i : Cert.Reference2Ideal.S16x4096x1024.Idx => ffn (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (i 0) (i 1) (i 2))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4) := by
  refine (θ_run Cert.Reference2Ideal.defs _ _).mono (fun r h c => ⟨(h c).1.trans ?_, (h c).2⟩) (Cert.Reference2Ideal.Value.run (F := Ideal) m ρ)
  generalize m ((c.tc : Thread Cert.Reference2Ideal.nD Cert.Reference2Ideal.τ).loc Cert.Reference2Ideal.main_arg0) = x
  generalize m ((c.tc : Thread Cert.Reference2Ideal.nD Cert.Reference2Ideal.τ).loc Cert.Reference2Ideal.main_arg1) = wg
  generalize m ((c.tc : Thread Cert.Reference2Ideal.nD Cert.Reference2Ideal.τ).loc Cert.Reference2Ideal.main_arg2) = wu
  generalize m ((c.tc : Thread Cert.Reference2Ideal.nD Cert.Reference2Ideal.τ).loc Cert.Reference2Ideal.main_arg3) = wd
  generalize m ((c.tc : Thread Cert.Reference2Ideal.nD Cert.Reference2Ideal.τ).loc Cert.Reference2Ideal.main_arg4) = g
  funext i
  idx_vars i
  clear h
  pointwise
  exact ffn_factors x wg wu wd g i0 i1 i2

/-- The side conditions the precondition states. -/
theorem gates_facts : Cert.Pre_gates_are_weights.Facts := ⟨by decide, by decide, by decide⟩

/-- A gate that the precondition admits is a nonnegative real. -/
theorem gate_of_pre (a0 : FVec Ideal Cert.Pre_gates_are_weights.S8x16x512x1024 .f32) (a1 a2 : FVec Ideal Cert.Pre_gates_are_weights.S2x16x1024x2048 .f32)
    (a3 : FVec Ideal Cert.Pre_gates_are_weights.S2x16x2048x1024 .f32) (g : FVec Ideal Cert.Pre_gates_are_weights.S8x16x512 .f32) (hPre : Cert.Pre_gates_are_weights.Facts)
    (h : Cert.Pre_gates_are_weights.fn (F := Ideal) a0 a1 a2 a3 g = fun _ => 1#1) (i : Cert.Pre_gates_are_weights.S8x16x512.Idx) : (0 : EReal) ≤ g i ∧ g i < (⊤ : EReal) := by
  have h0 := congrFun h ix0
  dsimp only [Cert.Pre_gates_are_weights.fn] at h0
  have h1 := Host.reduce_andi_all _ _ _ _ _ h0 i
  pointwise at h1
  have htop : Ideal.ofBits .f32 0x7F800000#32 = ⊤ := by simp [Ideal.ofBits, Ideal.ieee]
  rw [IntOp.andi_eq_one, WordArith.ofBool_eq_one_iff, WordArith.ofBool_eq_one_iff, decide_eq_true_eq, decide_eq_true_eq, htop] at h1
  exact h1

end Cert.Ffn

end
-- ==== Proof.FfnBlocks.lean ====
/-
  The blocks of one grid point of the expert feed-forward kernel, as entries of the arguments, and what the point adds to its
  output block: point `8 e + 4 j + k` adds the gated contribution of hidden units `512 k … 512 k + 511` to tokens
  `2048 j … 2048 j + 2047` of expert `e`.
-/
module

public import proofs.«01_k».proof.Proof.Gen.Kernel2Ideal.Value
public import proofs.«01_k».proof.Proof.FfnSpec

@[expose] public section

set_option maxRecDepth 16384

noncomputable section

namespace Cert.Ffn

open Cert.Kernel2Ideal Cert.Kernel2Ideal.Gen Idealize.ShloMosaic Idealize.SL.Sem Idealize.ShloMosaic.TcCoe

/-- The first layer on one block: token `r`, hidden unit `f`. -/
def blockProj (x0 : Vec Ideal S1x2048x1024 .bf16) (w : Vec Ideal S1x1x1024x512 .f32) (r : Fin 2048) (f : Fin 512) : EReal :=
  ∑ k : Fin 1024, (x0 (ix3 0 r k) : EReal) * w (ix4 0 0 k f)

/-- What one grid point adds to token `r`, column `d` of its output block. -/
def chunk (x0 : Vec Ideal S1x2048x1024 .bf16) (x1 x2 : Vec Ideal S1x1x1024x512 .f32) (x3 : Vec Ideal S1x1x512x1024 .f32) (x4 : Vec Ideal S1x2048x1 .f32)
    (r : Fin 2048) (d : Fin 1024) : EReal :=
  (x4 (ix3 0 r 0) : EReal) * ∑ f : Fin 512, blockProj x0 x1 r f * Ideal.div 1 (1 + Ideal.exp (-blockProj x0 x1 r f)) * blockProj x0 x2 r f * x3 (ix4 0 0 f d)

/-- The body's store, read at an index: what was there, and the chunk. -/
theorem store_apply (x0 : Vec Ideal S1x2048x1024 .bf16) (x1 x2 : Vec Ideal S1x1x1024x512 .f32) (x3 : Vec Ideal S1x1x512x1024 .f32) (x4 : Vec Ideal S1x2048x1 .f32)
    (acc : Vec Ideal S1x2048x1024 .f32) (i : S1x2048x1024.Idx) :
    k0_pay1 (k0_pay3 x0 x1 x2 x3) (k0_pay4 acc) x4 i = (acc i : EReal) + chunk x0 x1 x2 x3 x4 (i 1) (i 2) := by
  idx_vars i
  obtain rfl : i0 = 0 := Subsingleton.elim _ _
  pointwise [k0_pay1, k0_pay3, k0_pay4, chunk, blockProj]
  simp only [zero_sub]

/-- The window index maps, decided over the grid. -/
theorem index_facts : ∀ t : Fin cfg0.N,
    win0_0.index t (0 : Fin 3) = t.val / 8 ∧ win0_0.index t (1 : Fin 3) = t.val % 8 / 4 ∧ win0_0.index t (2 : Fin 3) = 0
    ∧ win0_1.index t (0 : Fin 4) = 0 ∧ win0_1.index t (1 : Fin 4) = t.val / 8 ∧ win0_1.index t (2 : Fin 4) = 0 ∧ win0_1.index t (3 : Fin 4) = t.val % 4
    ∧ win0_2.index t (0 : Fin 4) = 0 ∧ win0_2.index t (1 : Fin 4) = t.val / 8 ∧ win0_2.index t (2 : Fin 4) = 0 ∧ win0_2.index t (3 : Fin 4) = t.val % 4
    ∧ win0_3.index t (0 : Fin 4) = 0 ∧ win0_3.index t (1 : Fin 4) = t.val / 8 ∧ win0_3.index t (2 : Fin 4) = t.val % 4 ∧ win0_3.index t (3 : Fin 4) = 0
    ∧ win0_4.index t (0 : Fin 3) = t.val / 8 ∧ win0_4.index t (1 : Fin 3) = t.val % 8 / 4 ∧ win0_4.index t (2 : Fin 3) = 0 :=
  (by decide +kernel : ∀ t : Fin grid0.N, _)

theorem ix4_ext {n0 n1 n2 n3 : ℕ} {a a' : Fin n0} {b b' : Fin n1} {d d' : Fin n2} {e e' : Fin n3} (h0 : a.val = a'.val) (h1 : b.val = b'.val) (h2 : d.val = d'.val) (h3 : e.val = e'.val) :
    ix4 a b d e = ix4 a' b' d' e' := by
  obtain rfl := Fin.ext h0; obtain rfl := Fin.ext h1; obtain rfl := Fin.ext h2; obtain rfl := Fin.ext h3; rfl

theorem ix3_ext {n0 n1 n2 : ℕ} {a a' : Fin n0} {b b' : Fin n1} {d d' : Fin n2} (h0 : a.val = a'.val) (h1 : b.val = b'.val) (h2 : d.val = d'.val) :
    ix3 a b d = ix3 a' b' d' := by
  obtain rfl := Fin.ext h0; obtain rfl := Fin.ext h1; obtain rfl := Fin.ext h2; rfl

variable (m : (ℓ : Loc nD τ sig) → Buf (Elt Ideal) ℓ)

/-- The expert of a point. -/
def expertOf (t : Fin cfg0.N) : Fin 16 := ⟨t.val / 8, by have h := lt_of_lt_of_eq t.isLt (show cfg0.N = 128 from N_0); omega⟩
/-- The token of a point's row. -/
def tokenOf (t : Fin cfg0.N) (r : Fin 2048) : Fin 4096 := ⟨2048 * (t.val % 8 / 4) + r.val, by omega⟩
/-- The hidden unit of a point's column. -/
def unitOf (t : Fin cfg0.N) (f : Fin 512) : Fin 2048 := ⟨512 * (t.val % 4) + f.val, by omega⟩

theorem blk0 (c : Dev nD) (t : Fin cfg0.N) (r : Fin 2048) (k : Fin 1024) :
    iblk m c 0 t (ix3 0 r k) = (m ((c.tc : Thread nD τ).loc main_arg0) : Tokens) (ix4 (⟨(tokenOf t r).val / 512, by omega⟩ : Fin 8) (expertOf t) (⟨(tokenOf t r).val % 512, by omega⟩ : Fin 512) k) := by
  obtain ⟨e0, e1, e2, -⟩ := index_facts t
  have hb0 : (((cfg0.win 0).blk t).view.emb (ix3 0 r k) 0).val = win0_0.index t (0 : Fin 3) * 1 + 1 * 0 := rfl
  have hb1 : (((cfg0.win 0).blk t).view.emb (ix3 0 r k) 1).val = win0_0.index t (1 : Fin 3) * 2048 + 1 * r.val := rfl
  have hb2 : (((cfg0.win 0).blk t).view.emb (ix3 0 r k) 2).val = win0_0.index t (2 : Fin 3) * 1024 + 1 * k.val := rfl
  have e : iblk m c 0 t (ix3 0 r k) = V m c main_v2 (((cfg0.win 0).blk t).view.emb (ix3 0 r k)) := rfl
  rw [e]
  generalize ((cfg0.win 0).blk t).view.emb (ix3 0 r k) = i at hb0 hb1 hb2 ⊢
  entry_read
  pointwise
  refine congrArg (m ((c.tc : Thread nD τ).loc main_arg0) : Tokens) (ix4_ext ?_ ?_ ?_ ?_)
  · show (i 1).val / 512 = (tokenOf t r).val / 512
    rw [hb1, e1]; simp only [tokenOf]; omega
  · show (i 0).val = _
    rw [hb0, e0]; simp only [expertOf]; omega
  · show (i 1).val % 512 = (tokenOf t r).val % 512
    rw [hb1, e1]; simp only [tokenOf]; omega
  · show (i 2).val = _
    rw [hb2, e2]; omega

theorem blk1 (c : Dev nD) (t : Fin cfg0.N) (k : Fin 1024) (f : Fin 512) :
    iblk m c 1 t (ix4 0 0 k f) = (m ((c.tc : Thread nD τ).loc main_arg1) : Widening) (ix4 (0 : Fin 2) (expertOf t) k (unitOf t f)) := by
  obtain ⟨-, -, -, e0, e1, e2, e3, -⟩ := index_facts t
  have hb0 : (((cfg0.win 1).blk t).view.emb (ix4 0 0 k f) 0).val = win0_1.index t (0 : Fin 4) * 1 + 1 * 0 := rfl
  have hb1 : (((cfg0.win 1).blk t).view.emb (ix4 0 0 k f) 1).val = win0_1.index t (1 : Fin 4) * 1 + 1 * 0 := rfl
  have hb2 : (((cfg0.win 1).blk t).view.emb (ix4 0 0 k f) 2).val = win0_1.index t (2 : Fin 4) * 1024 + 1 * k.val := rfl
  have hb3 : (((cfg0.win 1).blk t).view.emb (ix4 0 0 k f) 3).val = win0_1.index t (3 : Fin 4) * 512 + 1 * f.val := rfl
  have e : iblk m c 1 t (ix4 0 0 k f) = V m c main_arg1 (((cfg0.win 1).blk t).view.emb (ix4 0 0 k f)) := rfl
  rw [e, V_main_arg1]
  refine congrArg (m ((c.tc : Thread nD τ).loc main_arg1) : Widening) ?_
  generalize ((cfg0.win 1).blk t).view.emb (ix4 0 0 k f) = i at hb0 hb1 hb2 hb3 ⊢
  rw [e0] at hb0; rw [e1] at hb1; rw [e2] at hb2; rw [e3] at hb3
  funext a; apply Fin.ext
  match a with
  | ⟨0, _⟩ => exact hb0.trans (by show _ = 0; omega)
  | ⟨1, _⟩ => exact hb1.trans (by show _ = t.val / 8; omega)
  | ⟨2, _⟩ => exact hb2.trans (by show _ = k.val; omega)
  | ⟨3, _⟩ => exact hb3.trans (by show _ = 512 * (t.val % 4) + f.val; omega)

theorem blk2 (c : Dev nD) (t : Fin cfg0.N) (k : Fin 1024) (f : Fin 512) :
    iblk m c 2 t (ix4 0 0 k f) = (m ((c.tc : Thread nD τ).loc main_arg2) : Widening) (ix4 (0 : Fin 2) (expertOf t) k (unitOf t f)) := by
  obtain ⟨-, -, -, -, -, -, -, e0, e1, e2, e3, -⟩ := index_facts t
  have hb0 : (((cfg0.win 2).blk t).view.emb (ix4 0 0 k f) 0).val = win0_2.index t (0 : Fin 4) * 1 + 1 * 0 := rfl
  have hb1 : (((cfg0.win 2).blk t).view.emb (ix4 0 0 k f) 1).val = win0_2.index t (1 : Fin 4) * 1 + 1 * 0 := rfl
  have hb2 : (((cfg0.win 2).blk t).view.emb (ix4 0 0 k f) 2).val = win0_2.index t (2 : Fin 4) * 1024 + 1 * k.val := rfl
  have hb3 : (((cfg0.win 2).blk t).view.emb (ix4 0 0 k f) 3).val = win0_2.index t (3 : Fin 4) * 512 + 1 * f.val := rfl
  have e : iblk m c 2 t (ix4 0 0 k f) = V m c main_arg2 (((cfg0.win 2).blk t).view.emb (ix4 0 0 k f)) := rfl
  rw [e, V_main_arg2]
  refine congrArg (m ((c.tc : Thread nD τ).loc main_arg2) : Widening) ?_
  generalize ((cfg0.win 2).blk t).view.emb (ix4 0 0 k f) = i at hb0 hb1 hb2 hb3 ⊢
  rw [e0] at hb0; rw [e1] at hb1; rw [e2] at hb2; rw [e3] at hb3
  funext a; apply Fin.ext
  match a with
  | ⟨0, _⟩ => exact hb0.trans (by show _ = 0; omega)
  | ⟨1, _⟩ => exact hb1.trans (by show _ = t.val / 8; omega)
  | ⟨2, _⟩ => exact hb2.trans (by show _ = k.val; omega)
  | ⟨3, _⟩ => exact hb3.trans (by show _ = 512 * (t.val % 4) + f.val; omega)

theorem blk3 (c : Dev nD) (t : Fin cfg0.N) (f : Fin 512) (d : Fin 1024) :
    iblk m c 3 t (ix4 0 0 f d) = (m ((c.tc : Thread nD τ).loc main_arg3) : Narrowing) (ix4 (0 : Fin 2) (expertOf t) (unitOf t f) d) := by
  obtain ⟨-, -, -, -, -, -, -, -, -, -, -, e0, e1, e2, e3, -⟩ := index_facts t
  have hb0 : (((cfg0.win 3).blk t).view.emb (ix4 0 0 f d) 0).val = win0_3.index t (0 : Fin 4) * 1 + 1 * 0 := rfl
  have hb1 : (((cfg0.win 3).blk t).view.emb (ix4 0 0 f d) 1).val = win0_3.index t (1 : Fin 4) * 1 + 1 * 0 := rfl
  have hb2 : (((cfg0.win 3).blk t).view.emb (ix4 0 0 f d) 2).val = win0_3.index t (2 : Fin 4) * 512 + 1 * f.val := rfl
  have hb3 : (((cfg0.win 3).blk t).view.emb (ix4 0 0 f d) 3).val = win0_3.index t (3 : Fin 4) * 1024 + 1 * d.val := rfl
  have e : iblk m c 3 t (ix4 0 0 f d) = V m c main_arg3 (((cfg0.win 3).blk t).view.emb (ix4 0 0 f d)) := rfl
  rw [e, V_main_arg3]
  refine congrArg (m ((c.tc : Thread nD τ).loc main_arg3) : Narrowing) ?_
  generalize ((cfg0.win 3).blk t).view.emb (ix4 0 0 f d) = i at hb0 hb1 hb2 hb3 ⊢
  rw [e0] at hb0; rw [e1] at hb1; rw [e2] at hb2; rw [e3] at hb3
  funext a; apply Fin.ext
  match a with
  | ⟨0, _⟩ => exact hb0.trans (by show _ = 0; omega)
  | ⟨1, _⟩ => exact hb1.trans (by show _ = t.val / 8; omega)
  | ⟨2, _⟩ => exact hb2.trans (by show _ = 512 * (t.val % 4) + f.val; omega)
  | ⟨3, _⟩ => exact hb3.trans (by show _ = d.val; omega)

theorem blk4 (c : Dev nD) (t : Fin cfg0.N) (r : Fin 2048) :
    iblk m c 4 t (ix3 0 r 0) = gateOf (m ((c.tc : Thread nD τ).loc main_arg4)) (expertOf t) (tokenOf t r) := by
  obtain ⟨-, -, -, -, -, -, -, -, -, -, -, -, -, -, -, e0, e1, e2⟩ := index_facts t
  have hb0 : (((cfg0.win 4).blk t).view.emb (ix3 0 r 0) 0).val = win0_4.index t (0 : Fin 3) * 1 + 1 * 0 := rfl
  have hb1 : (((cfg0.win 4).blk t).view.emb (ix3 0 r 0) 1).val = win0_4.index t (1 : Fin 3) * 2048 + 1 * r.val := rfl
  have e : iblk m c 4 t (ix3 0 r 0) = V m c main_v4 (((cfg0.win 4).blk t).view.emb (ix3 0 r 0)) := rfl
  rw [e]
  generalize ((cfg0.win 4).blk t).view.emb (ix3 0 r 0) = i at hb0 hb1 ⊢
  entry_read
  pointwise
  unfold gateOf
  refine congrArg (m ((c.tc : Thread nD τ).loc main_arg4) : Gates) (ix3_ext ?_ ?_ ?_)
  · show (i 1).val / 512 = (tokenOf t r).val / 512
    rw [hb1, e1]; simp only [tokenOf]; omega
  · show (i 0).val = _
    rw [hb0, e0]; simp only [expertOf]; omega
  · show (i 1).val % 512 = (tokenOf t r).val % 512
    rw [hb1, e1]; simp only [tokenOf]; omega

/-- What a point adds, in the arguments. -/
theorem chunk_eq (c : Dev nD) (t : Fin cfg0.N) (r : Fin 2048) (d : Fin 1024) :
    chunk (iblk m c 0 t) (iblk m c 1 t) (iblk m c 2 t) (iblk m c 3 t) (iblk m c 4 t) r d
      = gateOf (m ((c.tc : Thread nD τ).loc main_arg4)) (expertOf t) (tokenOf t r)
        * ∑ f : Fin 512, hidden (m ((c.tc : Thread nD τ).loc main_arg0)) (m ((c.tc : Thread nD τ).loc main_arg1)) (m ((c.tc : Thread nD τ).loc main_arg2)) (expertOf t) (tokenOf t r) (unitOf t f)
          * (m ((c.tc : Thread nD τ).loc main_arg3) : Narrowing) (ix4 (0 : Fin 2) (expertOf t) (unitOf t f) d) := by
  have p1 : ∀ f, blockProj (iblk m c 0 t) (iblk m c 1 t) r f = proj (m ((c.tc : Thread nD τ).loc main_arg0)) (m ((c.tc : Thread nD τ).loc main_arg1)) (expertOf t) (tokenOf t r) (unitOf t f) :=
    fun f => Finset.sum_congr rfl fun k _ => by rw [blk0, blk1]
  have p2 : ∀ f, blockProj (iblk m c 0 t) (iblk m c 2 t) r f = proj (m ((c.tc : Thread nD τ).loc main_arg0)) (m ((c.tc : Thread nD τ).loc main_arg2)) (expertOf t) (tokenOf t r) (unitOf t f) :=
    fun f => Finset.sum_congr rfl fun k _ => by rw [blk0, blk2]
  unfold chunk
  rw [blk4]
  refine congrArg _ (Finset.sum_congr rfl fun f _ => ?_)
  rw [p1, p2, blk3]
  rfl

end Cert.Ffn

end
-- ==== Proof.FfnValue.lean ====
/-
  The expert feed-forward kernel computes the reference: its four partial sums over the hidden units, each gated, are the gated
  whole sum, because a gate that is a nonnegative real distributes over a sum of extended reals.
-/
module

public import proofs.«01_k».proof.Proof.FfnBlocks
public import proofs.«01_k».proof.Proof.Frames

@[expose] public section

set_option maxRecDepth 16384

noncomputable section

namespace Cert.Ffn

open Cert.Kernel2Ideal Cert.Kernel2Ideal.Gen Cert.Kernel2Ideal.Value Idealize.ShloMosaic Idealize.SL.Sem Idealize.ShloMosaic.TcCoe

/-- A nonnegative real factor distributes over a finite sum. -/
theorem mul_sum_of_weight {ι : Type} (s : Finset ι) (w : EReal) (h0 : 0 ≤ w) (h1 : w < ⊤) (f : ι → EReal) :
    w * ∑ i ∈ s, f i = ∑ i ∈ s, w * f i := by
  classical
  induction s using Finset.induction_on with
  | empty => simp
  | insert a s ha ih => rw [Finset.sum_insert ha, Finset.sum_insert ha, EReal.left_distrib_of_nonneg_of_ne_top h0 h1.ne, ih]

/-- Every gate is a nonnegative real. -/
def Weights (g : Gates) : Prop := ∀ i, 0 ≤ g i ∧ g i < ⊤

/-- The hidden units in four chunks of 512. -/
theorem sum_chunks (F : Fin 2048 → EReal) :
    ∑ k : Fin 4, ∑ f : Fin 512, F ⟨512 * k.val + f.val, by omega⟩ = ∑ f : Fin 2048, F f := by
  rw [← (finProdFinEquiv (m := 4) (n := 512)).sum_comp F, Fintype.sum_prod_type]
  refine Finset.sum_congr rfl fun k _ => Finset.sum_congr rfl fun f _ => congrArg F (Fin.ext ?_)
  show 512 * k.val + f.val = f.val + 512 * k.val
  omega

variable (m : (ℓ : Loc nD τ sig) → Buf (Elt Ideal) ℓ)

/-- What point `n` adds, as a function of its output block's index. -/
def added (c : Dev nD) (n : ℕ) (i : S1x2048x1024.Idx) : EReal :=
  if h : n < cfg0.N then chunk (iblk m c 0 ⟨n, h⟩) (iblk m c 1 ⟨n, h⟩) (iblk m c 2 ⟨n, h⟩) (iblk m c 3 ⟨n, h⟩) (iblk m c 4 ⟨n, h⟩) (i 1) (i 2) else 0

theorem reset_apply (c : Dev nD) (n : ℕ) (h : n < cfg0.N) (i : S1x2048x1024.Idx) : reset5 m c n h i = (0 : EReal) + added m c n i := by
  unfold reset5
  rw [store_apply, added, dif_pos h]
  refine congrArg (· + _) ?_
  pointwise [k0_pay2]

theorem step_apply (c : Dev nD) (n : ℕ) (h : n < cfg0.N) (acc : Vec Ideal S1x2048x1024 .f32) (i : S1x2048x1024.Idx) :
    step5 m c n h acc i = (acc i : EReal) + added m c n i := by
  unfold step5
  rw [store_apply, added, dif_pos h]

/-- A run's four points, summed. -/
theorem run_apply (c : Dev nD) (b : ℕ) (h : b + 3 < cfg0.N) (i : S1x2048x1024.Idx) :
    Pipeline.accAt (reset5 m c) (step5 m c) b 3 h i = ∑ k : Fin 4, added m c (b + k.val) i := by
  have e := Pipeline.accAt_add_apply (reset5 m c) (step5 m c) (fun _ => (0 : EReal)) (added m c) b 3 (fun h i => reset_apply m c b h i)
    (fun n h acc i _ _ => step_apply m c n h acc i) 3 le_rfl h i
  rw [e, zero_add, Finset.sum_range]

/-- What point `8 e + 4 j + k` adds to token `r` of the expert, for the chunk `k` of the hidden units. -/
theorem added_eq (c : Dev nD) (e : Fin 16) (r : Fin 4096) (d : Fin 1024) (b : ℕ) (hb : b = 8 * e.val + 4 * (r.val / 2048)) (y : S1x2048x1024.Idx)
    (hy1 : (y 1).val = r.val % 2048) (hy2 : (y 2).val = d.val) (k : Fin 4) :
    added m c (b + k.val) y
      = gateOf (m ((c.tc : Thread nD τ).loc main_arg4)) e r * ∑ f : Fin 512,
        hidden (m ((c.tc : Thread nD τ).loc main_arg0)) (m ((c.tc : Thread nD τ).loc main_arg1)) (m ((c.tc : Thread nD τ).loc main_arg2)) e r (⟨512 * k.val + f.val, by omega⟩ : Fin 2048)
          * (m ((c.tc : Thread nD τ).loc main_arg3) : Narrowing) (ix4 (0 : Fin 2) e (⟨512 * k.val + f.val, by omega⟩ : Fin 2048) d) := by
  have hN : cfg0.N = 128 := N_0
  have hk : b + k.val < cfg0.N := by rw [hN]; omega
  rw [added, dif_pos hk]
  idx_vars y
  have hy1 : y1.val = r.val % 2048 := hy1
  obtain rfl : y2 = d := Fin.ext hy2
  refine (chunk_eq m c ⟨b + k.val, hk⟩ y1 y2).trans ?_
  have he : expertOf ⟨b + k.val, hk⟩ = e := Fin.ext (by show (b + k.val) / 8 = e.val; omega)
  have ht : tokenOf ⟨b + k.val, hk⟩ y1 = r := Fin.ext (by show 2048 * ((b + k.val) % 8 / 4) + y1.val = r.val; omega)
  have hu : ∀ f, unitOf ⟨b + k.val, hk⟩ f = (⟨512 * k.val + f.val, by omega⟩ : Fin 2048) := fun f => Fin.ext (by show 512 * ((b + k.val) % 4) + f.val = 512 * k.val + f.val; omega)
  rw [he, ht]
  simp only [hu]

/-- A gated sum over the chunks is the gated sum over the hidden units. -/
theorem gated_chunks (w : EReal) (h0 : 0 ≤ w) (h1 : w < ⊤) (F : Fin 2048 → EReal) :
    ∑ k : Fin 4, w * ∑ f : Fin 512, F ⟨512 * k.val + f.val, by omega⟩ = w * ∑ f : Fin 2048, F f := by
  rw [← mul_sum_of_weight _ w h0 h1, sum_chunks]

/-- The kernel's result array is the feed-forward network of its arguments. -/
theorem result_eq (c : Dev nD) (hg : Weights (m ((c.tc : Thread nD τ).loc main_arg4))) (e : Fin 16) (r : Fin 4096) (d : Fin 1024) :
    G5 m c (ix3 e r d) = ffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) e r d := by
  have hr : run5Of (ix3 e r d) = 2 * e.val + r.val / 2048 := by show 2 * (e.val / 1 - 0) + 1 * (r.val / 2048 - 0) + 1 * (d.val / 1024 - 0) = _; omega
  have hN : cfg0.N = 128 := N_0
  have hlt : 4 * run5Of (ix3 e r d) + 3 < cfg0.N := by rw [hr, hN]; omega
  rw [G5, dif_pos hlt, run_apply]
  refine (Finset.sum_congr rfl fun k _ => added_eq m c e r d (4 * run5Of (ix3 e r d)) (by rw [hr]; omega) (loc5Of (ix3 e r d)) rfl (by show d.val % 1024 = d.val; omega) k).trans ?_
  exact gated_chunks _ (hg _).1 (hg _).2 fun u => hidden (m ((c.tc : Thread nD τ).loc main_arg0)) (m ((c.tc : Thread nD τ).loc main_arg1)) (m ((c.tc : Thread nD τ).loc main_arg2)) e r u
          * (m ((c.tc : Thread nD τ).loc main_arg3) : Narrowing) (ix4 (0 : Fin 2) e u d)

/-- The kernel's run: its result is `ffn` of its arguments. -/
theorem kernel_run (ρ : Dev nD → PrngReg)
    (hg : ∀ c : Dev nD, Weights (m ((c.tc : Thread nD τ).loc main_arg4))) :
    θ_run defs (onTc (τ := τ) (main (F := Ideal))) ⟨m, fun _ => 0, ρ⟩ fun r => ∀ c : Dev nD,
      r.2.mem ((c : Thread nD τ).loc main_v5) = (fun i : S16x4096x1024.Idx => ffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (funext fun i => by idx_vars i; exact result_eq m c (hg c) i0 i1 i2), (h c).2⟩) (run (F := Ideal) m ρ)

/-- Over the extended reals the kernel and the reference leave the same result, for gates that are nonnegative reals. -/
theorem algebraic [hP : Cert.Pre_gates_are_weights.Facts] :
    Cert.algebraic_Kernel2Ideal_Reference2Ideal_pre_gates_are_weights (hKernel2Ideal := Cert.Kernel2Ideal.Gen.facts) (hReference2Ideal := Cert.Reference2Ideal.Gen.facts) (hPre_gates_are_weights := hP) := by
  intro m g m' g' hpre hargs
  refine ⟨_, kernel_run m g fun c i => gate_of_pre _ _ _ _ _ hP (hpre c) i, (θ_run _ _ _).mono (fun r h c => ⟨(h c).1.trans ?_, (h c).2⟩) (reference_run m' g')⟩
  obtain ⟨h0, h1, h2, h3, h4⟩ := hargs c
  rw [h0, h1, h2, h3, h4]

end Cert.Ffn

end
-- ==== Proof.NormSpec.lean ====
/-
  The layer norm of the residual stream, written plainly over the extended reals, and the reference's run read as it.
-/
module

public import proofs.«01_k».proof.Defs
public import proofs.«01_k».proof.Proof.Gen.Reference3Ideal.Run
public import Idealize.ShloMosaic.Lib.Pointwise
public import Idealize.ShloMosaic.Lib.Tactic
public import Idealize.ShloMosaic.Lib.Claim

@[expose] public section

set_option maxRecDepth 16384

noncomputable section

namespace Cert.Norm

open Idealize.ShloMosaic Idealize.SL.Sem Idealize.ShloMosaic.TcCoe Idealize.ShloMosaic.Tactic

abbrev Stream : Type := (⟨3, ![8, 4096, 1024]⟩ : Shape).Idx → EReal
abbrev Gate : Type := (⟨3, ![8, 1, 1024]⟩ : Shape).Idx → EReal
abbrev Weight : Type := (⟨2, ![2, 1024]⟩ : Shape).Idx → EReal

/-- The number of features. -/
def width : EReal := Ideal.ofBits .f32 0x44800000#32

/-- The mean of a row, -/
def mean (z : Fin 1024 → EReal) : EReal := Ideal.div (∑ k : Fin 1024, z k) width
/-- its variance, -/
def variance (z : Fin 1024 → EReal) : EReal := Ideal.div (∑ k : Fin 1024, (z k - mean z) * (z k - mean z)) width
/-- and the row, normed. -/
def normed (z : Fin 1024 → EReal) (d : Fin 1024) : EReal := (z d - mean z) * Ideal.rsqrt (variance z + Ideal.ofBits .f32 0x3727C5AC#32)

/-- The residual stream: the scaled input plus the gated layer. -/
def residual (x y : Stream) (g : Gate) (b : Fin 8) (t : Fin 4096) (d : Fin 1024) : EReal :=
  Ideal.ofBits .f32 0x3FB504F3#32 * x (ix3 b t d) + g (ix3 b 0 d) * y (ix3 b t d)

/-- The residual stream, normed, with the last layer's weight and bias. -/
def postNorm (x y : Stream) (g : Gate) (w s : Weight) (b : Fin 8) (t : Fin 4096) (d : Fin 1024) : EReal :=
  normed (residual x y g b t) d * w (ix2 1 d) + s (ix2 1 d)

/-- The result array. -/
def postNormArray (x y : Stream) (g : Gate) (w s : Weight) : Stream := fun i => postNorm x y g w s (i 0) (i 1) (i 2)

open Cert.Reference3Ideal in
/-- The reference's run: its result is `postNorm` of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32)
        = postNormArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Cert.Reference3Ideal.Value.run (F := Ideal) m ρ)
  generalize m ((c.tc : Thread nD τ).loc main_arg0) = x
  generalize m ((c.tc : Thread nD τ).loc main_arg1) = y
  generalize m ((c.tc : Thread nD τ).loc main_arg2) = g
  generalize m ((c.tc : Thread nD τ).loc main_arg3) = w
  generalize m ((c.tc : Thread nD τ).loc main_arg4) = s
  funext i
  idx_vars i
  clear h
  pointwise [postNormArray, postNorm, normed, variance, mean, residual, width]

end Cert.Norm

end
-- ==== Proof.NormValue.lean ====
/-
  The norm kernel computes the reference: each point norms 1024 whole rows, so its block is the layer norm of the residual stream.
-/
module

public import proofs.«01_k».proof.Proof.Gen.Kernel3Ideal.Value
public import proofs.«01_k».proof.Proof.NormSpec
public import Idealize.ShloMosaic.Lib.Pipeline.ArrRel
public import Idealize.ShloMosaic.Lib.Pipeline.ValueKit

@[expose] public section

set_option maxRecDepth 16384

noncomputable section

namespace Cert.Norm

open Cert.Kernel3Ideal Cert.Kernel3Ideal.Gen Cert.Kernel3Ideal.Value Idealize.ShloMosaic Idealize.SL.Sem Idealize.ShloMosaic.TcCoe Idealize.ShloMosaic.Tactic

/-- The window index maps, decided over the grid. -/
theorem index_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 4 ∧ win0_5.index t (1 : Fin 3) = t.val % 4 ∧ win0_5.index t (2 : Fin 3) = 0 :=
  (by decide +kernel : ∀ t : Fin grid0.N, _)

theorem ix3_ext {n0 n1 n2 : ℕ} {a a' : Fin n0} {b b' : Fin n1} {d d' : Fin n2} (h0 : a.val = a'.val) (h1 : b.val = b'.val) (h2 : d.val = d'.val) :
    ix3 a b d = ix3 a' b' d' := by
  obtain rfl := Fin.ext h0; obtain rfl := Fin.ext h1; obtain rfl := Fin.ext h2; rfl

theorem ix2_ext {n0 n1 : ℕ} {a a' : Fin n0} {b b' : Fin n1} (h0 : a.val = a'.val) (h1 : b.val = b'.val) : ix2 a b = ix2 a' b' := by
  obtain rfl := Fin.ext h0; obtain rfl := Fin.ext h1; rfl

variable (m : (ℓ : Loc nD τ sig) → Buf (Elt Ideal) ℓ)

/-- The arguments of core `c`. -/
def stream (c : Dev nD) : Stream := m ((c.tc : Thread nD τ).loc main_arg0)
def layer (c : Dev nD) : Stream := m ((c.tc : Thread nD τ).loc main_arg1)
def gate (c : Dev nD) : Gate := m ((c.tc : Thread nD τ).loc main_arg2)
def weight (c : Dev nD) : Weight := m ((c.tc : Thread nD τ).loc main_arg3)
def bias (c : Dev nD) : Weight := m ((c.tc : Thread nD τ).loc main_arg4)

/-- The sample of a point, -/
def sampleOf (t : Fin cfg0.N) : Fin 8 := ⟨t.val / 4, by have h := lt_of_lt_of_eq t.isLt (show cfg0.N = 32 from N_0); omega⟩
/-- and the position of its row. -/
def rowOf (t : Fin cfg0.N) (r : Fin 1024) : Fin 4096 := ⟨1024 * (t.val % 4) + r.val, by omega⟩

theorem blk0 (c : Dev nD) (t : Fin cfg0.N) (r d : Fin 1024) :
    iblk m c 0 t (ix3 0 r d) = stream m c (ix3 (sampleOf t) (rowOf t r) d) := by
  obtain ⟨e0, e1, e2, -⟩ := index_facts t
  have hb0 : (((cfg0.win 0).blk t).view.emb (ix3 0 r d) 0).val = win0_0.index t (0 : Fin 3) * 1 + 1 * 0 := rfl
  have hb1 : (((cfg0.win 0).blk t).view.emb (ix3 0 r d) 1).val = win0_0.index t (1 : Fin 3) * 1024 + 1 * r.val := rfl
  have hb2 : (((cfg0.win 0).blk t).view.emb (ix3 0 r d) 2).val = win0_0.index t (2 : Fin 3) * 1024 + 1 * d.val := rfl
  have e : iblk m c 0 t (ix3 0 r d) = V m c main_arg0 (((cfg0.win 0).blk t).view.emb (ix3 0 r d)) := rfl
  rw [e, V_main_arg0]
  refine congrArg (stream m c) ?_
  generalize ((cfg0.win 0).blk t).view.emb (ix3 0 r d) = i at hb0 hb1 hb2 ⊢
  rw [e0] at hb0; rw [e1] at hb1; rw [e2] at hb2
  funext a; apply Fin.ext
  match a with
  | ⟨0, _⟩ => exact hb0.trans (by show _ = t.val / 4; omega)
  | ⟨1, _⟩ => exact hb1.trans (by show _ = 1024 * (t.val % 4) + r.val; omega)
  | ⟨2, _⟩ => exact hb2.trans (by show _ = d.val; omega)

theorem blk1 (c : Dev nD) (t : Fin cfg0.N) (r d : Fin 1024) :
    iblk m c 1 t (ix3 0 r d) = layer m c (ix3 (sampleOf t) (rowOf t r) d) := by
  obtain ⟨-, -, -, e0, e1, e2, -⟩ := index_facts t
  have hb0 : (((cfg0.win 1).blk t).view.emb (ix3 0 r d) 0).val = win0_1.index t (0 : Fin 3) * 1 + 1 * 0 := rfl
  have hb1 : (((cfg0.win 1).blk t).view.emb (ix3 0 r d) 1).val = win0_1.index t (1 : Fin 3) * 1024 + 1 * r.val := rfl
  have hb2 : (((cfg0.win 1).blk t).view.emb (ix3 0 r d) 2).val = win0_1.index t (2 : Fin 3) * 1024 + 1 * d.val := rfl
  have e : iblk m c 1 t (ix3 0 r d) = V m c main_arg1 (((cfg0.win 1).blk t).view.emb (ix3 0 r d)) := rfl
  rw [e, V_main_arg1]
  refine congrArg (layer m c) ?_
  generalize ((cfg0.win 1).blk t).view.emb (ix3 0 r d) = i at hb0 hb1 hb2 ⊢
  rw [e0] at hb0; rw [e1] at hb1; rw [e2] at hb2
  funext a; apply Fin.ext
  match a with
  | ⟨0, _⟩ => exact hb0.trans (by show _ = t.val / 4; omega)
  | ⟨1, _⟩ => exact hb1.trans (by show _ = 1024 * (t.val % 4) + r.val; omega)
  | ⟨2, _⟩ => exact hb2.trans (by show _ = d.val; omega)

theorem blk2 (c : Dev nD) (t : Fin cfg0.N) (d : Fin 1024) :
    iblk m c 2 t (ix3 0 0 d) = gate m c (ix3 (sampleOf t) 0 d) := by
  obtain ⟨-, -, -, -, -, -, e0, e1, e2, -⟩ := index_facts t
  have hb0 : (((cfg0.win 2).blk t).view.emb (ix3 0 0 d) 0).val = win0_2.index t (0 : Fin 3) * 1 + 1 * 0 := rfl
  have hb1 : (((cfg0.win 2).blk t).view.emb (ix3 0 0 d) 1).val = win0_2.index t (1 : Fin 3) * 1 + 1 * 0 := rfl
  have hb2 : (((cfg0.win 2).blk t).view.emb (ix3 0 0 d) 2).val = win0_2.index t (2 : Fin 3) * 1024 + 1 * d.val := rfl
  have e : iblk m c 2 t (ix3 0 0 d) = V m c main_arg2 (((cfg0.win 2).blk t).view.emb (ix3 0 0 d)) := rfl
  rw [e, V_main_arg2]
  refine congrArg (gate m c) ?_
  generalize ((cfg0.win 2).blk t).view.emb (ix3 0 0 d) = i at hb0 hb1 hb2 ⊢
  rw [e0] at hb0; rw [e1] at hb1; rw [e2] at hb2
  funext a; apply Fin.ext
  match a with
  | ⟨0, _⟩ => exact hb0.trans (by show _ = t.val / 4; omega)
  | ⟨1, _⟩ => exact hb1.trans (by show _ = 0; omega)
  | ⟨2, _⟩ => exact hb2.trans (by show _ = d.val; omega)

theorem blk3 (c : Dev nD) (t : Fin cfg0.N) (d : Fin 1024) : iblk m c 3 t (ix2 0 d) = weight m c (ix2 1 d) := by
  obtain ⟨-, -, -, -, -, -, -, -, -, e0, e1, -⟩ := index_facts t
  have hb1 : (((cfg0.win 3).blk t).view.emb (ix2 0 d) 1).val = win0_3.index t (1 : Fin 2) * 1024 + 1 * d.val := rfl
  have e : iblk m c 3 t (ix2 0 d) = V m c main_v2 (((cfg0.win 3).blk t).view.emb (ix2 0 d)) := rfl
  rw [e]
  generalize ((cfg0.win 3).blk t).view.emb (ix2 0 d) = i at hb1 ⊢
  entry_read
  pointwise
  refine congrArg (weight m c) (ix2_ext ?_ ?_)
  · rfl
  · show (i 1).val = _
    rw [hb1, e1]; omega

theorem blk4 (c : Dev nD) (t : Fin cfg0.N) (d : Fin 1024) : iblk m c 4 t (ix2 0 d) = bias m c (ix2 1 d) := by
  obtain ⟨-, -, -, -, -, -, -, -, -, -, -, e0, e1, -⟩ := index_facts t
  have hb1 : (((cfg0.win 4).blk t).view.emb (ix2 0 d) 1).val = win0_4.index t (1 : Fin 2) * 1024 + 1 * d.val := rfl
  have e : iblk m c 4 t (ix2 0 d) = V m c main_v5 (((cfg0.win 4).blk t).view.emb (ix2 0 d)) := rfl
  rw [e]
  generalize ((cfg0.win 4).blk t).view.emb (ix2 0 d) = i at hb1 ⊢
  entry_read
  pointwise
  refine congrArg (bias m c) (ix2_ext ?_ ?_)
  · rfl
  · show (i 1).val = _
    rw [hb1, e1]; omega

/-- The residual stream of one block. -/
def blockResidual (x y : Vec Ideal S1x1024x1024 .f32) (g : Vec Ideal S1x1x1024 .f32) (r d : Fin 1024) : EReal :=
  Ideal.ofBits .f32 0x3FB504F3#32 * x (ix3 0 r d) + g (ix3 0 0 d) * y (ix3 0 r d)

/-- The body's store, read at an entry. -/
theorem store_apply (x y : Vec Ideal S1x1024x1024 .f32) (g : Vec Ideal S1x1x1024 .f32) (w s : Vec Ideal S1x1024 .f32) (r d : Fin 1024) :
    k0_pay1 (k0_pay2 x g y w s) (ix3 0 r d) = normed (blockResidual x y g r) d * w (ix2 0 d) + s (ix2 0 d) := by
  pointwise [k0_pay1, k0_pay2, normed, variance, mean, blockResidual, width]

theorem out_eq (x y : Vec Ideal S1x1024x1024 .f32) (g : Vec Ideal S1x1x1024 .f32) (w s : Vec Ideal S1x1024 .f32) (r d : Fin 1024) :
    out0_5 x y g w s (ix3 0 r d) = normed (blockResidual x y g r) d * w (ix2 0 d) + s (ix2 0 d) := by
  have e : out0_5 x y g w s = k0_pay1 (k0_pay2 x g y w s) := by
    have z3 : (![0, 0, 0] : Fin 3 → ℕ) = fun _ => 0 := by decide
    have z2 : (![0, 0] : Fin 2 → ℕ) = fun _ => 0 := by decide
    unfold out0_5
    rw [View.ld_unit_zero (S := S1x1024x1024) z3, View.ld_unit_zero (S := S1x1024x1024) z3, View.ld_unit_zero (S := S1x1x1024) z3, View.ld_unit_zero (S := S1x1024) z2, View.ld_unit_zero (S := S1x1024) z2]
    exact View.canon_unit_zero (S := S1x1024x1024) z3 _ _
  rw [e, store_apply]

/-- A flushed output block lies at its point's sample and rows. -/
theorem blk5_emb (t : Fin cfg0.N) (r d : Fin 1024) :
    (((cfg0.win 5).blk t).view.emb (ix3 0 r d) : S8x4096x1024.Idx) = ix3 (sampleOf t) (rowOf t r) d := by
  obtain ⟨-, -, -, -, -, -, -, -, -, -, -, -, -, e0, e1, e2⟩ := index_facts t
  have hb0 : (((cfg0.win 5).blk t).view.emb (ix3 0 r d) 0).val = win0_5.index t (0 : Fin 3) * 1 + 1 * 0 := rfl
  have hb1 : (((cfg0.win 5).blk t).view.emb (ix3 0 r d) 1).val = win0_5.index t (1 : Fin 3) * 1024 + 1 * r.val := rfl
  have hb2 : (((cfg0.win 5).blk t).view.emb (ix3 0 r d) 2).val = win0_5.index t (2 : Fin 3) * 1024 + 1 * d.val := rfl
  rw [e0] at hb0; rw [e1] at hb1; rw [e2] at hb2
  funext a; apply Fin.ext
  match a with
  | ⟨0, _⟩ => exact hb0.trans (by show _ = t.val / 4; omega)
  | ⟨1, _⟩ => exact hb1.trans (by show _ = 1024 * (t.val % 4) + r.val; omega)
  | ⟨2, _⟩ => exact hb2.trans (by show _ = d.val; omega)

/-- The block a point leaves. -/
theorem after_at (c : Dev nD) (t : Fin cfg0.N) (r d : Fin 1024) :
    ((dats m 0 c).after 5 t : Vec Ideal S1x1024x1024 .f32) (ix3 0 r d)
      = postNorm (stream m c) (layer m c) (gate m c) (weight m c) (bias m c) (sampleOf t) (rowOf t r) d := by
  have hz : blockResidual (iblk m c 0 t) (iblk m c 1 t) (iblk m c 2 t) r = residual (stream m c) (layer m c) (gate m c) (sampleOf t) (rowOf t r) :=
    funext fun k => congrArg₂ (· + ·) (congrArg (_ * ·) (blk0 m c t r k)) (congrArg₂ (· * ·) (blk2 m c t k) (blk1 m c t r k))
  refine (congrFun (after0_5 m c t) _).trans ((out_eq _ _ _ _ _ r d).trans ?_)
  rw [hz]
  exact congrArg₂ (· + ·) (congrArg (_ * ·) (blk3 m c t d)) (blk4 m c t d)

/-- The result array is the normed residual stream. -/
theorem array_eq (c : Dev nD) :
    (dats m 0 c).arrAt 5 cfg0.N = postNormArray (stream m c) (layer m c) (gate m c) (weight m c) (bias m c) := by
  refine (dats m 0 c).arrAt_eq_of_covers 5 _ (by decide +kernel) fun t hf y => ?_
  have hy : ∀ y : S1x1024x1024.Idx, ∃ r d : Fin 1024, y = ix3 0 r d := fun y => ⟨y 1, y 2, by
    idx_vars y
    exact ix3_ext (by show y0.val = 0; omega) rfl rfl⟩
  obtain ⟨r, d, rfl⟩ := hy y
  refine (after_at m c t r d).trans ?_
  exact (congrArg (postNormArray (stream m c) (layer m c) (gate m c) (weight m c) (bias m c)) (blk5_emb t r d)).symm

/-- Over the extended reals the kernel and the reference leave the same result. -/
theorem algebraic : Cert.algebraic_Kernel3Ideal_Reference3Ideal (hKernel3Ideal := Cert.Kernel3Ideal.Gen.facts) (hReference3Ideal := Cert.Reference3Ideal.Gen.facts) := by
  intro m g m' g' hpre hargs
  refine ⟨_, (θ_run _ _ _).mono (fun r h c => ⟨(h c).1.trans (array_eq m c), (h c).2⟩) (run_blocks (F := Ideal) m g),
    (θ_run _ _ _).mono (fun r h c => ⟨(h c).1.trans ?_, (h c).2⟩) (reference_run m' g')⟩
  obtain ⟨h0, h1, h2, h3, h4⟩ := hargs c
  rw [h0, h1, h2, h3, h4]
  rfl

end Cert.Norm

end
-- ==== Proof.InProjBody.lean ====
/-
  The body of the input projection, cut once: each of its four row blocks leaves the same seven vectors of its own rows.
-/
module

public import proofs.«01_k».proof.Proof.Gen.Kernel4Ideal.Frame

@[expose] public section

set_option maxRecDepth 16384

noncomputable section

namespace Cert.InProj

open Cert.Kernel4Ideal Cert.Kernel4Ideal.Gen Idealize.ShloMosaic Idealize.SL.Sem

/-- The lanes in the lower half of their rotation. -/
def lower : IVec S1x128 1 := k0_pay20 (Scalar.select (Scalar.cmpi .eq 32#32 0#32) 1#32 32#32) k0_pay19 0#32

/-- The normed queries of a row block, -/
def queries (X : Vec Ideal S1x128x1024 .f32) (sh sc : Vec Ideal S1x1x1024 .f32) (w : Vec Ideal S1024x1536 .bf16) (qn : Vec Ideal S1x512 .f32) (gq : Vec Ideal S512x512 .bf16) : FVec Ideal S128x512 .f32 :=
  k0_pay17 (k0_pay7 qn) (k0_pay9 X sc) (k0_pay10 sh) w gq
/-- and its normed keys. -/
def keys (X : Vec Ideal S1x128x1024 .f32) (sh sc : Vec Ideal S1x1x1024 .f32) (w : Vec Ideal S1024x1536 .bf16) (kn : Vec Ideal S1x128 .f32) (gk : Vec Ideal S128x128 .bf16) : FVec Ideal S128x128 .f32 :=
  k0_pay18 (k0_pay8 kn) (k0_pay9 X sc) (k0_pay10 sh) w gk

/-- The global queries a row block leaves, -/
def qaPiece (X : Vec Ideal S1x128x1024 .f32) (sh : Vec Ideal S1x1x1024 .f32) (sc : Vec Ideal S1x1x1024 .f32) (w : Vec Ideal S1024x1536 .bf16) (qn : Vec Ideal S1x512 .f32) (gq : Vec Ideal S512x512 .bf16) (cs : Vec Ideal S128x128 .f32) (sn : Vec Ideal S128x128 .f32) : FVec Ideal S1x128x512 .bf16 :=
  k0_pay38 (k0_pay29 (k0_pay21 (k0_pay5 cs) (k0_pay6 sn) (queries X sh sc w qn gq) (Scalar.select (Scalar.cmpi .eq 32#32 0#32) 1#32 32#32) k0_pay19 0#32) (k0_pay22 (k0_pay5 cs) (k0_pay6 sn) (queries X sh sc w qn gq) (Scalar.select (Scalar.cmpi .eq 32#32 0#32) 1#32 32#32) k0_pay19 0#32) (k0_pay23 (k0_pay5 cs) (k0_pay6 sn) (queries X sh sc w qn gq) (Scalar.select (Scalar.cmpi .eq 32#32 0#32) 1#32 32#32) k0_pay19 0#32) (k0_pay25 (k0_pay5 cs) (queries X sh sc w qn gq)) (k0_pay26 (k0_pay6 sn) (queries X sh sc w qn gq) (Scalar.select (Scalar.cmpi .eq 32#32 0#32) 1#32 32#32) k0_pay19 0#32))

/-- its window queries, -/
def qcPiece (X : Vec Ideal S1x128x1024 .f32) (sh : Vec Ideal S1x1x1024 .f32) (sc : Vec Ideal S1x1x1024 .f32) (w : Vec Ideal S1024x1536 .bf16) (cs : Vec Ideal S128x128 .f32) (sn : Vec Ideal S128x128 .f32) : FVec Ideal S1x128x256 .bf16 :=
  k0_pay39 (k0_pay30 (k0_pay5 cs) (k0_pay6 sn) (k0_pay12 (k0_pay9 X sc) (k0_pay10 sh) w) lower)

/-- its Fourier part, -/
def uPiece (X : Vec Ideal S1x128x1024 .f32) (sh : Vec Ideal S1x1x1024 .f32) (sc : Vec Ideal S1x1x1024 .f32) (w : Vec Ideal S1024x1536 .bf16) : FVec Ideal S1x128x256 .f32 :=
  k0_pay40 (k0_pay13 (k0_pay9 X sc) (k0_pay10 sh) w)

/-- its global keys, repeated for the query heads, -/
def kaPiece (X : Vec Ideal S1x128x1024 .f32) (sh : Vec Ideal S1x1x1024 .f32) (sc : Vec Ideal S1x1x1024 .f32) (w : Vec Ideal S1024x1536 .bf16) (kn : Vec Ideal S1x128 .f32) (gk : Vec Ideal S128x128 .bf16) (cs : Vec Ideal S128x128 .f32) (sn : Vec Ideal S128x128 .f32) : FVec Ideal S1x128x512 .bf16 :=
  k0_pay41 (k0_pay34 (k0_pay27 (k0_pay5 cs) (k0_pay6 sn) (keys X sh sc w kn gk) lower) k0_pay31 (k0_pay32 (k0_pay5 cs) (k0_pay6 sn) (keys X sh sc w kn gk) lower) k0_pay33)

/-- its global values, likewise, -/
def vaPiece (X : Vec Ideal S1x128x1024 .f32) (sh : Vec Ideal S1x1x1024 .f32) (sc : Vec Ideal S1x1x1024 .f32) (w : Vec Ideal S1024x1536 .bf16) : FVec Ideal S1x128x512 .bf16 :=
  k0_pay42 (k0_pay35 (k0_pay14 (k0_pay9 X sc) (k0_pay10 sh) w))

/-- its window keys -/
def kcPiece (X : Vec Ideal S1x128x1024 .f32) (sh : Vec Ideal S1x1x1024 .f32) (sc : Vec Ideal S1x1x1024 .f32) (w : Vec Ideal S1024x1536 .bf16) (cs : Vec Ideal S128x128 .f32) (sn : Vec Ideal S128x128 .f32) : FVec Ideal S1x128x256 .bf16 :=
  k0_pay43 (k0_pay36 (k0_pay28 (k0_pay5 cs) (k0_pay6 sn) (k0_pay15 (k0_pay9 X sc) (k0_pay10 sh) w) lower))

/-- and its window values. -/
def vcPiece (X : Vec Ideal S1x128x1024 .f32) (sh : Vec Ideal S1x1x1024 .f32) (sc : Vec Ideal S1x1x1024 .f32) (w : Vec Ideal S1024x1536 .bf16) : FVec Ideal S1x128x256 .bf16 :=
  k0_pay44 (k0_pay37 (k0_pay16 (k0_pay9 X sc) (k0_pay10 sh) w))

variable (x0 : Vec Ideal S1x512x1024 .f32) (x1 x2 : Vec Ideal S1x1x1024 .f32) (x3 : Vec Ideal S1024x1536 .bf16) (x4 : Vec Ideal S1x512 .f32) (x5 : Vec Ideal S1x128 .f32) (x6 : Vec Ideal S512x512 .bf16) (x7 : Vec Ideal S128x128 .bf16) (x8 x9 : Vec Ideal S512x128 .f32)

theorem out10_eq : out0_10 x0 x1 x2 x3 x4 x5 x6 x7 x8 x9 = View.canon [⟨r0_20, qaPiece (View.ld x0 r0_19) (View.ld x1 r0_2) (View.ld x2 r0_2) (View.ld x3 r0_5) (View.ld x4 r0_3) (View.ld x6 r0_6) (View.ld x8 r0_18) (View.ld x9 r0_18)⟩,
    ⟨r0_16, qaPiece (View.ld x0 r0_15) (View.ld x1 r0_2) (View.ld x2 r0_2) (View.ld x3 r0_5) (View.ld x4 r0_3) (View.ld x6 r0_6) (View.ld x8 r0_14) (View.ld x9 r0_14)⟩,
    ⟨r0_12, qaPiece (View.ld x0 r0_11) (View.ld x1 r0_2) (View.ld x2 r0_2) (View.ld x3 r0_5) (View.ld x4 r0_3) (View.ld x6 r0_6) (View.ld x8 r0_10) (View.ld x9 r0_10)⟩,
    ⟨r0_8, qaPiece (View.ld x0 r0_1) (View.ld x1 r0_2) (View.ld x2 r0_2) (View.ld x3 r0_5) (View.ld x4 r0_3) (View.ld x6 r0_6) (View.ld x8 r0_0) (View.ld x9 r0_0)⟩] := by
  unfold_out out0_10
  rfl

theorem out11_eq : out0_11 x0 x1 x2 x3 x4 x5 x6 x7 x8 x9 = View.canon [⟨r0_21, qcPiece (View.ld x0 r0_19) (View.ld x1 r0_2) (View.ld x2 r0_2) (View.ld x3 r0_5) (View.ld x8 r0_18) (View.ld x9 r0_18)⟩,
    ⟨r0_17, qcPiece (View.ld x0 r0_15) (View.ld x1 r0_2) (View.ld x2 r0_2) (View.ld x3 r0_5) (View.ld x8 r0_14) (View.ld x9 r0_14)⟩,
    ⟨r0_13, qcPiece (View.ld x0 r0_11) (View.ld x1 r0_2) (View.ld x2 r0_2) (View.ld x3 r0_5) (View.ld x8 r0_10) (View.ld x9 r0_10)⟩,
    ⟨r0_9, qcPiece (View.ld x0 r0_1) (View.ld x1 r0_2) (View.ld x2 r0_2) (View.ld x3 r0_5) (View.ld x8 r0_0) (View.ld x9 r0_0)⟩] := by
  unfold_out out0_11
  rfl

theorem out12_eq : out0_12 x0 x1 x2 x3 x4 x5 x6 x7 x8 x9 = View.canon [⟨r0_21, uPiece (View.ld x0 r0_19) (View.ld x1 r0_2) (View.ld x2 r0_2) (View.ld x3 r0_5)⟩,
    ⟨r0_17, uPiece (View.ld x0 r0_15) (View.ld x1 r0_2) (View.ld x2 r0_2) (View.ld x3 r0_5)⟩,
    ⟨r0_13, uPiece (View.ld x0 r0_11) (View.ld x1 r0_2) (View.ld x2 r0_2) (View.ld x3 r0_5)⟩,
    ⟨r0_9, uPiece (View.ld x0 r0_1) (View.ld x1 r0_2) (View.ld x2 r0_2) (View.ld x3 r0_5)⟩] := by
  unfold_out out0_12
  rfl

theorem out13_eq : out0_13 x0 x1 x2 x3 x4 x5 x6 x7 x8 x9 = View.canon [⟨r0_20, kaPiece (View.ld x0 r0_19) (View.ld x1 r0_2) (View.ld x2 r0_2) (View.ld x3 r0_5) (View.ld x5 r0_4) (View.ld x7 r0_7) (View.ld x8 r0_18) (View.ld x9 r0_18)⟩,
    ⟨r0_16, kaPiece (View.ld x0 r0_15) (View.ld x1 r0_2) (View.ld x2 r0_2) (View.ld x3 r0_5) (View.ld x5 r0_4) (View.ld x7 r0_7) (View.ld x8 r0_14) (View.ld x9 r0_14)⟩,
    ⟨r0_12, kaPiece (View.ld x0 r0_11) (View.ld x1 r0_2) (View.ld x2 r0_2) (View.ld x3 r0_5) (View.ld x5 r0_4) (View.ld x7 r0_7) (View.ld x8 r0_10) (View.ld x9 r0_10)⟩,
    ⟨r0_8, kaPiece (View.ld x0 r0_1) (View.ld x1 r0_2) (View.ld x2 r0_2) (View.ld x3 r0_5) (View.ld x5 r0_4) (View.ld x7 r0_7) (View.ld x8 r0_0) (View.ld x9 r0_0)⟩] := by
  unfold_out out0_13
  rfl

theorem out14_eq : out0_14 x0 x1 x2 x3 x4 x5 x6 x7 x8 x9 = View.canon [⟨r0_20, vaPiece (View.ld x0 r0_19) (View.ld x1 r0_2) (View.ld x2 r0_2) (View.ld x3 r0_5)⟩,
    ⟨r0_16, vaPiece (View.ld x0 r0_15) (View.ld x1 r0_2) (View.ld x2 r0_2) (View.ld x3 r0_5)⟩,
    ⟨r0_12, vaPiece (View.ld x0 r0_11) (View.ld x1 r0_2) (View.ld x2 r0_2) (View.ld x3 r0_5)⟩,
    ⟨r0_8, vaPiece (View.ld x0 r0_1) (View.ld x1 r0_2) (View.ld x2 r0_2) (View.ld x3 r0_5)⟩] := by
  unfold_out out0_14
  rfl

theorem out15_eq : out0_15 x0 x1 x2 x3 x4 x5 x6 x7 x8 x9 = View.canon [⟨r0_21, kcPiece (View.ld x0 r0_19) (View.ld x1 r0_2) (View.ld x2 r0_2) (View.ld x3 r0_5) (View.ld x8 r0_18) (View.ld x9 r0_18)⟩,
    ⟨r0_17, kcPiece (View.ld x0 r0_15) (View.ld x1 r0_2) (View.ld x2 r0_2) (View.ld x3 r0_5) (View.ld x8 r0_14) (View.ld x9 r0_14)⟩,
    ⟨r0_13, kcPiece (View.ld x0 r0_11) (View.ld x1 r0_2) (View.ld x2 r0_2) (View.ld x3 r0_5) (View.ld x8 r0_10) (View.ld x9 r0_10)⟩,
    ⟨r0_9, kcPiece (View.ld x0 r0_1) (View.ld x1 r0_2) (View.ld x2 r0_2) (View.ld x3 r0_5) (View.ld x8 r0_0) (View.ld x9 r0_0)⟩] := by
  unfold_out out0_15
  rfl

theorem out16_eq : out0_16 x0 x1 x2 x3 x4 x5 x6 x7 x8 x9 = View.canon [⟨r0_21, vcPiece (View.ld x0 r0_19) (View.ld x1 r0_2) (View.ld x2 r0_2) (View.ld x3 r0_5)⟩,
    ⟨r0_17, vcPiece (View.ld x0 r0_15) (View.ld x1 r0_2) (View.ld x2 r0_2) (View.ld x3 r0_5)⟩,
    ⟨r0_13, vcPiece (View.ld x0 r0_11) (View.ld x1 r0_2) (View.ld x2 r0_2) (View.ld x3 r0_5)⟩,
    ⟨r0_9, vcPiece (View.ld x0 r0_1) (View.ld x1 r0_2) (View.ld x2 r0_2) (View.ld x3 r0_5)⟩] := by
  unfold_out out0_16
  rfl

end Cert.InProj

end
-- ==== Proof.InProjSpec.lean ====
/-
  The input projection of the layer, written plainly over the extended reals: the normed and modulated row, its
  projection, and the seven parts that are cut from it (queries, keys and values of the two attentions and the
  gate), with the norm of a head, its rotation and the scale of the logits.
-/
module

public import proofs.«01_k».proof.Proof.NormSpec

@[expose] public section

set_option maxRecDepth 16384

noncomputable section

namespace Cert.InProj

open Idealize.ShloMosaic Idealize.SL.Sem Idealize.ShloMosaic.TcCoe Idealize.ShloMosaic.Tactic
open Cert.Norm (Stream normed variance mean width)

abbrev Modulation : Type := (⟨3, ![8, 1, 1024]⟩ : Shape).Idx → EReal
abbrev Matrix : Type := (⟨3, ![2, 1024, 1536]⟩ : Shape).Idx → EReal
abbrev Gain : Type := (⟨2, ![2, 64]⟩ : Shape).Idx → EReal
abbrev Wide : Type := (⟨3, ![8, 4096, 512]⟩ : Shape).Idx → EReal
abbrev Narrow : Type := (⟨3, ![8, 4096, 256]⟩ : Shape).Idx → EReal

/-- The normed row, scaled and shifted by its sample's modulation. -/
def modulated (x : Stream) (sh sc : Modulation) (b : Fin 8) (t : Fin 4096) (k : Fin 1024) : EReal :=
  normed (fun k => x (ix3 b t k)) k * (Ideal.ofBits .f32 0x3F800000#32 + sc (ix3 b 0 k)) + sh (ix3 b 0 k)

/-- The projected row. -/
def projected (x : Stream) (sh sc : Modulation) (w : Matrix) (b : Fin 8) (t : Fin 4096) (n : Fin 1536) : EReal :=
  ∑ k : Fin 1024, modulated x sh sc b t k * w (ix3 0 k n)

/-- The head of a projected row that starts at a given feature. -/
def headOf (p : Fin 1536 → EReal) (s : ℕ) (hs : s + 64 ≤ 1536) (d : Fin 64) : EReal := p ⟨s + d.val, by omega⟩

/-- A head over its root mean square, times its gain. -/
def rmsNormed (z g : Fin 64 → EReal) (d : Fin 64) : EReal :=
  z d * Ideal.rsqrt (Ideal.div (∑ k : Fin 64, z k * z k) (Ideal.ofBits .f32 0x42800000#32) + Ideal.ofBits .f32 0x358637BD#32) * g d

/-- The frequency of a pair of features: `10000 ^ (-2 i / 32)`. -/
def frequency (i : ℕ) : EReal :=
  Ideal.pow (Ideal.ofBits .f32 0x461C4000#32)
    (Ideal.div (-(Ideal.ofBits .f32 0x40000000#32 * FloatOps.sitofp (F := Ideal) .f32 (BitVec.ofNat 32 i))) (Ideal.ofBits .f32 0x42000000#32))

/-- The angle by which a feature of token `t` is turned: the token's row in the 64 by 64 grid for the first half of
    the head, its column for the second, times the frequency. -/
def angle (t d : ℕ) : EReal :=
  FloatOps.sitofp (F := Ideal) .f32 (BitVec.ofNat 32 (if d / 32 < 1 then t / 64 else t % 64)) * frequency (d % 16)

/-- A head, turned: within each half, feature `i` and feature `i + 16` are turned as a pair. -/
def turned (z : Fin 64 → EReal) (t : ℕ) (d : Fin 64) : EReal :=
  if d.val % 32 < 16 then z d * Ideal.cos (angle t d.val) - z ⟨(d.val + 16) % 64, by omega⟩ * Ideal.sin (angle t d.val)
  else z d * Ideal.cos (angle t d.val) + z ⟨(d.val + 48) % 64, by omega⟩ * Ideal.sin (angle t d.val)

/-- The scale of the logits: `64 ^ (-1/2) / log 2`. -/
def logitScale : EReal := Ideal.div (Ideal.ofBits .f32 0x3E000000#32) (Ideal.log (Ideal.ofBits .f32 0x40000000#32))

section Row
variable (p : Fin 1536 → EReal) (qn kn : Gain) (t : ℕ)

/-- The axial queries, -/
def queryA (n : Fin 512) : EReal :=
  turned (rmsNormed (headOf p (64 * (n.val / 64)) (by omega)) (fun d => qn (ix2 0 d))) t ⟨n.val % 64, by omega⟩ * logitScale
/-- the cross queries, -/
def queryC (n : Fin 256) : EReal := turned (headOf p (512 + 64 * (n.val / 64)) (by omega)) t ⟨n.val % 64, by omega⟩ * logitScale
/-- the gate, -/
def gate (n : Fin 256) : EReal := p ⟨768 + n.val, by omega⟩
/-- the axial keys (each head four times), -/
def keyA (n : Fin 512) : EReal :=
  turned (rmsNormed (headOf p (1024 + 64 * (n.val / 256)) (by omega)) (fun d => kn (ix2 0 d))) t ⟨n.val % 64, by omega⟩
/-- the axial values (each head four times), -/
def valueA (n : Fin 512) : EReal := headOf p (1152 + 64 * (n.val / 256)) (by omega) ⟨n.val % 64, by omega⟩
/-- the cross keys (each head twice) -/
def keyC (n : Fin 256) : EReal := turned (headOf p (1280 + 64 * (n.val / 128)) (by omega)) t ⟨n.val % 64, by omega⟩
/-- and the cross values (each head twice). -/
def valueC (n : Fin 256) : EReal := headOf p (1408 + 64 * (n.val / 128)) (by omega) ⟨n.val % 64, by omega⟩
end Row

/-! The seven result arrays. -/
section Arrays
variable (x : Stream) (sh sc : Modulation) (w : Matrix) (qn kn : Gain)
def queryAArray : Wide := fun i => queryA (projected x sh sc w (i 0) (i 1)) qn (i 1).val (i 2)
def queryCArray : Narrow := fun i => queryC (projected x sh sc w (i 0) (i 1)) (i 1).val (i 2)
def gateArray : Narrow := fun i => gate (projected x sh sc w (i 0) (i 1)) (i 2)
def keyAArray : Wide := fun i => keyA (projected x sh sc w (i 0) (i 1)) kn (i 1).val (i 2)
def valueAArray : Wide := fun i => valueA (projected x sh sc w (i 0) (i 1)) (i 2)
def keyCArray : Narrow := fun i => keyC (projected x sh sc w (i 0) (i 1)) (i 1).val (i 2)
def valueCArray : Narrow := fun i => valueC (projected x sh sc w (i 0) (i 1)) (i 2)
end Arrays

/-- A head from its two interleaved halves: the reference turns feature `i` of a half against feature `i + 16`. -/
theorem turned_of (z : Fin 64 → EReal) (t : ℕ) (d : Fin 64) (a e c s : EReal)
    (ha : a = z ⟨d.val / 32 * 32 + d.val % 16, by omega⟩) (he : e = z ⟨d.val / 32 * 32 + 16 + d.val % 16, by omega⟩)
    (hc : c = Ideal.cos (angle t d.val)) (hs : s = Ideal.sin (angle t d.val)) :
    (if d.val % 32 < 16 then a * c - e * s else e * c + a * s) = turned z t d := by
  subst hc hs
  unfold turned
  by_cases h : d.val % 32 < 16
  · rw [if_pos h, if_pos h, ha, he, show (⟨d.val / 32 * 32 + d.val % 16, by omega⟩ : Fin 64) = d from Fin.ext (by simp only; omega),
      show (⟨d.val / 32 * 32 + 16 + d.val % 16, by omega⟩ : Fin 64) = ⟨(d.val + 16) % 64, by omega⟩ from Fin.ext (by simp only; omega)]
  · rw [if_neg h, if_neg h, ha, he, show (⟨d.val / 32 * 32 + 16 + d.val % 16, by omega⟩ : Fin 64) = d from Fin.ext (by simp only; omega),
      show (⟨d.val / 32 * 32 + d.val % 16, by omega⟩ : Fin 64) = ⟨(d.val + 48) % 64, by omega⟩ from Fin.ext (by simp only; omega)]

end Cert.InProj

end
-- ==== Proof.InProjRead.lean ====
/-
  The vectors of one row block of the input projection, read at an index: each row of a block is the specification's
  row of its own token, given that the tables hold the cosines and the signed sines of the token's angles and that the
  two 0/1 matrices say which features share a head.
-/
module

public import proofs.«01_k».proof.Proof.InProjBody
public import proofs.«01_k».proof.Proof.InProjSpec

@[expose] public section

set_option maxRecDepth 16384

noncomputable section

namespace Cert.InProj

open Cert.Kernel4Ideal Cert.Kernel4Ideal.Gen Idealize.ShloMosaic Idealize.SL.Sem Idealize.ShloMosaic.TcCoe Idealize.ShloMosaic.Tactic
open Cert.Norm (normed variance mean width)

/-! ## Scalars -/

theorem select_of (c : Prop) [Decidable c] (b : BitVec 1) (hb : b = if c then 1#1 else 0#1) (u l : EReal) :
    Scalar.select b u l = if c then u else l := by
  subst hb
  by_cases h : c <;> simp [h, Scalar.select]

/-- The named constant is the scale of the logits. -/
theorem named_scale : Named.named (F := Ideal) κ (φ := .f32) "logit_scale" 0x3E38AA3B#32 = logitScale := by
  have h : Named.named (F := Ideal) κ (φ := .f32) "logit_scale" 0x3E38AA3B#32 = (((8 * (Real.log 2))⁻¹ : ℝ) : EReal) := rfl
  have h2 : Ideal.ofBits .f32 0x40000000#32 = ((2 : ℝ) : EReal) := by
    simp [Ideal.ofBits, Ideal.ieee]
    rw [← EReal.coe_mul]; norm_num
  have h8 : Ideal.ofBits .f32 0x3E000000#32 = ((1 / 8 : ℝ) : EReal) := by
    simp [Ideal.ofBits, Ideal.ieee]
    rw [← EReal.coe_mul]; norm_num
  have hl : Real.log 2 ≠ 0 := (Real.log_pos one_lt_two).ne'
  rw [h, logitScale, h2, h8, Ideal.log_coe, if_neg (by norm_num : ¬ (2 : ℝ) ≤ 0), Ideal.div_coe hl, ← EReal.coe_mul]
  congr 1
  field_simp

/-- A sixty-fourth, taken by a product. -/
theorem sixtyfourth (s : EReal) : s * Ideal.ofBits .f32 0x3C800000#32 = Ideal.div s (Ideal.ofBits .f32 0x42800000#32) := by
  have h1 : Ideal.ofBits .f32 0x3C800000#32 = ((1 / 64 : ℝ) : EReal) := by
    simp [Ideal.ofBits, Ideal.ieee]
    rw [← EReal.coe_mul]; norm_num
  have h2 : Ideal.ofBits .f32 0x42800000#32 = ((64 : ℝ) : EReal) := by
    simp [Ideal.ofBits, Ideal.ieee]
    rw [← EReal.coe_mul]; norm_num
  rw [h1, h2, Ideal.div_coe (by norm_num)]

/-- The sum over the features of one head, as a sum over all features against the 0/1 matrix. -/
theorem sum_head (H : ℕ) (F : Fin (H * 64) → EReal) (h : Fin H) :
    ∑ x : Fin (H * 64), F x * (if x.val / 64 = h.val then 1 else 0) = ∑ d : Fin 64, F ⟨64 * h.val + d.val, by have := h.isLt; omega⟩ := by
  rw [← finProdFinEquiv.sum_comp, Fintype.sum_prod_type, Finset.sum_eq_single h]
  · refine Finset.sum_congr rfl fun d _ => ?_
    have hv : (finProdFinEquiv (h, d)).val = d.val + 64 * h.val := rfl
    rw [if_pos (by omega), mul_one]
    exact congrArg F (Fin.ext (hv.trans (Nat.add_comm _ _)))
  · intro k _ hk
    refine Finset.sum_eq_zero fun d _ => ?_
    have hv : (finProdFinEquiv (k, d)).val = d.val + 64 * k.val := rfl
    rw [if_neg (by intro e; exact hk (Fin.ext (by omega))), mul_zero]
  · intro hn
    exact absurd (Finset.mem_univ h) hn

/-! ## The lanes of a rotation -/

theorem lower_eq : ∀ j : Fin 128, lower (ix2 0 j) = if j.val % 32 < 16 then 1#1 else 0#1 := by decide +kernel
theorem low_eq : ∀ j : Fin 128, k0_pay31 (ix2 0 j) = if j.val < 64 then 1#1 else 0#1 := by decide +kernel
theorem low_eq' : ∀ j : Fin 128, IntOp.cmpi .slt (BitVec.ofNat 32 j.val) 64#32 = if j.val < 64 then 1#1 else 0#1 := by decide +kernel

/-- The sign with which the sine table is stored. -/
def sign (j : ℕ) : EReal := if j % 32 < 16 then -1 else 1

/-- Two heads side by side, turned: the partner of a lane comes from sixteen lanes on or back. -/
theorem lanes (z cs sn : Fin 128 → EReal) (Q : Fin 2 → Fin 64 → EReal) (t : ℕ)
    (hz : ∀ j : Fin 128, z j = Q ⟨j.val / 64, by omega⟩ ⟨j.val % 64, by omega⟩)
    (hc : ∀ j : Fin 128, cs j = Ideal.cos (angle t (j.val % 64)))
    (hs : ∀ j : Fin 128, sn j = Ideal.sin (angle t (j.val % 64)) * sign j.val) (j : Fin 128) :
    z j * cs j + Scalar.select (lower (ix2 0 j)) (z ⟨(j.val + 128 - 112) % 128, by omega⟩) (z ⟨(j.val + 128 - 16) % 128, by omega⟩) * sn j
      = turned (Q ⟨j.val / 64, by omega⟩) t ⟨j.val % 64, by omega⟩ := by
  rw [select_of _ _ (lower_eq j), hc, hs, turned, sign]
  by_cases h : j.val % 32 < 16
  · rw [if_pos h, if_pos h, if_pos (show j.val % 64 % 32 < 16 by omega), hz, hz, mul_neg, mul_one, mul_neg, sub_eq_add_neg]
    have e1 : (⟨(j.val + 128 - 112) % 128 / 64, by omega⟩ : Fin 2) = ⟨j.val / 64, by omega⟩ := Fin.ext (by simp only; omega)
    have e2 : (⟨(j.val + 128 - 112) % 128 % 64, by omega⟩ : Fin 64) = ⟨(j.val % 64 + 16) % 64, by omega⟩ := Fin.ext (by simp only; omega)
    simp only [e1, e2]
  · rw [if_neg h, if_neg h, if_neg (show ¬ j.val % 64 % 32 < 16 by omega), hz, hz, mul_one]
    have e1 : (⟨(j.val + 128 - 16) % 128 / 64, by omega⟩ : Fin 2) = ⟨j.val / 64, by omega⟩ := Fin.ext (by simp only; omega)
    have e2 : (⟨(j.val + 128 - 16) % 128 % 64, by omega⟩ : Fin 64) = ⟨(j.val % 64 + 48) % 64, by omega⟩ := Fin.ext (by simp only; omega)
    simp only [e1, e2]

/-! ## The projected row of a block -/

section Row
variable (X : FVec Ideal S1x128x1024 .f32) (sh sc : FVec Ideal S1x1x1024 .f32) (w : FVec Ideal S1024x1536 .bf16) (r : Fin 128)

/-- The modulated row -/
def blockRow (k : Fin 1024) : EReal := normed (fun k => X (ix3 0 r k)) k * (Ideal.ofBits .f32 0x3F800000#32 + sc (ix3 0 0 k)) + sh (ix3 0 0 k)
/-- and its projection. -/
def blockProj (n : Fin 1536) : EReal := ∑ k : Fin 1024, blockRow X sh sc r k * w (ix2 k n)

theorem proj_apply (n : Fin 1536) : k0_pay11 (F := Ideal) (k0_pay9 X sc) (k0_pay10 sh) w (ix2 r n) = blockProj X sh sc w r n := by
  pointwise [k0_pay11, k0_pay9, k0_pay10, blockProj, blockRow, normed, variance, mean, width]

theorem part12 (n : Fin 256) : k0_pay12 (F := Ideal) (k0_pay9 X sc) (k0_pay10 sh) w (ix2 r n) = blockProj X sh sc w r ⟨512 + n.val, by omega⟩ := by
  rw [← proj_apply]; pointwise [k0_pay12]
theorem part13 (n : Fin 256) : k0_pay13 (F := Ideal) (k0_pay9 X sc) (k0_pay10 sh) w (ix2 r n) = blockProj X sh sc w r ⟨768 + n.val, by omega⟩ := by
  rw [← proj_apply]; pointwise [k0_pay13]
theorem part14 (n : Fin 128) : k0_pay14 (F := Ideal) (k0_pay9 X sc) (k0_pay10 sh) w (ix2 r n) = blockProj X sh sc w r ⟨1152 + n.val, by omega⟩ := by
  rw [← proj_apply]; pointwise [k0_pay14]
theorem part15 (n : Fin 128) : k0_pay15 (F := Ideal) (k0_pay9 X sc) (k0_pay10 sh) w (ix2 r n) = blockProj X sh sc w r ⟨1280 + n.val, by omega⟩ := by
  rw [← proj_apply]; pointwise [k0_pay15]
theorem part16 (n : Fin 128) : k0_pay16 (F := Ideal) (k0_pay9 X sc) (k0_pay10 sh) w (ix2 r n) = blockProj X sh sc w r ⟨1408 + n.val, by omega⟩ := by
  rw [← proj_apply]; pointwise [k0_pay16]

/-- The normed queries are the normed heads of the row, -/
theorem queries_apply (qn : FVec Ideal S1x512 .f32) (gq : FVec Ideal S512x512 .bf16) (gain : Fin 64 → EReal)
    (hn : ∀ n : Fin 512, qn (ix2 0 n) = gain ⟨n.val % 64, by omega⟩)
    (hg : ∀ k n : Fin 512, gq (ix2 k n) = if k.val / 64 = n.val / 64 then 1 else 0) (n : Fin 512) :
    queries X sh sc w qn gq (ix2 r n)
      = rmsNormed (headOf (blockProj X sh sc w r) (64 * (n.val / 64)) (by omega)) gain ⟨n.val % 64, by omega⟩ := by
  have h : queries X sh sc w qn gq (ix2 r n)
      = blockProj X sh sc w r ⟨n.val, by omega⟩ * Ideal.rsqrt ((∑ x : Fin 512, blockProj X sh sc w r ⟨x.val, by omega⟩ * blockProj X sh sc w r ⟨x.val, by omega⟩ * gq (ix2 x n))
          * Ideal.ofBits .f32 0x3C800000#32 + Ideal.ofBits .f32 0x358637BD#32) * qn (ix2 0 n) := by
    simp only [← proj_apply]
    pointwise [queries, k0_pay17, k0_pay7]
  simp only [hg] at h
  rw [sum_head 8 (fun x => blockProj X sh sc w r ⟨x.val, by omega⟩ * blockProj X sh sc w r ⟨x.val, by omega⟩) ⟨n.val / 64, by omega⟩, sixtyfourth, hn] at h
  rw [h, rmsNormed]
  refine congrArg₂ (· * ·) (congrArg₂ (· * ·) ?_ rfl) rfl
  exact congrArg (blockProj X sh sc w r) (Fin.ext (by show n.val = 64 * (n.val / 64) + n.val % 64; omega))

/-- and so are the normed keys. -/
theorem keys_apply (kn : FVec Ideal S1x128 .f32) (gk : FVec Ideal S128x128 .bf16) (gain : Fin 64 → EReal)
    (hn : ∀ n : Fin 128, kn (ix2 0 n) = gain ⟨n.val % 64, by omega⟩)
    (hg : ∀ k n : Fin 128, gk (ix2 k n) = if k.val / 64 = n.val / 64 then 1 else 0) (n : Fin 128) :
    keys X sh sc w kn gk (ix2 r n)
      = rmsNormed (headOf (blockProj X sh sc w r) (1024 + 64 * (n.val / 64)) (by omega)) gain ⟨n.val % 64, by omega⟩ := by
  have h : keys X sh sc w kn gk (ix2 r n)
      = blockProj X sh sc w r ⟨1024 + n.val, by omega⟩ * Ideal.rsqrt ((∑ x : Fin 128, blockProj X sh sc w r ⟨1024 + x.val, by omega⟩ * blockProj X sh sc w r ⟨1024 + x.val, by omega⟩ * gk (ix2 x n))
          * Ideal.ofBits .f32 0x3C800000#32 + Ideal.ofBits .f32 0x358637BD#32) * kn (ix2 0 n) := by
    simp only [← proj_apply]
    pointwise [keys, k0_pay18, k0_pay8]
  simp only [hg] at h
  rw [sum_head 2 (fun x => blockProj X sh sc w r ⟨1024 + x.val, by omega⟩ * blockProj X sh sc w r ⟨1024 + x.val, by omega⟩) ⟨n.val / 64, by omega⟩, sixtyfourth, hn] at h
  rw [h, rmsNormed]
  refine congrArg₂ (· * ·) (congrArg₂ (· * ·) ?_ (congrArg Ideal.rsqrt (congrArg₂ (· + ·) (congrArg₂ Ideal.div (Finset.sum_congr rfl fun d _ => ?_) rfl) rfl))) rfl
  · exact congrArg (blockProj X sh sc w r) (Fin.ext (by show 1024 + n.val = 1024 + 64 * (n.val / 64) + n.val % 64; omega))
  · have e : (⟨1024 + (64 * (n.val / 64) + d.val), by omega⟩ : Fin 1536) = ⟨1024 + 64 * (n.val / 64) + d.val, by omega⟩ := Fin.ext (by simp only; omega)
    show blockProj X sh sc w r ⟨1024 + (64 * (n.val / 64) + d.val), _⟩ * blockProj X sh sc w r ⟨1024 + (64 * (n.val / 64) + d.val), _⟩ = _
    rw [e]
    rfl
end Row

end Cert.InProj

end
-- ==== Proof.InProjPieces.lean ====
/-
  The seven vectors a row block of the input projection leaves, each read as its part of the specification.
-/
module

public import proofs.«01_k».proof.Proof.InProjRead

@[expose] public section

set_option maxRecDepth 16384

noncomputable section

namespace Cert.InProj

open Cert.Kernel4Ideal Cert.Kernel4Ideal.Gen Idealize.ShloMosaic Idealize.SL.Sem Idealize.ShloMosaic.TcCoe Idealize.ShloMosaic.Tactic
open Cert.Norm (normed variance mean width)

section Lanes
variable (cs sn : FVec Ideal S128x128 .f32) (r : Fin 128) (t : ℕ)
  (hc : ∀ j : Fin 128, cs (ix2 r j) = Ideal.cos (angle t (j.val % 64)))
  (hs : ∀ j : Fin 128, sn (ix2 r j) = Ideal.sin (angle t (j.val % 64)) * sign j.val)

include hc hs

/-- Two heads of a vector, turned. -/
theorem turn27 (z : FVec Ideal S128x128 .f32) (Q : Fin 2 → Fin 64 → EReal)
    (hz : ∀ j : Fin 128, z (ix2 r j) = Q ⟨j.val / 64, by omega⟩ ⟨j.val % 64, by omega⟩) (j : Fin 128) :
    k0_pay27 (k0_pay5 cs) (k0_pay6 sn) z lower (ix2 r j) = turned (Q ⟨j.val / 64, by omega⟩) t ⟨j.val % 64, by omega⟩ := by
  refine Eq.trans ?_ (lanes (fun j => z (ix2 r j)) (fun j => cs (ix2 r j)) (fun j => sn (ix2 r j)) Q t hz hc hs j)
  pointwise [k0_pay27, k0_pay5, k0_pay6]

theorem turn28 (z : FVec Ideal S128x128 .f32) (Q : Fin 2 → Fin 64 → EReal)
    (hz : ∀ j : Fin 128, z (ix2 r j) = Q ⟨j.val / 64, by omega⟩ ⟨j.val % 64, by omega⟩) (j : Fin 128) :
    k0_pay28 (k0_pay5 cs) (k0_pay6 sn) z lower (ix2 r j) = turned (Q ⟨j.val / 64, by omega⟩) t ⟨j.val % 64, by omega⟩ := by
  refine Eq.trans ?_ (lanes (fun j => z (ix2 r j)) (fun j => cs (ix2 r j)) (fun j => sn (ix2 r j)) Q t hz hc hs j)
  pointwise [k0_pay28, k0_pay5, k0_pay6]

/-- Four of the lanes of a wide vector that start at `s`, turned. -/
theorem turn_at (N : ℕ) (z : Fin N → EReal) (s : ℕ) (hN : s + 128 ≤ N) (Q : ℕ → Fin 64 → EReal) (hs64 : s % 64 = 0)
    (hz : ∀ n : Fin N, z n = Q (n.val / 64) ⟨n.val % 64, by omega⟩) (j : Fin 128) :
    z ⟨s + j.val, by omega⟩ * cs (ix2 r j) + Scalar.select (lower (ix2 0 j)) (z ⟨s + (j.val + 128 - 112) % 128, by omega⟩) (z ⟨s + (j.val + 128 - 16) % 128, by omega⟩) * sn (ix2 r j)
      = turned (Q ((s + j.val) / 64)) t ⟨(s + j.val) % 64, by omega⟩ := by
  refine (lanes (fun j => z ⟨s + j.val, by omega⟩) (fun j => cs (ix2 r j)) (fun j => sn (ix2 r j)) (fun h => Q (s / 64 + h.val)) t (fun j => ?_) hc hs j).trans ?_
  · rw [hz]
    have e1 : (s + j.val) / 64 = s / 64 + j.val / 64 := by omega
    have e2 : (⟨(s + j.val) % 64, by omega⟩ : Fin 64) = ⟨j.val % 64, by omega⟩ := Fin.ext (by simp only; omega)
    simp only [e1, e2]
  · have e1 : (s + j.val) / 64 = s / 64 + j.val / 64 := by omega
    have e2 : (⟨(s + j.val) % 64, by omega⟩ : Fin 64) = ⟨j.val % 64, by omega⟩ := Fin.ext (by simp only; omega)
    simp only [e1, e2]

/-- All eight heads of the queries, turned and scaled. -/
theorem turn_wide (z : FVec Ideal S128x512 .f32) (Q : ℕ → Fin 64 → EReal)
    (hz : ∀ n : Fin 512, z (ix2 r n) = Q (n.val / 64) ⟨n.val % 64, by omega⟩) (n : Fin 512) :
    k0_pay29 (F := Ideal) (k0_pay21 (k0_pay5 cs) (k0_pay6 sn) z (Scalar.select (Scalar.cmpi .eq 32#32 0#32) 1#32 32#32) k0_pay19 0#32) (k0_pay22 (k0_pay5 cs) (k0_pay6 sn) z (Scalar.select (Scalar.cmpi .eq 32#32 0#32) 1#32 32#32) k0_pay19 0#32) (k0_pay23 (k0_pay5 cs) (k0_pay6 sn) z (Scalar.select (Scalar.cmpi .eq 32#32 0#32) 1#32 32#32) k0_pay19 0#32) (k0_pay25 (k0_pay5 cs) z) (k0_pay26 (k0_pay6 sn) z (Scalar.select (Scalar.cmpi .eq 32#32 0#32) 1#32 32#32) k0_pay19 0#32) (ix2 r n)
      = turned (Q (n.val / 64)) t ⟨n.val % 64, by omega⟩ * logitScale := by
  have h21 : ∀ j : Fin 128, k0_pay21 (k0_pay5 cs) (k0_pay6 sn) z (Scalar.select (Scalar.cmpi .eq 32#32 0#32) 1#32 32#32) k0_pay19 0#32 (ix2 r j) = turned (Q ((0 + j.val) / 64)) t ⟨(0 + j.val) % 64, by omega⟩ := fun j => by
    refine Eq.trans ?_ (turn_at cs sn r t hc hs 512 (fun n => z (ix2 r n)) 0 (by norm_num) Q rfl hz j)
    pointwise [k0_pay21, lower, k0_pay5, k0_pay6]
  have h22 : ∀ j : Fin 128, k0_pay22 (k0_pay5 cs) (k0_pay6 sn) z (Scalar.select (Scalar.cmpi .eq 32#32 0#32) 1#32 32#32) k0_pay19 0#32 (ix2 r j) = turned (Q ((128 + j.val) / 64)) t ⟨(128 + j.val) % 64, by omega⟩ := fun j => by
    refine Eq.trans ?_ (turn_at cs sn r t hc hs 512 (fun n => z (ix2 r n)) 128 (by norm_num) Q rfl hz j)
    pointwise [k0_pay22, lower, k0_pay5, k0_pay6]
  have h23 : ∀ j : Fin 128, k0_pay23 (k0_pay5 cs) (k0_pay6 sn) z (Scalar.select (Scalar.cmpi .eq 32#32 0#32) 1#32 32#32) k0_pay19 0#32 (ix2 r j) = turned (Q ((256 + j.val) / 64)) t ⟨(256 + j.val) % 64, by omega⟩ := fun j => by
    refine Eq.trans ?_ (turn_at cs sn r t hc hs 512 (fun n => z (ix2 r n)) 256 (by norm_num) Q rfl hz j)
    pointwise [k0_pay23, lower, k0_pay5, k0_pay6]
  have h24 : ∀ j : Fin 128, k0_pay25 (k0_pay5 cs) z (ix2 r j) + k0_pay26 (k0_pay6 sn) z (Scalar.select (Scalar.cmpi .eq 32#32 0#32) 1#32 32#32) k0_pay19 0#32 (ix2 r j) = turned (Q ((384 + j.val) / 64)) t ⟨(384 + j.val) % 64, by omega⟩ := fun j => by
    refine Eq.trans ?_ (turn_at cs sn r t hc hs 512 (fun n => z (ix2 r n)) 384 (by norm_num) Q rfl hz j)
    pointwise [k0_pay25, k0_pay26, k0_pay24, lower, k0_pay5, k0_pay6]
  generalize k0_pay21 (k0_pay5 cs) (k0_pay6 sn) z (Scalar.select (Scalar.cmpi .eq 32#32 0#32) 1#32 32#32) k0_pay19 0#32 = z1 at h21 ⊢
  generalize k0_pay22 (k0_pay5 cs) (k0_pay6 sn) z (Scalar.select (Scalar.cmpi .eq 32#32 0#32) 1#32 32#32) k0_pay19 0#32 = z2 at h22 ⊢
  generalize k0_pay23 (k0_pay5 cs) (k0_pay6 sn) z (Scalar.select (Scalar.cmpi .eq 32#32 0#32) 1#32 32#32) k0_pay19 0#32 = z3 at h23 ⊢
  generalize k0_pay25 (k0_pay5 cs) z = z4 at h24 ⊢
  generalize k0_pay26 (k0_pay6 sn) z (Scalar.select (Scalar.cmpi .eq 32#32 0#32) 1#32 32#32) k0_pay19 0#32 = z5 at h24 ⊢
  have hA : k0_pay29 z1 z2 z3 z4 z5 (ix2 r n) = (if h : n.val < 128 then z1 (ix2 r ⟨n.val, h⟩) else if h : n.val - 128 < 128 then z2 (ix2 r ⟨n.val - 128, h⟩)
      else if h : n.val - 128 - 128 < 128 then z3 (ix2 r ⟨n.val - 128 - 128, h⟩) else z4 (ix2 r ⟨n.val - 128 - 128 - 128, by omega⟩) + z5 (ix2 r ⟨n.val - 128 - 128 - 128, by omega⟩)) * logitScale := by
    rw [← named_scale]
    pointwise [k0_pay29]
  rw [hA]
  refine congrArg₂ (· * ·) ?_ rfl
  have key : ∀ m : ℕ, m = n.val → turned (Q (m / 64)) t ⟨m % 64, by omega⟩ = turned (Q (n.val / 64)) t ⟨n.val % 64, by omega⟩ := fun m hm => by
    subst hm; rfl
  split_ifs with h1 h2 h3
  · rw [h21]; exact key _ (by simp only; omega)
  · rw [h22]; exact key _ (by simp only; omega)
  · rw [h23]; exact key _ (by simp only; omega)
  · rw [h24]; exact key _ (by simp only; omega)

/-- The four cross heads, turned and scaled. -/
theorem turn_narrow (z : FVec Ideal S128x256 .f32) (Q : ℕ → Fin 64 → EReal)
    (hz : ∀ n : Fin 256, z (ix2 r n) = Q (n.val / 64) ⟨n.val % 64, by omega⟩) (n : Fin 256) :
    k0_pay30 (k0_pay5 cs) (k0_pay6 sn) z lower (ix2 r n) = turned (Q (n.val / 64)) t ⟨n.val % 64, by omega⟩ * logitScale := by
  have hA : k0_pay30 (k0_pay5 cs) (k0_pay6 sn) z lower (ix2 r n) = (if h : n.val < 128 then
        z (ix2 r ⟨0 + n.val, by omega⟩) * cs (ix2 r ⟨n.val, h⟩) + Scalar.select (lower (ix2 0 ⟨n.val, h⟩)) (z (ix2 r ⟨0 + (n.val + 128 - 112) % 128, by omega⟩)) (z (ix2 r ⟨0 + (n.val + 128 - 16) % 128, by omega⟩)) * sn (ix2 r ⟨n.val, h⟩)
      else z (ix2 r ⟨128 + (n.val - 128), by omega⟩) * cs (ix2 r ⟨n.val - 128, by omega⟩) + Scalar.select (lower (ix2 0 ⟨n.val - 128, by omega⟩)) (z (ix2 r ⟨128 + (n.val - 128 + 128 - 112) % 128, by omega⟩)) (z (ix2 r ⟨128 + (n.val - 128 + 128 - 16) % 128, by omega⟩)) * sn (ix2 r ⟨n.val - 128, by omega⟩)) * logitScale := by
    rw [← named_scale]
    pointwise [k0_pay30, k0_pay5, k0_pay6]
  rw [hA]
  refine congrArg₂ (· * ·) ?_ rfl
  have key : ∀ m : ℕ, m = n.val → turned (Q (m / 64)) t ⟨m % 64, by omega⟩ = turned (Q (n.val / 64)) t ⟨n.val % 64, by omega⟩ := fun m hm => by
    subst hm; rfl
  split_ifs with h1
  · exact (turn_at cs sn r t hc hs 256 (fun n => z (ix2 r n)) 0 (by norm_num) Q rfl hz ⟨n.val, h1⟩).trans (key _ (by simp only; omega))
  · exact (turn_at cs sn r t hc hs 256 (fun n => z (ix2 r n)) 128 (by norm_num) Q rfl hz ⟨n.val - 128, by omega⟩).trans (key _ (by simp only; omega))
end Lanes

/-! ## Heads repeated -/

/-- Two heads, each twice. -/
theorem twice36 (a : FVec Ideal S128x128 .f32) (r : Fin 128) (n : Fin 256) : k0_pay36 a (ix2 r n) = a (ix2 r ⟨64 * (n.val / 128) + n.val % 64, by omega⟩) := by
  have h : k0_pay36 a (ix2 r n) = if h : n.val < 128 then
      Scalar.select (IntOp.cmpi .slt (BitVec.ofNat 32 n.val) 64#32) (a (ix2 r ⟨n.val, h⟩)) (a (ix2 r ⟨(n.val + 128 - 64) % 128, by omega⟩))
    else Scalar.select (IntOp.cmpi .slt (BitVec.ofNat 32 (n.val - 128)) 64#32) (a (ix2 r ⟨(n.val - 128 + 128 - 64) % 128, by omega⟩)) (a (ix2 r ⟨n.val - 128, by omega⟩)) := by
    pointwise [k0_pay36]
  rw [h]
  split_ifs with h1
  · rw [select_of _ _ (low_eq' ⟨n.val, h1⟩)]
    split_ifs with h2 <;> exact congrArg (fun k => a (ix2 r k)) (Fin.ext (by simp only at h2 ⊢; omega))
  · rw [select_of _ _ (low_eq' ⟨n.val - 128, by omega⟩)]
    split_ifs with h2 <;> exact congrArg (fun k => a (ix2 r k)) (Fin.ext (by simp only at h2 ⊢; omega))

theorem twice37 (a : FVec Ideal S128x128 .f32) (r : Fin 128) (n : Fin 256) : k0_pay37 a (ix2 r n) = a (ix2 r ⟨64 * (n.val / 128) + n.val % 64, by omega⟩) := by
  have h : k0_pay37 a (ix2 r n) = if h : n.val < 128 then
      Scalar.select (IntOp.cmpi .slt (BitVec.ofNat 32 n.val) 64#32) (a (ix2 r ⟨n.val, h⟩)) (a (ix2 r ⟨(n.val + 128 - 64) % 128, by omega⟩))
    else Scalar.select (IntOp.cmpi .slt (BitVec.ofNat 32 (n.val - 128)) 64#32) (a (ix2 r ⟨(n.val - 128 + 128 - 64) % 128, by omega⟩)) (a (ix2 r ⟨n.val - 128, by omega⟩)) := by
    pointwise [k0_pay37]
  rw [h]
  split_ifs with h1
  · rw [select_of _ _ (low_eq' ⟨n.val, h1⟩)]
    split_ifs with h2 <;> exact congrArg (fun k => a (ix2 r k)) (Fin.ext (by simp only at h2 ⊢; omega))
  · rw [select_of _ _ (low_eq' ⟨n.val - 128, by omega⟩)]
    split_ifs with h2 <;> exact congrArg (fun k => a (ix2 r k)) (Fin.ext (by simp only at h2 ⊢; omega))

/-- Two heads, each four times. -/
theorem four35 (a : FVec Ideal S128x128 .f32) (r : Fin 128) (n : Fin 512) : k0_pay35 a (ix2 r n) = a (ix2 r ⟨64 * (n.val / 256) + n.val % 64, by omega⟩) := by
  have h : k0_pay35 a (ix2 r n) = if h : n.val < 128 then
      Scalar.select (IntOp.cmpi .slt (BitVec.ofNat 32 n.val) 64#32) (a (ix2 r ⟨n.val, h⟩)) (a (ix2 r ⟨(n.val + 128 - 64) % 128, by omega⟩))
    else if h : n.val - 128 < 128 then
      Scalar.select (IntOp.cmpi .slt (BitVec.ofNat 32 (n.val - 128)) 64#32) (a (ix2 r ⟨n.val - 128, h⟩)) (a (ix2 r ⟨(n.val - 128 + 128 - 64) % 128, by omega⟩))
    else if h : n.val - 128 - 128 < 128 then
      Scalar.select (IntOp.cmpi .slt (BitVec.ofNat 32 (n.val - 128 - 128)) 64#32) (a (ix2 r ⟨(n.val - 128 - 128 + 128 - 64) % 128, by omega⟩)) (a (ix2 r ⟨n.val - 128 - 128, h⟩))
    else
      Scalar.select (IntOp.cmpi .slt (BitVec.ofNat 32 (n.val - 128 - 128 - 128)) 64#32) (a (ix2 r ⟨(n.val - 128 - 128 - 128 + 128 - 64) % 128, by omega⟩)) (a (ix2 r ⟨n.val - 128 - 128 - 128, by omega⟩)) := by
    pointwise [k0_pay35]
  rw [h]
  split_ifs with h1 h2 h3
  · rw [select_of _ _ (low_eq' ⟨n.val, h1⟩)]
    split_ifs with h2 <;> exact congrArg (fun k => a (ix2 r k)) (Fin.ext (by simp only at h2 ⊢; omega))
  · rw [select_of _ _ (low_eq' ⟨n.val - 128, by omega⟩)]
    split_ifs with h4 <;> exact congrArg (fun k => a (ix2 r k)) (Fin.ext (by simp only at h4 ⊢; omega))
  · rw [select_of _ _ (low_eq' ⟨n.val - 128 - 128, by omega⟩)]
    split_ifs with h4 <;> exact congrArg (fun k => a (ix2 r k)) (Fin.ext (by simp only at h4 ⊢; omega))
  · rw [select_of _ _ (low_eq' ⟨n.val - 128 - 128 - 128, by omega⟩)]
    split_ifs with h4 <;> exact congrArg (fun k => a (ix2 r k)) (Fin.ext (by simp only at h4 ⊢; omega))

theorem four34 (a b : FVec Ideal S128x128 .f32) (r : Fin 128) (hb : ∀ j : Fin 128, b (ix2 r j) = a (ix2 r ⟨(j.val + 128 - 64) % 128, by omega⟩)) (n : Fin 512) :
    k0_pay34 a k0_pay31 b k0_pay33 (ix2 r n) = a (ix2 r ⟨64 * (n.val / 256) + n.val % 64, by omega⟩) := by
  have h : k0_pay34 a k0_pay31 b k0_pay33 (ix2 r n) = if h : n.val < 128 then
      Scalar.select (k0_pay31 (ix2 0 ⟨n.val, h⟩)) (a (ix2 r ⟨n.val, h⟩)) (b (ix2 r ⟨n.val, h⟩))
    else if h : n.val - 128 < 128 then
      Scalar.select (k0_pay31 (ix2 0 ⟨n.val - 128, h⟩)) (a (ix2 r ⟨n.val - 128, h⟩)) (b (ix2 r ⟨n.val - 128, h⟩))
    else if h : n.val - 128 - 128 < 128 then
      Scalar.select (k0_pay31 (ix2 0 ⟨n.val - 128 - 128, h⟩)) (b (ix2 r ⟨n.val - 128 - 128, h⟩)) (a (ix2 r ⟨n.val - 128 - 128, h⟩))
    else
      Scalar.select (k0_pay31 (ix2 0 ⟨n.val - 128 - 128 - 128, by omega⟩)) (b (ix2 r ⟨n.val - 128 - 128 - 128, by omega⟩)) (a (ix2 r ⟨n.val - 128 - 128 - 128, by omega⟩)) := by
    pointwise [k0_pay34, k0_pay33]
  rw [h]
  simp only [hb]
  split_ifs with h1 h2 h3
  · rw [select_of _ _ (low_eq ⟨n.val, h1⟩)]
    split_ifs with h2 <;> exact congrArg (fun k => a (ix2 r k)) (Fin.ext (by simp only at h2 ⊢; omega))
  · rw [select_of _ _ (low_eq ⟨n.val - 128, by omega⟩)]
    split_ifs with h4 <;> exact congrArg (fun k => a (ix2 r k)) (Fin.ext (by simp only at h4 ⊢; omega))
  · rw [select_of _ _ (low_eq ⟨n.val - 128 - 128, by omega⟩)]
    split_ifs with h4 <;> exact congrArg (fun k => a (ix2 r k)) (Fin.ext (by simp only at h4 ⊢; omega))
  · rw [select_of _ _ (low_eq ⟨n.val - 128 - 128 - 128, by omega⟩)]
    split_ifs with h4 <;> exact congrArg (fun k => a (ix2 r k)) (Fin.ext (by simp only at h4 ⊢; omega))

/-! ## The seven vectors -/

section Pieces
variable (X : FVec Ideal S1x128x1024 .f32) (sh sc : FVec Ideal S1x1x1024 .f32) (w : FVec Ideal S1024x1536 .bf16)
  (qn : FVec Ideal S1x512 .f32) (kn : FVec Ideal S1x128 .f32) (gq : FVec Ideal S512x512 .bf16) (gk : FVec Ideal S128x128 .bf16)
  (cs sn : FVec Ideal S128x128 .f32) (r : Fin 128) (t : ℕ) (gain : Gain)

theorem uPiece_apply (n : Fin 256) : uPiece X sh sc w (ix3 0 r n) = gate (blockProj X sh sc w r) n := by
  have h : uPiece X sh sc w (ix3 0 r n) = k0_pay13 (F := Ideal) (k0_pay9 X sc) (k0_pay10 sh) w (ix2 r n) := by
    pointwise [uPiece, k0_pay40]
  rw [h, part13]
  rfl

theorem vaPiece_apply (n : Fin 512) : vaPiece X sh sc w (ix3 0 r n) = valueA (blockProj X sh sc w r) n := by
  have h : vaPiece X sh sc w (ix3 0 r n) = k0_pay35 (F := Ideal) (k0_pay14 (k0_pay9 X sc) (k0_pay10 sh) w) (ix2 r n) := by
    pointwise [vaPiece, k0_pay42]
  rw [h, four35, part14]
  exact congrArg (blockProj X sh sc w r) (Fin.ext (Nat.add_assoc _ _ _).symm)

theorem vcPiece_apply (n : Fin 256) : vcPiece X sh sc w (ix3 0 r n) = valueC (blockProj X sh sc w r) n := by
  have h : vcPiece X sh sc w (ix3 0 r n) = k0_pay37 (F := Ideal) (k0_pay16 (k0_pay9 X sc) (k0_pay10 sh) w) (ix2 r n) := by
    pointwise [vcPiece, k0_pay44]
  rw [h, twice37, part16]
  exact congrArg (blockProj X sh sc w r) (Fin.ext (Nat.add_assoc _ _ _).symm)

variable (hc : ∀ j : Fin 128, cs (ix2 r j) = Ideal.cos (angle t (j.val % 64)))
  (hs : ∀ j : Fin 128, sn (ix2 r j) = Ideal.sin (angle t (j.val % 64)) * sign j.val)

include hc hs

theorem qcPiece_apply (n : Fin 256) : qcPiece X sh sc w cs sn (ix3 0 r n) = queryC (blockProj X sh sc w r) t n := by
  have h : qcPiece X sh sc w cs sn (ix3 0 r n) = k0_pay30 (F := Ideal) (k0_pay5 cs) (k0_pay6 sn) (k0_pay12 (k0_pay9 X sc) (k0_pay10 sh) w) lower (ix2 r n) := by
    pointwise [qcPiece, k0_pay39]
  rw [h, turn_narrow cs sn r t hc hs _ (fun h d => blockProj X sh sc w r ⟨min (512 + 64 * h + d.val) 1535, by omega⟩) (fun n => ?_)]
  · refine congrArg₂ (· * ·) (congrArg (fun q => turned q t _) (funext fun d => ?_)) rfl
    exact congrArg (blockProj X sh sc w r) (Fin.ext (by simp only; omega))
  · rw [part12]
    exact congrArg (blockProj X sh sc w r) (Fin.ext (by simp only; omega))

theorem kcPiece_apply (n : Fin 256) : kcPiece X sh sc w cs sn (ix3 0 r n) = keyC (blockProj X sh sc w r) t n := by
  have h : kcPiece X sh sc w cs sn (ix3 0 r n) = k0_pay36 (F := Ideal) (k0_pay28 (k0_pay5 cs) (k0_pay6 sn) (k0_pay15 (k0_pay9 X sc) (k0_pay10 sh) w) lower) (ix2 r n) := by
    pointwise [kcPiece, k0_pay43]
  rw [h, twice36, turn28 cs sn r t hc hs _ (fun h d => headOf (blockProj X sh sc w r) (1280 + 64 * h.val) (by omega) d) (fun n => ?_)]
  · have e1 : (64 * (n.val / 128) + n.val % 64) / 64 = n.val / 128 := by omega
    have e2 : (64 * (n.val / 128) + n.val % 64) % 64 = n.val % 64 := by omega
    simp only [e1, e2]
    rfl
  · rw [part15]
    exact congrArg (blockProj X sh sc w r) (Fin.ext (by simp only; omega))

theorem qaPiece_apply (hn : ∀ n : Fin 512, qn (ix2 0 n) = gain (ix2 0 ⟨n.val % 64, by omega⟩))
    (hg : ∀ k n : Fin 512, gq (ix2 k n) = if k.val / 64 = n.val / 64 then 1 else 0) (n : Fin 512) :
    qaPiece X sh sc w qn gq cs sn (ix3 0 r n) = queryA (blockProj X sh sc w r) gain t n := by
  have h : qaPiece X sh sc w qn gq cs sn (ix3 0 r n) = k0_pay29 (F := Ideal) (k0_pay21 (k0_pay5 cs) (k0_pay6 sn) (queries X sh sc w qn gq) (Scalar.select (Scalar.cmpi .eq 32#32 0#32) 1#32 32#32) k0_pay19 0#32) (k0_pay22 (k0_pay5 cs) (k0_pay6 sn) (queries X sh sc w qn gq) (Scalar.select (Scalar.cmpi .eq 32#32 0#32) 1#32 32#32) k0_pay19 0#32) (k0_pay23 (k0_pay5 cs) (k0_pay6 sn) (queries X sh sc w qn gq) (Scalar.select (Scalar.cmpi .eq 32#32 0#32) 1#32 32#32) k0_pay19 0#32) (k0_pay25 (k0_pay5 cs) (queries X sh sc w qn gq)) (k0_pay26 (k0_pay6 sn) (queries X sh sc w qn gq) (Scalar.select (Scalar.cmpi .eq 32#32 0#32) 1#32 32#32) k0_pay19 0#32) (ix2 r n) := by
    pointwise [qaPiece, k0_pay38]
  rw [h, turn_wide cs sn r t hc hs (queries X sh sc w qn gq) (fun h => rmsNormed (fun d => blockProj X sh sc w r ⟨min (64 * h + d.val) 1535, by omega⟩) (fun d => gain (ix2 0 d))) (fun n => ?_)]
  · refine congrArg₂ (· * ·) (congrArg (fun q => turned (rmsNormed q _) t _) (funext fun d => ?_)) rfl
    exact congrArg (blockProj X sh sc w r) (Fin.ext (by simp only; omega))
  · rw [queries_apply X sh sc w r qn gq (fun d => gain (ix2 0 d)) hn hg]
    refine congrArg (fun q => rmsNormed q _ _) (funext fun d => ?_)
    exact congrArg (blockProj X sh sc w r) (Fin.ext (by simp only; omega))

theorem kaPiece_apply (hn : ∀ n : Fin 128, kn (ix2 0 n) = gain (ix2 0 ⟨n.val % 64, by omega⟩))
    (hg : ∀ k n : Fin 128, gk (ix2 k n) = if k.val / 64 = n.val / 64 then 1 else 0) (n : Fin 512) :
    kaPiece X sh sc w kn gk cs sn (ix3 0 r n) = keyA (blockProj X sh sc w r) gain t n := by
  have h : kaPiece X sh sc w kn gk cs sn (ix3 0 r n) = k0_pay34 (F := Ideal) (k0_pay27 (k0_pay5 cs) (k0_pay6 sn) (keys X sh sc w kn gk) lower) k0_pay31 (k0_pay32 (k0_pay5 cs) (k0_pay6 sn) (keys X sh sc w kn gk) lower) k0_pay33 (ix2 r n) := by
    pointwise [kaPiece, k0_pay41]
  have hb : ∀ j : Fin 128, k0_pay32 (F := Ideal) (k0_pay5 cs) (k0_pay6 sn) (keys X sh sc w kn gk) lower (ix2 r j)
      = k0_pay27 (k0_pay5 cs) (k0_pay6 sn) (keys X sh sc w kn gk) lower (ix2 r ⟨(j.val + 128 - 64) % 128, by omega⟩) := fun j => by
    pointwise [k0_pay32]
  rw [h, four34 _ _ r hb, turn27 cs sn r t hc hs _ (fun h d => rmsNormed (fun d => headOf (blockProj X sh sc w r) (1024 + 64 * h.val) (by omega) d) (fun d => gain (ix2 0 d)) d)
    (keys_apply X sh sc w r kn gk (fun d => gain (ix2 0 d)) hn hg)]
  have e1 : (64 * (n.val / 256) + n.val % 64) / 64 = n.val / 256 := by omega
  have e2 : (64 * (n.val / 256) + n.val % 64) % 64 = n.val % 64 := by omega
  simp only [e1, e2]
  rfl
end Pieces

end Cert.InProj

end
-- ==== Proof.InProjBlocks.lean ====
/-
  A whole block of the input projection: its four row blocks together leave, in each of the seven output blocks, that
  part of the specification at the block's tokens.
-/
module

public import proofs.«01_k».proof.Proof.InProjPieces
public import Idealize.ShloMosaic.Lib.Pipeline.ArrRel
public import Idealize.ShloMosaic.Lib.Pipeline.ValueKit

@[expose] public section

set_option maxRecDepth 16384

noncomputable section

namespace Cert.InProj

open Cert.Kernel4Ideal Cert.Kernel4Ideal.Gen Idealize.ShloMosaic Idealize.SL.Sem Idealize.ShloMosaic.TcCoe Idealize.ShloMosaic.Tactic

open Cert.Norm (Stream)

/-! ## Loads -/

theorem zeros3 : (![0, 0, 0] : Fin 3 → ℕ) = fun _ => 0 := by decide
theorem zeros2 : (![0, 0] : Fin 2 → ℕ) = fun _ => 0 := by decide

theorem whole2 (x : Vec Ideal S1x1x1024 .f32) : View.ld x r0_2 = x := by
  rw [View.ld_unit_zero (S := S1x1x1024) zeros3]

theorem whole5 (x : Vec Ideal S1024x1536 .bf16) : View.ld x r0_5 = x := by
  rw [View.ld_unit_zero (S := S1024x1536) zeros2]

theorem whole3 (x : Vec Ideal S1x512 .f32) : View.ld x r0_3 = x := by
  rw [View.ld_unit_zero (S := S1x512) zeros2]

theorem whole4 (x : Vec Ideal S1x128 .f32) : View.ld x r0_4 = x := by
  rw [View.ld_unit_zero (S := S1x128) zeros2]

theorem whole6 (x : Vec Ideal S512x512 .bf16) : View.ld x r0_6 = x := by
  rw [View.ld_unit_zero (S := S512x512) zeros2]

theorem whole7 (x : Vec Ideal S128x128 .bf16) : View.ld x r0_7 = x := by
  rw [View.ld_unit_zero (S := S128x128) zeros2]

theorem at_x384 (r : Fin 128) (n : Fin 1024) : (r0_19.idx (ix3 0 r n) : (S1x512x1024).Idx) = ix3 0 ⟨384 + r.val, by omega⟩ n := by
  have h0 : ((r0_19.idx (ix3 0 r n) : S1x512x1024.Idx) 0).val = 0 + 1 * 0 := rfl
  have h1 : ((r0_19.idx (ix3 0 r n) : S1x512x1024.Idx) 1).val = 384 + 1 * r.val := rfl
  have h2 : ((r0_19.idx (ix3 0 r n) : S1x512x1024.Idx) 2).val = 0 + 1 * n.val := rfl
  funext a; apply Fin.ext
  match a with
  | ⟨0, _⟩ => exact h0.trans (by show _ = 0; omega)
  | ⟨1, _⟩ => exact h1.trans (by show _ = 384 + r.val; omega)
  | ⟨2, _⟩ => exact h2.trans (by show _ = n.val; omega)

theorem at_w384 (r : Fin 128) (n : Fin 512) : (r0_20.idx (ix3 0 r n) : (S1x512x512).Idx) = ix3 0 ⟨384 + r.val, by omega⟩ n := by
  have h0 : ((r0_20.idx (ix3 0 r n) : S1x512x512.Idx) 0).val = 0 + 1 * 0 := rfl
  have h1 : ((r0_20.idx (ix3 0 r n) : S1x512x512.Idx) 1).val = 384 + 1 * r.val := rfl
  have h2 : ((r0_20.idx (ix3 0 r n) : S1x512x512.Idx) 2).val = 0 + 1 * n.val := rfl
  funext a; apply Fin.ext
  match a with
  | ⟨0, _⟩ => exact h0.trans (by show _ = 0; omega)
  | ⟨1, _⟩ => exact h1.trans (by show _ = 384 + r.val; omega)
  | ⟨2, _⟩ => exact h2.trans (by show _ = n.val; omega)

theorem at_n384 (r : Fin 128) (n : Fin 256) : (r0_21.idx (ix3 0 r n) : (S1x512x256).Idx) = ix3 0 ⟨384 + r.val, by omega⟩ n := by
  have h0 : ((r0_21.idx (ix3 0 r n) : S1x512x256.Idx) 0).val = 0 + 1 * 0 := rfl
  have h1 : ((r0_21.idx (ix3 0 r n) : S1x512x256.Idx) 1).val = 384 + 1 * r.val := rfl
  have h2 : ((r0_21.idx (ix3 0 r n) : S1x512x256.Idx) 2).val = 0 + 1 * n.val := rfl
  funext a; apply Fin.ext
  match a with
  | ⟨0, _⟩ => exact h0.trans (by show _ = 0; omega)
  | ⟨1, _⟩ => exact h1.trans (by show _ = 384 + r.val; omega)
  | ⟨2, _⟩ => exact h2.trans (by show _ = n.val; omega)

theorem at_t384 (r n : Fin 128) : (r0_18.idx (ix2 r n) : S512x128.Idx) = ix2 ⟨384 + r.val, by omega⟩ n := by
  have h0 : ((r0_18.idx (ix2 r n) : S512x128.Idx) 0).val = 384 + 1 * r.val := rfl
  have h1 : ((r0_18.idx (ix2 r n) : S512x128.Idx) 1).val = 0 + 1 * n.val := rfl
  funext a; apply Fin.ext
  match a with
  | ⟨0, _⟩ => exact h0.trans (by show _ = 384 + r.val; omega)
  | ⟨1, _⟩ => exact h1.trans (by show _ = n.val; omega)

theorem at_x256 (r : Fin 128) (n : Fin 1024) : (r0_15.idx (ix3 0 r n) : (S1x512x1024).Idx) = ix3 0 ⟨256 + r.val, by omega⟩ n := by
  have h0 : ((r0_15.idx (ix3 0 r n) : S1x512x1024.Idx) 0).val = 0 + 1 * 0 := rfl
  have h1 : ((r0_15.idx (ix3 0 r n) : S1x512x1024.Idx) 1).val = 256 + 1 * r.val := rfl
  have h2 : ((r0_15.idx (ix3 0 r n) : S1x512x1024.Idx) 2).val = 0 + 1 * n.val := rfl
  funext a; apply Fin.ext
  match a with
  | ⟨0, _⟩ => exact h0.trans (by show _ = 0; omega)
  | ⟨1, _⟩ => exact h1.trans (by show _ = 256 + r.val; omega)
  | ⟨2, _⟩ => exact h2.trans (by show _ = n.val; omega)

theorem at_w256 (r : Fin 128) (n : Fin 512) : (r0_16.idx (ix3 0 r n) : (S1x512x512).Idx) = ix3 0 ⟨256 + r.val, by omega⟩ n := by
  have h0 : ((r0_16.idx (ix3 0 r n) : S1x512x512.Idx) 0).val = 0 + 1 * 0 := rfl
  have h1 : ((r0_16.idx (ix3 0 r n) : S1x512x512.Idx) 1).val = 256 + 1 * r.val := rfl
  have h2 : ((r0_16.idx (ix3 0 r n) : S1x512x512.Idx) 2).val = 0 + 1 * n.val := rfl
  funext a; apply Fin.ext
  match a with
  | ⟨0, _⟩ => exact h0.trans (by show _ = 0; omega)
  | ⟨1, _⟩ => exact h1.trans (by show _ = 256 + r.val; omega)
  | ⟨2, _⟩ => exact h2.trans (by show _ = n.val; omega)

theorem at_n256 (r : Fin 128) (n : Fin 256) : (r0_17.idx (ix3 0 r n) : (S1x512x256).Idx) = ix3 0 ⟨256 + r.val, by omega⟩ n := by
  have h0 : ((r0_17.idx (ix3 0 r n) : S1x512x256.Idx) 0).val = 0 + 1 * 0 := rfl
  have h1 : ((r0_17.idx (ix3 0 r n) : S1x512x256.Idx) 1).val = 256 + 1 * r.val := rfl
  have h2 : ((r0_17.idx (ix3 0 r n) : S1x512x256.Idx) 2).val = 0 + 1 * n.val := rfl
  funext a; apply Fin.ext
  match a with
  | ⟨0, _⟩ => exact h0.trans (by show _ = 0; omega)
  | ⟨1, _⟩ => exact h1.trans (by show _ = 256 + r.val; omega)
  | ⟨2, _⟩ => exact h2.trans (by show _ = n.val; omega)

theorem at_t256 (r n : Fin 128) : (r0_14.idx (ix2 r n) : S512x128.Idx) = ix2 ⟨256 + r.val, by omega⟩ n := by
  have h0 : ((r0_14.idx (ix2 r n) : S512x128.Idx) 0).val = 256 + 1 * r.val := rfl
  have h1 : ((r0_14.idx (ix2 r n) : S512x128.Idx) 1).val = 0 + 1 * n.val := rfl
  funext a; apply Fin.ext
  match a with
  | ⟨0, _⟩ => exact h0.trans (by show _ = 256 + r.val; omega)
  | ⟨1, _⟩ => exact h1.trans (by show _ = n.val; omega)

theorem at_x128 (r : Fin 128) (n : Fin 1024) : (r0_11.idx (ix3 0 r n) : (S1x512x1024).Idx) = ix3 0 ⟨128 + r.val, by omega⟩ n := by
  have h0 : ((r0_11.idx (ix3 0 r n) : S1x512x1024.Idx) 0).val = 0 + 1 * 0 := rfl
  have h1 : ((r0_11.idx (ix3 0 r n) : S1x512x1024.Idx) 1).val = 128 + 1 * r.val := rfl
  have h2 : ((r0_11.idx (ix3 0 r n) : S1x512x1024.Idx) 2).val = 0 + 1 * n.val := rfl
  funext a; apply Fin.ext
  match a with
  | ⟨0, _⟩ => exact h0.trans (by show _ = 0; omega)
  | ⟨1, _⟩ => exact h1.trans (by show _ = 128 + r.val; omega)
  | ⟨2, _⟩ => exact h2.trans (by show _ = n.val; omega)

theorem at_w128 (r : Fin 128) (n : Fin 512) : (r0_12.idx (ix3 0 r n) : (S1x512x512).Idx) = ix3 0 ⟨128 + r.val, by omega⟩ n := by
  have h0 : ((r0_12.idx (ix3 0 r n) : S1x512x512.Idx) 0).val = 0 + 1 * 0 := rfl
  have h1 : ((r0_12.idx (ix3 0 r n) : S1x512x512.Idx) 1).val = 128 + 1 * r.val := rfl
  have h2 : ((r0_12.idx (ix3 0 r n) : S1x512x512.Idx) 2).val = 0 + 1 * n.val := rfl
  funext a; apply Fin.ext
  match a with
  | ⟨0, _⟩ => exact h0.trans (by show _ = 0; omega)
  | ⟨1, _⟩ => exact h1.trans (by show _ = 128 + r.val; omega)
  | ⟨2, _⟩ => exact h2.trans (by show _ = n.val; omega)

theorem at_n128 (r : Fin 128) (n : Fin 256) : (r0_13.idx (ix3 0 r n) : (S1x512x256).Idx) = ix3 0 ⟨128 + r.val, by omega⟩ n := by
  have h0 : ((r0_13.idx (ix3 0 r n) : S1x512x256.Idx) 0).val = 0 + 1 * 0 := rfl
  have h1 : ((r0_13.idx (ix3 0 r n) : S1x512x256.Idx) 1).val = 128 + 1 * r.val := rfl
  have h2 : ((r0_13.idx (ix3 0 r n) : S1x512x256.Idx) 2).val = 0 + 1 * n.val := rfl
  funext a; apply Fin.ext
  match a with
  | ⟨0, _⟩ => exact h0.trans (by show _ = 0; omega)
  | ⟨1, _⟩ => exact h1.trans (by show _ = 128 + r.val; omega)
  | ⟨2, _⟩ => exact h2.trans (by show _ = n.val; omega)

theorem at_t128 (r n : Fin 128) : (r0_10.idx (ix2 r n) : S512x128.Idx) = ix2 ⟨128 + r.val, by omega⟩ n := by
  have h0 : ((r0_10.idx (ix2 r n) : S512x128.Idx) 0).val = 128 + 1 * r.val := rfl
  have h1 : ((r0_10.idx (ix2 r n) : S512x128.Idx) 1).val = 0 + 1 * n.val := rfl
  funext a; apply Fin.ext
  match a with
  | ⟨0, _⟩ => exact h0.trans (by show _ = 128 + r.val; omega)
  | ⟨1, _⟩ => exact h1.trans (by show _ = n.val; omega)

theorem at_x0 (r : Fin 128) (n : Fin 1024) : (r0_1.idx (ix3 0 r n) : (S1x512x1024).Idx) = ix3 0 ⟨0 + r.val, by omega⟩ n := by
  have h0 : ((r0_1.idx (ix3 0 r n) : S1x512x1024.Idx) 0).val = 0 + 1 * 0 := rfl
  have h1 : ((r0_1.idx (ix3 0 r n) : S1x512x1024.Idx) 1).val = 0 + 1 * r.val := rfl
  have h2 : ((r0_1.idx (ix3 0 r n) : S1x512x1024.Idx) 2).val = 0 + 1 * n.val := rfl
  funext a; apply Fin.ext
  match a with
  | ⟨0, _⟩ => exact h0.trans (by show _ = 0; omega)
  | ⟨1, _⟩ => exact h1.trans (by show _ = 0 + r.val; omega)
  | ⟨2, _⟩ => exact h2.trans (by show _ = n.val; omega)

theorem at_w0 (r : Fin 128) (n : Fin 512) : (r0_8.idx (ix3 0 r n) : (S1x512x512).Idx) = ix3 0 ⟨0 + r.val, by omega⟩ n := by
  have h0 : ((r0_8.idx (ix3 0 r n) : S1x512x512.Idx) 0).val = 0 + 1 * 0 := rfl
  have h1 : ((r0_8.idx (ix3 0 r n) : S1x512x512.Idx) 1).val = 0 + 1 * r.val := rfl
  have h2 : ((r0_8.idx (ix3 0 r n) : S1x512x512.Idx) 2).val = 0 + 1 * n.val := rfl
  funext a; apply Fin.ext
  match a with
  | ⟨0, _⟩ => exact h0.trans (by show _ = 0; omega)
  | ⟨1, _⟩ => exact h1.trans (by show _ = 0 + r.val; omega)
  | ⟨2, _⟩ => exact h2.trans (by show _ = n.val; omega)

theorem at_n0 (r : Fin 128) (n : Fin 256) : (r0_9.idx (ix3 0 r n) : (S1x512x256).Idx) = ix3 0 ⟨0 + r.val, by omega⟩ n := by
  have h0 : ((r0_9.idx (ix3 0 r n) : S1x512x256.Idx) 0).val = 0 + 1 * 0 := rfl
  have h1 : ((r0_9.idx (ix3 0 r n) : S1x512x256.Idx) 1).val = 0 + 1 * r.val := rfl
  have h2 : ((r0_9.idx (ix3 0 r n) : S1x512x256.Idx) 2).val = 0 + 1 * n.val := rfl
  funext a; apply Fin.ext
  match a with
  | ⟨0, _⟩ => exact h0.trans (by show _ = 0; omega)
  | ⟨1, _⟩ => exact h1.trans (by show _ = 0 + r.val; omega)
  | ⟨2, _⟩ => exact h2.trans (by show _ = n.val; omega)

theorem at_t0 (r n : Fin 128) : (r0_0.idx (ix2 r n) : S512x128.Idx) = ix2 ⟨0 + r.val, by omega⟩ n := by
  have h0 : ((r0_0.idx (ix2 r n) : S512x128.Idx) 0).val = 0 + 1 * r.val := rfl
  have h1 : ((r0_0.idx (ix2 r n) : S512x128.Idx) 1).val = 0 + 1 * n.val := rfl
  funext a; apply Fin.ext
  match a with
  | ⟨0, _⟩ => exact h0.trans (by show _ = 0 + r.val; omega)
  | ⟨1, _⟩ => exact h1.trans (by show _ = n.val; omega)

theorem rows128_512 (y : S1x128x512.Idx) : ∃ (r : Fin 128) (n : Fin 512), y = ix3 0 r n := ⟨y 1, y 2, by
  funext a
  match a with
  | ⟨0, _⟩ => exact Fin.ext (by have : (y 0).val < 1 := (y 0).isLt; show (y 0).val = 0; omega)
  | ⟨1, _⟩ => rfl
  | ⟨2, _⟩ => rfl⟩

theorem rows512_512 (y : S1x512x512.Idx) : ∃ (r : Fin 512) (n : Fin 512), y = ix3 0 r n := ⟨y 1, y 2, by
  funext a
  match a with
  | ⟨0, _⟩ => exact Fin.ext (by have : (y 0).val < 1 := (y 0).isLt; show (y 0).val = 0; omega)
  | ⟨1, _⟩ => rfl
  | ⟨2, _⟩ => rfl⟩

theorem rows128_256 (y : S1x128x256.Idx) : ∃ (r : Fin 128) (n : Fin 256), y = ix3 0 r n := ⟨y 1, y 2, by
  funext a
  match a with
  | ⟨0, _⟩ => exact Fin.ext (by have : (y 0).val < 1 := (y 0).isLt; show (y 0).val = 0; omega)
  | ⟨1, _⟩ => rfl
  | ⟨2, _⟩ => rfl⟩

theorem rows512_256 (y : S1x512x256.Idx) : ∃ (r : Fin 512) (n : Fin 256), y = ix3 0 r n := ⟨y 1, y 2, by
  funext a
  match a with
  | ⟨0, _⟩ => exact Fin.ext (by have : (y 0).val < 1 := (y 0).isLt; show (y 0).val = 0; omega)
  | ⟨1, _⟩ => rfl
  | ⟨2, _⟩ => rfl⟩

/-! ## What a point is given -/

/-- The blocks of a point hold the arguments of its sample and tokens, and the tables. -/
structure Blocks (x0 : Vec Ideal S1x512x1024 .f32) (x1 x2 : Vec Ideal S1x1x1024 .f32) (x3 : Vec Ideal S1024x1536 .bf16) (x4 : Vec Ideal S1x512 .f32) (x5 : Vec Ideal S1x128 .f32)
    (x6 : Vec Ideal S512x512 .bf16) (x7 : Vec Ideal S128x128 .bf16) (x8 x9 : Vec Ideal S512x128 .f32)
    (x : Stream) (sh sc : Modulation) (w : Matrix) (qn kn : Gain) (b : Fin 8) (T : Fin 512 → Fin 4096) : Prop where
  h0 : ∀ r k, x0 (ix3 0 r k) = x (ix3 b (T r) k)
  h1 : ∀ k, x1 (ix3 0 0 k) = sh (ix3 b 0 k)
  h2 : ∀ k, x2 (ix3 0 0 k) = sc (ix3 b 0 k)
  h3 : ∀ k n, x3 (ix2 k n) = w (ix3 0 k n)
  h4 : ∀ n : Fin 512, x4 (ix2 0 n) = qn (ix2 0 ⟨n.val % 64, by omega⟩)
  h5 : ∀ n : Fin 128, x5 (ix2 0 n) = kn (ix2 0 ⟨n.val % 64, by omega⟩)
  h6 : ∀ k n : Fin 512, x6 (ix2 k n) = if k.val / 64 = n.val / 64 then (1 : EReal) else 0
  h7 : ∀ k n : Fin 128, x7 (ix2 k n) = if k.val / 64 = n.val / 64 then (1 : EReal) else 0
  h8 : ∀ (r : Fin 512) (j : Fin 128), x8 (ix2 r j) = Ideal.cos (angle (T r).val (j.val % 64))
  h9 : ∀ (r : Fin 512) (j : Fin 128), x9 (ix2 r j) = Ideal.sin (angle (T r).val (j.val % 64)) * sign j.val

/-- A block's projected row is the token's. -/
theorem proj_of (X : FVec Ideal S1x128x1024 .f32) (x1 x2 : FVec Ideal S1x1x1024 .f32) (x3 : FVec Ideal S1024x1536 .bf16) (x : Stream) (sh sc : Modulation) (w : Matrix)
    (b : Fin 8) (t : Fin 4096) (r : Fin 128) (hX : ∀ k, X (ix3 0 r k) = x (ix3 b t k)) (h1 : ∀ k, x1 (ix3 0 0 k) = sh (ix3 b 0 k)) (h2 : ∀ k, x2 (ix3 0 0 k) = sc (ix3 b 0 k))
    (h3 : ∀ k n, x3 (ix2 k n) = w (ix3 0 k n)) : blockProj X x1 x2 x3 r = projected x sh sc w b t := by
  funext n
  simp only [blockProj, blockRow, projected, modulated, hX, h1, h2, h3]

/-! ## The seven output blocks -/

variable (x0 : Vec Ideal S1x512x1024 .f32) (x1 x2 : Vec Ideal S1x1x1024 .f32) (x3 : Vec Ideal S1024x1536 .bf16) (x4 : Vec Ideal S1x512 .f32) (x5 : Vec Ideal S1x128 .f32) (x6 : Vec Ideal S512x512 .bf16) (x7 : Vec Ideal S128x128 .bf16) (x8 x9 : Vec Ideal S512x128 .f32)
  (x : Stream) (sh sc : Modulation) (w : Matrix) (qn kn : Gain) (b : Fin 8) (T : Fin 512 → Fin 4096)

theorem proj384 (H : Blocks x0 x1 x2 x3 x4 x5 x6 x7 x8 x9 x sh sc w qn kn b T) (r : Fin 128) :
    blockProj (View.ld x0 r0_19) x1 x2 x3 r = projected x sh sc w b (T ⟨384 + r.val, by omega⟩) :=
  proj_of _ _ _ _ _ _ _ _ _ _ r (fun k => (congrArg x0 (at_x384 r k)).trans (H.h0 _ k)) H.h1 H.h2 H.h3

theorem proj256 (H : Blocks x0 x1 x2 x3 x4 x5 x6 x7 x8 x9 x sh sc w qn kn b T) (r : Fin 128) :
    blockProj (View.ld x0 r0_15) x1 x2 x3 r = projected x sh sc w b (T ⟨256 + r.val, by omega⟩) :=
  proj_of _ _ _ _ _ _ _ _ _ _ r (fun k => (congrArg x0 (at_x256 r k)).trans (H.h0 _ k)) H.h1 H.h2 H.h3

theorem proj128 (H : Blocks x0 x1 x2 x3 x4 x5 x6 x7 x8 x9 x sh sc w qn kn b T) (r : Fin 128) :
    blockProj (View.ld x0 r0_11) x1 x2 x3 r = projected x sh sc w b (T ⟨128 + r.val, by omega⟩) :=
  proj_of _ _ _ _ _ _ _ _ _ _ r (fun k => (congrArg x0 (at_x128 r k)).trans (H.h0 _ k)) H.h1 H.h2 H.h3

theorem proj0 (H : Blocks x0 x1 x2 x3 x4 x5 x6 x7 x8 x9 x sh sc w qn kn b T) (r : Fin 128) :
    blockProj (View.ld x0 r0_1) x1 x2 x3 r = projected x sh sc w b (T ⟨0 + r.val, by omega⟩) :=
  proj_of _ _ _ _ _ _ _ _ _ _ r (fun k => (congrArg x0 (at_x0 r k)).trans (H.h0 _ k)) H.h1 H.h2 H.h3

/-- The global queries of the tokens of a block, -/
def block10 (x : Stream) (sh sc : Modulation) (w : Matrix) (qn kn : Gain) (b : Fin 8) (T : Fin 512 → Fin 4096) (y : S1x512x512.Idx) : EReal :=
  queryA (projected x sh sc w b (T (y 1))) qn (T (y 1)).val (y 2)

theorem out10_apply (H : Blocks x0 x1 x2 x3 x4 x5 x6 x7 x8 x9 x sh sc w qn kn b T) (y : S1x512x512.Idx) :
    out0_10 x0 x1 x2 x3 x4 x5 x6 x7 x8 x9 y = block10 x sh sc w qn kn b T y := by
  rw [out10_eq]
  simp only [whole2, whole5, whole3, whole6]
  refine View.canon_apply_of_pieces (Val := Elt Ideal) (block10 x sh sc w qn kn b T) _ ?_ y (cover0_10 _ _ _ _ y)
  intro pc hpc z
  simp only [List.mem_cons, List.not_mem_nil, or_false] at hpc
  rcases hpc with rfl | rfl | rfl | rfl
  · obtain ⟨r, n, rfl⟩ := rows128_512 z
    refine (qaPiece_apply _ _ _ _ _ _ _ _ r (T ⟨384 + r.val, by omega⟩).val qn (fun j => (congrArg x8 (at_t384 r j)).trans (H.h8 _ j)) (fun j => (congrArg x9 (at_t384 r j)).trans (H.h9 _ j)) H.h4 H.h6 n).trans ?_
    rw [proj384 x0 x1 x2 x3 x4 x5 x6 x7 x8 x9 x sh sc w qn kn b T H]
    exact (congrArg (block10 x sh sc w qn kn b T) (at_w384 r n)).symm
  · obtain ⟨r, n, rfl⟩ := rows128_512 z
    refine (qaPiece_apply _ _ _ _ _ _ _ _ r (T ⟨256 + r.val, by omega⟩).val qn (fun j => (congrArg x8 (at_t256 r j)).trans (H.h8 _ j)) (fun j => (congrArg x9 (at_t256 r j)).trans (H.h9 _ j)) H.h4 H.h6 n).trans ?_
    rw [proj256 x0 x1 x2 x3 x4 x5 x6 x7 x8 x9 x sh sc w qn kn b T H]
    exact (congrArg (block10 x sh sc w qn kn b T) (at_w256 r n)).symm
  · obtain ⟨r, n, rfl⟩ := rows128_512 z
    refine (qaPiece_apply _ _ _ _ _ _ _ _ r (T ⟨128 + r.val, by omega⟩).val qn (fun j => (congrArg x8 (at_t128 r j)).trans (H.h8 _ j)) (fun j => (congrArg x9 (at_t128 r j)).trans (H.h9 _ j)) H.h4 H.h6 n).trans ?_
    rw [proj128 x0 x1 x2 x3 x4 x5 x6 x7 x8 x9 x sh sc w qn kn b T H]
    exact (congrArg (block10 x sh sc w qn kn b T) (at_w128 r n)).symm
  · obtain ⟨r, n, rfl⟩ := rows128_512 z
    refine (qaPiece_apply _ _ _ _ _ _ _ _ r (T ⟨0 + r.val, by omega⟩).val qn (fun j => (congrArg x8 (at_t0 r j)).trans (H.h8 _ j)) (fun j => (congrArg x9 (at_t0 r j)).trans (H.h9 _ j)) H.h4 H.h6 n).trans ?_
    rw [proj0 x0 x1 x2 x3 x4 x5 x6 x7 x8 x9 x sh sc w qn kn b T H]
    exact (congrArg (block10 x sh sc w qn kn b T) (at_w0 r n)).symm

/-- their window queries, -/
def block11 (x : Stream) (sh sc : Modulation) (w : Matrix) (qn kn : Gain) (b : Fin 8) (T : Fin 512 → Fin 4096) (y : S1x512x256.Idx) : EReal :=
  queryC (projected x sh sc w b (T (y 1))) (T (y 1)).val (y 2)

theorem out11_apply (H : Blocks x0 x1 x2 x3 x4 x5 x6 x7 x8 x9 x sh sc w qn kn b T) (y : S1x512x256.Idx) :
    out0_11 x0 x1 x2 x3 x4 x5 x6 x7 x8 x9 y = block11 x sh sc w qn kn b T y := by
  rw [out11_eq]
  simp only [whole2, whole5]
  refine View.canon_apply_of_pieces (Val := Elt Ideal) (block11 x sh sc w qn kn b T) _ ?_ y (cover0_11 _ _ _ _ y)
  intro pc hpc z
  simp only [List.mem_cons, List.not_mem_nil, or_false] at hpc
  rcases hpc with rfl | rfl | rfl | rfl
  · obtain ⟨r, n, rfl⟩ := rows128_256 z
    refine (qcPiece_apply _ _ _ _ _ _ r (T ⟨384 + r.val, by omega⟩).val (fun j => (congrArg x8 (at_t384 r j)).trans (H.h8 _ j)) (fun j => (congrArg x9 (at_t384 r j)).trans (H.h9 _ j)) n).trans ?_
    rw [proj384 x0 x1 x2 x3 x4 x5 x6 x7 x8 x9 x sh sc w qn kn b T H]
    exact (congrArg (block11 x sh sc w qn kn b T) (at_n384 r n)).symm
  · obtain ⟨r, n, rfl⟩ := rows128_256 z
    refine (qcPiece_apply _ _ _ _ _ _ r (T ⟨256 + r.val, by omega⟩).val (fun j => (congrArg x8 (at_t256 r j)).trans (H.h8 _ j)) (fun j => (congrArg x9 (at_t256 r j)).trans (H.h9 _ j)) n).trans ?_
    rw [proj256 x0 x1 x2 x3 x4 x5 x6 x7 x8 x9 x sh sc w qn kn b T H]
    exact (congrArg (block11 x sh sc w qn kn b T) (at_n256 r n)).symm
  · obtain ⟨r, n, rfl⟩ := rows128_256 z
    refine (qcPiece_apply _ _ _ _ _ _ r (T ⟨128 + r.val, by omega⟩).val (fun j => (congrArg x8 (at_t128 r j)).trans (H.h8 _ j)) (fun j => (congrArg x9 (at_t128 r j)).trans (H.h9 _ j)) n).trans ?_
    rw [proj128 x0 x1 x2 x3 x4 x5 x6 x7 x8 x9 x sh sc w qn kn b T H]
    exact (congrArg (block11 x sh sc w qn kn b T) (at_n128 r n)).symm
  · obtain ⟨r, n, rfl⟩ := rows128_256 z
    refine (qcPiece_apply _ _ _ _ _ _ r (T ⟨0 + r.val, by omega⟩).val (fun j => (congrArg x8 (at_t0 r j)).trans (H.h8 _ j)) (fun j => (congrArg x9 (at_t0 r j)).trans (H.h9 _ j)) n).trans ?_
    rw [proj0 x0 x1 x2 x3 x4 x5 x6 x7 x8 x9 x sh sc w qn kn b T H]
    exact (congrArg (block11 x sh sc w qn kn b T) (at_n0 r n)).symm

/-- their gate part, -/
def block12 (x : Stream) (sh sc : Modulation) (w : Matrix) (qn kn : Gain) (b : Fin 8) (T : Fin 512 → Fin 4096) (y : S1x512x256.Idx) : EReal :=
  gate (projected x sh sc w b (T (y 1))) (y 2)

theorem out12_apply (H : Blocks x0 x1 x2 x3 x4 x5 x6 x7 x8 x9 x sh sc w qn kn b T) (y : S1x512x256.Idx) :
    out0_12 x0 x1 x2 x3 x4 x5 x6 x7 x8 x9 y = block12 x sh sc w qn kn b T y := by
  rw [out12_eq]
  simp only [whole2, whole5]
  refine View.canon_apply_of_pieces (Val := Elt Ideal) (block12 x sh sc w qn kn b T) _ ?_ y (cover0_12 _ _ _ _ y)
  intro pc hpc z
  simp only [List.mem_cons, List.not_mem_nil, or_false] at hpc
  rcases hpc with rfl | rfl | rfl | rfl
  · obtain ⟨r, n, rfl⟩ := rows128_256 z
    refine (uPiece_apply _ _ _ _ r n).trans ?_
    rw [proj384 x0 x1 x2 x3 x4 x5 x6 x7 x8 x9 x sh sc w qn kn b T H]
    exact (congrArg (block12 x sh sc w qn kn b T) (at_n384 r n)).symm
  · obtain ⟨r, n, rfl⟩ := rows128_256 z
    refine (uPiece_apply _ _ _ _ r n).trans ?_
    rw [proj256 x0 x1 x2 x3 x4 x5 x6 x7 x8 x9 x sh sc w qn kn b T H]
    exact (congrArg (block12 x sh sc w qn kn b T) (at_n256 r n)).symm
  · obtain ⟨r, n, rfl⟩ := rows128_256 z
    refine (uPiece_apply _ _ _ _ r n).trans ?_
    rw [proj128 x0 x1 x2 x3 x4 x5 x6 x7 x8 x9 x sh sc w qn kn b T H]
    exact (congrArg (block12 x sh sc w qn kn b T) (at_n128 r n)).symm
  · obtain ⟨r, n, rfl⟩ := rows128_256 z
    refine (uPiece_apply _ _ _ _ r n).trans ?_
    rw [proj0 x0 x1 x2 x3 x4 x5 x6 x7 x8 x9 x sh sc w qn kn b T H]
    exact (congrArg (block12 x sh sc w qn kn b T) (at_n0 r n)).symm

/-- their global keys, -/
def block13 (x : Stream) (sh sc : Modulation) (w : Matrix) (qn kn : Gain) (b : Fin 8) (T : Fin 512 → Fin 4096) (y : S1x512x512.Idx) : EReal :=
  keyA (projected x sh sc w b (T (y 1))) kn (T (y 1)).val (y 2)

theorem out13_apply (H : Blocks x0 x1 x2 x3 x4 x5 x6 x7 x8 x9 x sh sc w qn kn b T) (y : S1x512x512.Idx) :
    out0_13 x0 x1 x2 x3 x4 x5 x6 x7 x8 x9 y = block13 x sh sc w qn kn b T y := by
  rw [out13_eq]
  simp only [whole2, whole5, whole4, whole7]
  refine View.canon_apply_of_pieces (Val := Elt Ideal) (block13 x sh sc w qn kn b T) _ ?_ y (cover0_13 _ _ _ _ y)
  intro pc hpc z
  simp only [List.mem_cons, List.not_mem_nil, or_false] at hpc
  rcases hpc with rfl | rfl | rfl | rfl
  · obtain ⟨r, n, rfl⟩ := rows128_512 z
    refine (kaPiece_apply _ _ _ _ _ _ _ _ r (T ⟨384 + r.val, by omega⟩).val kn (fun j => (congrArg x8 (at_t384 r j)).trans (H.h8 _ j)) (fun j => (congrArg x9 (at_t384 r j)).trans (H.h9 _ j)) H.h5 H.h7 n).trans ?_
    rw [proj384 x0 x1 x2 x3 x4 x5 x6 x7 x8 x9 x sh sc w qn kn b T H]
    exact (congrArg (block13 x sh sc w qn kn b T) (at_w384 r n)).symm
  · obtain ⟨r, n, rfl⟩ := rows128_512 z
    refine (kaPiece_apply _ _ _ _ _ _ _ _ r (T ⟨256 + r.val, by omega⟩).val kn (fun j => (congrArg x8 (at_t256 r j)).trans (H.h8 _ j)) (fun j => (congrArg x9 (at_t256 r j)).trans (H.h9 _ j)) H.h5 H.h7 n).trans ?_
    rw [proj256 x0 x1 x2 x3 x4 x5 x6 x7 x8 x9 x sh sc w qn kn b T H]
    exact (congrArg (block13 x sh sc w qn kn b T) (at_w256 r n)).symm
  · obtain ⟨r, n, rfl⟩ := rows128_512 z
    refine (kaPiece_apply _ _ _ _ _ _ _ _ r (T ⟨128 + r.val, by omega⟩).val kn (fun j => (congrArg x8 (at_t128 r j)).trans (H.h8 _ j)) (fun j => (congrArg x9 (at_t128 r j)).trans (H.h9 _ j)) H.h5 H.h7 n).trans ?_
    rw [proj128 x0 x1 x2 x3 x4 x5 x6 x7 x8 x9 x sh sc w qn kn b T H]
    exact (congrArg (block13 x sh sc w qn kn b T) (at_w128 r n)).symm
  · obtain ⟨r, n, rfl⟩ := rows128_512 z
    refine (kaPiece_apply _ _ _ _ _ _ _ _ r (T ⟨0 + r.val, by omega⟩).val kn (fun j => (congrArg x8 (at_t0 r j)).trans (H.h8 _ j)) (fun j => (congrArg x9 (at_t0 r j)).trans (H.h9 _ j)) H.h5 H.h7 n).trans ?_
    rw [proj0 x0 x1 x2 x3 x4 x5 x6 x7 x8 x9 x sh sc w qn kn b T H]
    exact (congrArg (block13 x sh sc w qn kn b T) (at_w0 r n)).symm

/-- their global values, -/
def block14 (x : Stream) (sh sc : Modulation) (w : Matrix) (qn kn : Gain) (b : Fin 8) (T : Fin 512 → Fin 4096) (y : S1x512x512.Idx) : EReal :=
  valueA (projected x sh sc w b (T (y 1))) (y 2)

theorem out14_apply (H : Blocks x0 x1 x2 x3 x4 x5 x6 x7 x8 x9 x sh sc w qn kn b T) (y : S1x512x512.Idx) :
    out0_14 x0 x1 x2 x3 x4 x5 x6 x7 x8 x9 y = block14 x sh sc w qn kn b T y := by
  rw [out14_eq]
  simp only [whole2, whole5]
  refine View.canon_apply_of_pieces (Val := Elt Ideal) (block14 x sh sc w qn kn b T) _ ?_ y (cover0_14 _ _ _ _ y)
  intro pc hpc z
  simp only [List.mem_cons, List.not_mem_nil, or_false] at hpc
  rcases hpc with rfl | rfl | rfl | rfl
  · obtain ⟨r, n, rfl⟩ := rows128_512 z
    refine (vaPiece_apply _ _ _ _ r n).trans ?_
    rw [proj384 x0 x1 x2 x3 x4 x5 x6 x7 x8 x9 x sh sc w qn kn b T H]
    exact (congrArg (block14 x sh sc w qn kn b T) (at_w384 r n)).symm
  · obtain ⟨r, n, rfl⟩ := rows128_512 z
    refine (vaPiece_apply _ _ _ _ r n).trans ?_
    rw [proj256 x0 x1 x2 x3 x4 x5 x6 x7 x8 x9 x sh sc w qn kn b T H]
    exact (congrArg (block14 x sh sc w qn kn b T) (at_w256 r n)).symm
  · obtain ⟨r, n, rfl⟩ := rows128_512 z
    refine (vaPiece_apply _ _ _ _ r n).trans ?_
    rw [proj128 x0 x1 x2 x3 x4 x5 x6 x7 x8 x9 x sh sc w qn kn b T H]
    exact (congrArg (block14 x sh sc w qn kn b T) (at_w128 r n)).symm
  · obtain ⟨r, n, rfl⟩ := rows128_512 z
    refine (vaPiece_apply _ _ _ _ r n).trans ?_
    rw [proj0 x0 x1 x2 x3 x4 x5 x6 x7 x8 x9 x sh sc w qn kn b T H]
    exact (congrArg (block14 x sh sc w qn kn b T) (at_w0 r n)).symm

/-- their window keys -/
def block15 (x : Stream) (sh sc : Modulation) (w : Matrix) (qn kn : Gain) (b : Fin 8) (T : Fin 512 → Fin 4096) (y : S1x512x256.Idx) : EReal :=
  keyC (projected x sh sc w b (T (y 1))) (T (y 1)).val (y 2)

theorem out15_apply (H : Blocks x0 x1 x2 x3 x4 x5 x6 x7 x8 x9 x sh sc w qn kn b T) (y : S1x512x256.Idx) :
    out0_15 x0 x1 x2 x3 x4 x5 x6 x7 x8 x9 y = block15 x sh sc w qn kn b T y := by
  rw [out15_eq]
  simp only [whole2, whole5]
  refine View.canon_apply_of_pieces (Val := Elt Ideal) (block15 x sh sc w qn kn b T) _ ?_ y (cover0_15 _ _ _ _ y)
  intro pc hpc z
  simp only [List.mem_cons, List.not_mem_nil, or_false] at hpc
  rcases hpc with rfl | rfl | rfl | rfl
  · obtain ⟨r, n, rfl⟩ := rows128_256 z
    refine (kcPiece_apply _ _ _ _ _ _ r (T ⟨384 + r.val, by omega⟩).val (fun j => (congrArg x8 (at_t384 r j)).trans (H.h8 _ j)) (fun j => (congrArg x9 (at_t384 r j)).trans (H.h9 _ j)) n).trans ?_
    rw [proj384 x0 x1 x2 x3 x4 x5 x6 x7 x8 x9 x sh sc w qn kn b T H]
    exact (congrArg (block15 x sh sc w qn kn b T) (at_n384 r n)).symm
  · obtain ⟨r, n, rfl⟩ := rows128_256 z
    refine (kcPiece_apply _ _ _ _ _ _ r (T ⟨256 + r.val, by omega⟩).val (fun j => (congrArg x8 (at_t256 r j)).trans (H.h8 _ j)) (fun j => (congrArg x9 (at_t256 r j)).trans (H.h9 _ j)) n).trans ?_
    rw [proj256 x0 x1 x2 x3 x4 x5 x6 x7 x8 x9 x sh sc w qn kn b T H]
    exact (congrArg (block15 x sh sc w qn kn b T) (at_n256 r n)).symm
  · obtain ⟨r, n, rfl⟩ := rows128_256 z
    refine (kcPiece_apply _ _ _ _ _ _ r (T ⟨128 + r.val, by omega⟩).val (fun j => (congrArg x8 (at_t128 r j)).trans (H.h8 _ j)) (fun j => (congrArg x9 (at_t128 r j)).trans (H.h9 _ j)) n).trans ?_
    rw [proj128 x0 x1 x2 x3 x4 x5 x6 x7 x8 x9 x sh sc w qn kn b T H]
    exact (congrArg (block15 x sh sc w qn kn b T) (at_n128 r n)).symm
  · obtain ⟨r, n, rfl⟩ := rows128_256 z
    refine (kcPiece_apply _ _ _ _ _ _ r (T ⟨0 + r.val, by omega⟩).val (fun j => (congrArg x8 (at_t0 r j)).trans (H.h8 _ j)) (fun j => (congrArg x9 (at_t0 r j)).trans (H.h9 _ j)) n).trans ?_
    rw [proj0 x0 x1 x2 x3 x4 x5 x6 x7 x8 x9 x sh sc w qn kn b T H]
    exact (congrArg (block15 x sh sc w qn kn b T) (at_n0 r n)).symm

/-- and their window values. -/
def block16 (x : Stream) (sh sc : Modulation) (w : Matrix) (qn kn : Gain) (b : Fin 8) (T : Fin 512 → Fin 4096) (y : S1x512x256.Idx) : EReal :=
  valueC (projected x sh sc w b (T (y 1))) (y 2)

theorem out16_apply (H : Blocks x0 x1 x2 x3 x4 x5 x6 x7 x8 x9 x sh sc w qn kn b T) (y : S1x512x256.Idx) :
    out0_16 x0 x1 x2 x3 x4 x5 x6 x7 x8 x9 y = block16 x sh sc w qn kn b T y := by
  rw [out16_eq]
  simp only [whole2, whole5]
  refine View.canon_apply_of_pieces (Val := Elt Ideal) (block16 x sh sc w qn kn b T) _ ?_ y (cover0_16 _ _ _ _ y)
  intro pc hpc z
  simp only [List.mem_cons, List.not_mem_nil, or_false] at hpc
  rcases hpc with rfl | rfl | rfl | rfl
  · obtain ⟨r, n, rfl⟩ := rows128_256 z
    refine (vcPiece_apply _ _ _ _ r n).trans ?_
    rw [proj384 x0 x1 x2 x3 x4 x5 x6 x7 x8 x9 x sh sc w qn kn b T H]
    exact (congrArg (block16 x sh sc w qn kn b T) (at_n384 r n)).symm
  · obtain ⟨r, n, rfl⟩ := rows128_256 z
    refine (vcPiece_apply _ _ _ _ r n).trans ?_
    rw [proj256 x0 x1 x2 x3 x4 x5 x6 x7 x8 x9 x sh sc w qn kn b T H]
    exact (congrArg (block16 x sh sc w qn kn b T) (at_n256 r n)).symm
  · obtain ⟨r, n, rfl⟩ := rows128_256 z
    refine (vcPiece_apply _ _ _ _ r n).trans ?_
    rw [proj128 x0 x1 x2 x3 x4 x5 x6 x7 x8 x9 x sh sc w qn kn b T H]
    exact (congrArg (block16 x sh sc w qn kn b T) (at_n128 r n)).symm
  · obtain ⟨r, n, rfl⟩ := rows128_256 z
    refine (vcPiece_apply _ _ _ _ r n).trans ?_
    rw [proj0 x0 x1 x2 x3 x4 x5 x6 x7 x8 x9 x sh sc w qn kn b T H]
    exact (congrArg (block16 x sh sc w qn kn b T) (at_n0 r n)).symm

end Cert.InProj

end
-- ==== Proof.InProjTables.lean ====
/-
  The tables the host code of the input projection prepares, read at an index: the cosines and signed sines of the
  angles, the 0/1 matrices of the heads, the repeated gains, and the first of the two weight matrices.
-/
module

public import proofs.«01_k».proof.Proof.InProjRead
public import proofs.«01_k».proof.Proof.Gen.Kernel4Ideal.Value

@[expose] public section

set_option maxRecDepth 16384

noncomputable section

namespace Cert.InProj

open Cert.Kernel4Ideal Cert.Kernel4Ideal.Gen Cert.Kernel4Ideal.Value Idealize.ShloMosaic Idealize.SL.Sem Idealize.ShloMosaic.TcCoe Idealize.ShloMosaic.Tactic

/-! ## Whole numbers -/

/-- The floor division by 64, as the host code spells it. -/
def floor64 (x : BitVec 32) : BitVec 32 :=
  Scalar.select
    (IntOp.andi
      (IntOp.cmpi CmpIPredicate.ne (if x = 0 then 0 else if x.msb = true then -1 else 1) (if 64#32 = 0 then 0 else if (64#32).msb = true then -1 else 1 : BitVec 32))
      (IntOp.cmpi CmpIPredicate.ne (IntOp.remsi ArithUnit.host x 64#32) 0#32))
    (IntOp.subi (IntOp.divsi ArithUnit.host x 64#32) 1#32)
    (IntOp.divsi ArithUnit.host x 64#32)

/-- The remainder by 64, as the host code spells it. -/
def rest64 (x : BitVec 32) : BitVec 32 :=
  Scalar.select
    (IntOp.andi
      (IntOp.cmpi CmpIPredicate.ne
        (IntOp.cmpi CmpIPredicate.slt (IntOp.remsi ArithUnit.host x (Scalar.select (IntOp.cmpi CmpIPredicate.eq 64#32 0#32) 1#32 64#32)) 0#32)
        (IntOp.cmpi CmpIPredicate.slt (Scalar.select (IntOp.cmpi CmpIPredicate.eq 64#32 0#32) 1#32 64#32) 0#32))
      (IntOp.cmpi CmpIPredicate.ne (IntOp.remsi ArithUnit.host x (Scalar.select (IntOp.cmpi CmpIPredicate.eq 64#32 0#32) 1#32 64#32)) 0#32))
    (IntOp.addi (IntOp.remsi ArithUnit.host x (Scalar.select (IntOp.cmpi CmpIPredicate.eq 64#32 0#32) 1#32 64#32))
      (Scalar.select (IntOp.cmpi CmpIPredicate.eq 64#32 0#32) 1#32 64#32))
    (IntOp.remsi ArithUnit.host x (Scalar.select (IntOp.cmpi CmpIPredicate.eq 64#32 0#32) 1#32 64#32))

theorem floor64_eq : ∀ n : Fin 4096, floor64 (BitVec.ofNat 32 n.val) = BitVec.ofNat 32 (n.val / 64) := by decide +kernel
theorem rest64_eq : ∀ n : Fin 4096, rest64 (BitVec.ofNat 32 n.val) = BitVec.ofNat 32 (n.val % 64) := by decide +kernel
theorem same64 : ∀ a b : Fin 8, IntOp.cmpi .eq (BitVec.ofNat 32 a.val) (BitVec.ofNat 32 b.val) = if a.val = b.val then 1#1 else 0#1 := by decide +kernel

/-- The lanes whose position is the column, -/
theorem column_eq : ∀ n : Fin 128, lit1 (S128.rowMajor (ix1 n)) = if n.val % 64 / 32 < 1 then 0#1 else 1#1 := by decide +kernel
/-- the bits of the signs, -/
theorem signBits : ∀ n : Fin 128, lit2 (S128.rowMajor (ix1 n)) = if n.val % 32 < 16 then 0xBF800000#32 else 0x3F800000#32 := by decide +kernel

/-- The frequency each lane takes. -/
def laneIdx : IVec S128x1 32 :=
  broadcastInDim S128x1 ![0] bcast_S128_S128x1_0
    (select (constantI S128 1 0#1)
      (addi (fun i => lit0 (S128.rowMajor i)) (broadcastInDim S128 ![] bcast_S_S128 (constantI S_ 32 16#32)))
      fun i => lit0 (S128.rowMajor i))

theorem laneIdx_eq : ∀ n : Fin 128, (gather_S16_S128x1_S128_n_0_n_n_0_1_1.operandIdx (ix1 n) laneIdx 0).val = n.val % 16 := by decide +kernel

theorem gather_eq (x : S16.Idx → EReal) (n : Fin 128) :
    Host.gather gather_S16_S128x1_S128_n_0_n_n_0_1_1 x laneIdx (ix1 n) = x (ix1 ⟨n.val % 16, by omega⟩) := by
  show x (gather_S16_S128x1_S128_n_0_n_n_0_1_1.operandIdx (ix1 n) laneIdx) = _
  refine congrArg x (funext fun a => ?_)
  obtain rfl : a = 0 := Subsingleton.elim _ _
  exact Fin.ext (laneIdx_eq n)

theorem sign_eq (n : Fin 128) : Ideal.ofBits .f32 (lit2 (S128.rowMajor (ix1 n))) = sign n.val := by
  rw [signBits, sign]
  split_ifs with h
  · simp [Ideal.ofBits, Ideal.ieee]
    rw [← EReal.coe_mul]; norm_num
  · simp [Ideal.ofBits, Ideal.ieee]
    rw [← EReal.coe_mul]; norm_num

/-- The position a lane uses, as the host code selects it. -/
theorem position_eq (t : Fin 4096) (n : Fin 128) :
    Scalar.select (lit1 (S128.rowMajor (ix1 n))) (rest64 (BitVec.ofNat 32 t.val)) (floor64 (BitVec.ofNat 32 t.val))
      = BitVec.ofNat 32 (if n.val % 64 / 32 < 1 then t.val / 64 else t.val % 64) := by
  rw [column_eq, rest64_eq, floor64_eq]
  by_cases h : n.val % 64 / 32 < 1 <;> simp [h, Scalar.select]

/-! ## The arrays -/

variable (m : (ℓ : Loc nD τ sig) → Buf (Elt Ideal) ℓ)

/-- The arguments of core `c`. -/
def kx (c : Dev nD) : Cert.Norm.Stream := m ((c.tc : Thread nD τ).loc main_arg0)
def kshift (c : Dev nD) : Modulation := m ((c.tc : Thread nD τ).loc main_arg1)
def kscale (c : Dev nD) : Modulation := m ((c.tc : Thread nD τ).loc main_arg2)
def kmatrix (c : Dev nD) : Matrix := m ((c.tc : Thread nD τ).loc main_arg3)
def kqGain (c : Dev nD) : Gain := m ((c.tc : Thread nD τ).loc main_arg4)
def kkGain (c : Dev nD) : Gain := m ((c.tc : Thread nD τ).loc main_arg5)

theorem matrix_eq (c : Dev nD) (k : Fin 1024) (n : Fin 1536) : V m c main_v63 (ix2 k n) = kmatrix m c (ix3 0 k n) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise [kmatrix]

theorem qGain_eq (c : Dev nD) (n : Fin 512) : V m c main_v54 (ix2 0 n) = kqGain m c (ix2 0 ⟨n.val % 64, by omega⟩) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise [kqGain]

theorem kGain_eq (c : Dev nD) (n : Fin 128) : V m c main_v60 (ix2 0 n) = kkGain m c (ix2 0 ⟨n.val % 64, by omega⟩) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise [kkGain]

theorem same_head (k n : ℕ) (hk : k < 512) (hn : n < 512) :
    FloatOps.uitofp (F := Ideal) .f32 (IntOp.cmpi .eq (floor64 (BitVec.ofNat 32 k)) (floor64 (BitVec.ofNat 32 n))) = if k / 64 = n / 64 then (1 : EReal) else 0 := by
  rw [floor64_eq ⟨k, by omega⟩, floor64_eq ⟨n, by omega⟩, same64 ⟨k / 64, by omega⟩ ⟨n / 64, by omega⟩]
  by_cases h : k / 64 = n / 64 <;> simp [h, FloatOps.uitofp]

theorem qHeads_eq (c : Dev nD) (k n : Fin 512) : V m c main_v39 (ix2 k n) = if k.val / 64 = n.val / 64 then (1 : EReal) else 0 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp only [StableHlo.TRef.ofBuf_toBuf, StableHlo.TRef.toBuf, StableHlo.TRef.ofBuf, StableHlo.TRef.of, cast_eq]
  pointwise
  exact same_head k.val n.val (by omega) (by omega)

theorem kHeads_eq (c : Dev nD) (k n : Fin 128) : V m c main_v48 (ix2 k n) = if k.val / 64 = n.val / 64 then (1 : EReal) else 0 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp only [StableHlo.TRef.ofBuf_toBuf, StableHlo.TRef.toBuf, StableHlo.TRef.ofBuf, StableHlo.TRef.of, cast_eq]
  pointwise
  exact same_head k.val n.val (by omega) (by omega)

/-- The frequencies, -/
def frequencies : S16.Idx → EReal :=
  Host.powf (F := Ideal) (φ := .f32) (broadcastInDim S16 ![] bcast_S_S16 (constant S_ FTy.f32 1176256512#32))
    (Host.divf
      (Host.negf
        (addf (broadcastInDim S16 ![] bcast_S_S16 (constant S_ FTy.f32 0#32))
          (mulf (broadcastInDim S16 ![] bcast_S_S16 (constant S_ FTy.f32 1073741824#32)) (sitofp FTy.f32 (iotaInDim S16 32 0)))))
      (broadcastInDim S16 ![] bcast_S_S16 (constant S_ FTy.f32 1107296256#32)))

theorem frequencies_eq (i : Fin 16) : frequencies (ix1 i) = frequency i.val := by
  pointwise [frequencies, frequency]

/-- the angle of a lane, -/
theorem lane_angle (t : Fin 4096) (n : Fin 128) :
    FloatOps.sitofp (F := Ideal) .f32 (Scalar.select (lit1 (S128.rowMajor (ix1 n))) (rest64 (BitVec.ofNat 32 t.val)) (floor64 (BitVec.ofNat 32 t.val)))
      * Host.gather gather_S16_S128x1_S128_n_0_n_n_0_1_1 frequencies laneIdx (ix1 n) = angle t.val (n.val % 64) := by
  rw [position_eq, gather_eq, frequencies_eq, angle, show n.val % 64 % 16 = n.val % 16 by omega]

/-- its cosine -/
theorem cos_eq (c : Dev nD) (t : Fin 4096) (n : Fin 128) : V m c main_v26 (ix2 t n) = Ideal.cos (angle t.val (n.val % 64)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp only [StableHlo.TRef.ofBuf_toBuf, StableHlo.TRef.toBuf, StableHlo.TRef.ofBuf, StableHlo.TRef.of, cast_eq]
  pointwise
  exact congrArg Ideal.cos (lane_angle t n)

/-- and its signed sine. -/
theorem sin_eq (c : Dev nD) (t : Fin 4096) (n : Fin 128) : V m c main_v30 (ix2 t n) = Ideal.sin (angle t.val (n.val % 64)) * sign n.val := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp only [StableHlo.TRef.ofBuf_toBuf, StableHlo.TRef.toBuf, StableHlo.TRef.ofBuf, StableHlo.TRef.of, cast_eq]
  pointwise
  exact congrArg₂ (· * ·) (congrArg Ideal.sin (lane_angle t n)) (sign_eq n)

end Cert.InProj

end
-- ==== Proof.InProjRef.lean ====
/-
  The reference of the input projection, run: its seven results are the seven parts of the specification.
-/
module

public import proofs.«01_k».proof.Proof.InProjSpec
public import proofs.«01_k».proof.Proof.Gen.Reference4Ideal.Run

@[expose] public section

set_option maxRecDepth 16384

noncomputable section

namespace Cert.InProj.Ref

open Cert.Reference4Ideal Cert.Reference4Ideal.Gen Cert.Reference4Ideal.Value Idealize.ShloMosaic Idealize.SL.Sem Idealize.ShloMosaic.TcCoe Idealize.ShloMosaic.Tactic Idealize.ShloMosaic.StableHlo
open Cert.Norm (Stream normed variance mean width)

/-! ## The shapes the heads go through -/

theorem split8 (z : FVec Ideal S8x4096x8x2x2x16 .f32) (b : Fin 8) (t : Fin 4096) (n : Fin 8) (d : Fin 64) :
    (shapeCast S8x4096x8x64 z shapeCasts_S8x4096x8x2x2x16_S8x4096x8x64) (ix4 b t n d)
      = z (ix6 b t n ⟨d.val / 32, by omega⟩ ⟨d.val / 16 % 2, by omega⟩ ⟨d.val % 16, by omega⟩) := by
  pointwise

theorem pair8 (z1 z2 : FVec Ideal S8x4096x8x2x16 .f32) (c s : FVec Ideal S1x4096x1x2x16 .f32) (b : Fin 8) (t : Fin 4096) (n : Fin 8) (a e : Fin 2) (i : Fin 16) :
    (concatenate S8x4096x8x2x2x16 4 [⟨S8x4096x8x2x1x16, (broadcastInDim S8x4096x8x2x1x16 ![0, 1, 2, 3, 5] bcast_S8x4096x8x2x16_S8x4096x8x2x1x16_0_1_2_3_5 (subf (mulf z1 (broadcastInDim S8x4096x8x2x16 ![0, 1, 2, 3, 4] bcast_S1x4096x1x2x16_S8x4096x8x2x16_0_1_2_3_4 c)) (mulf z2 (broadcastInDim S8x4096x8x2x16 ![0, 1, 2, 3, 4] bcast_S1x4096x1x2x16_S8x4096x8x2x16_0_1_2_3_4 s))))⟩, ⟨S8x4096x8x2x1x16, (broadcastInDim S8x4096x8x2x1x16 ![0, 1, 2, 3, 5] bcast_S8x4096x8x2x16_S8x4096x8x2x1x16_0_1_2_3_5 (addf (mulf z2 (broadcastInDim S8x4096x8x2x16 ![0, 1, 2, 3, 4] bcast_S1x4096x1x2x16_S8x4096x8x2x16_0_1_2_3_4 c)) (mulf z1 (broadcastInDim S8x4096x8x2x16 ![0, 1, 2, 3, 4] bcast_S1x4096x1x2x16_S8x4096x8x2x16_0_1_2_3_4 s))))⟩] concatenates_S8x4096x8x2x1x16_S8x4096x8x2x1x16_S8x4096x8x2x2x16_d4 : FVec Ideal S8x4096x8x2x2x16 .f32) (ix6 b t n a e i)
      = if e.val < 1 then z1 (ix5 b t n a i) * c (ix5 0 t 0 a i) - z2 (ix5 b t n a i) * s (ix5 0 t 0 a i)
        else z2 (ix5 b t n a i) * c (ix5 0 t 0 a i) + z1 (ix5 b t n a i) * s (ix5 0 t 0 a i) := by
  pointwise
  exact dite_eq_ite

theorem turn8 (z1 z2 : FVec Ideal S8x4096x8x2x16 .f32) (c s : FVec Ideal S1x4096x1x2x16 .f32) (b : Fin 8) (t : Fin 4096) (n : Fin 8) (d : Fin 64) (q : Fin 64 → EReal)
    (h1 : ∀ a i, z1 (ix5 b t n a i) = q ⟨a.val * 32 + i.val, by omega⟩)
    (h2 : ∀ a i, z2 (ix5 b t n a i) = q ⟨a.val * 32 + 16 + i.val, by omega⟩)
    (hc : ∀ a i, c (ix5 0 t 0 a i) = Ideal.cos (angle t.val (a.val * 32 + i.val)))
    (hs : ∀ a i, s (ix5 0 t 0 a i) = Ideal.sin (angle t.val (a.val * 32 + i.val))) :
    (shapeCast S8x4096x8x64 (concatenate S8x4096x8x2x2x16 4 [⟨S8x4096x8x2x1x16, (broadcastInDim S8x4096x8x2x1x16 ![0, 1, 2, 3, 5] bcast_S8x4096x8x2x16_S8x4096x8x2x1x16_0_1_2_3_5 (subf (mulf z1 (broadcastInDim S8x4096x8x2x16 ![0, 1, 2, 3, 4] bcast_S1x4096x1x2x16_S8x4096x8x2x16_0_1_2_3_4 c)) (mulf z2 (broadcastInDim S8x4096x8x2x16 ![0, 1, 2, 3, 4] bcast_S1x4096x1x2x16_S8x4096x8x2x16_0_1_2_3_4 s))))⟩, ⟨S8x4096x8x2x1x16, (broadcastInDim S8x4096x8x2x1x16 ![0, 1, 2, 3, 5] bcast_S8x4096x8x2x16_S8x4096x8x2x1x16_0_1_2_3_5 (addf (mulf z2 (broadcastInDim S8x4096x8x2x16 ![0, 1, 2, 3, 4] bcast_S1x4096x1x2x16_S8x4096x8x2x16_0_1_2_3_4 c)) (mulf z1 (broadcastInDim S8x4096x8x2x16 ![0, 1, 2, 3, 4] bcast_S1x4096x1x2x16_S8x4096x8x2x16_0_1_2_3_4 s))))⟩] concatenates_S8x4096x8x2x1x16_S8x4096x8x2x1x16_S8x4096x8x2x2x16_d4 : FVec Ideal S8x4096x8x2x2x16 .f32) shapeCasts_S8x4096x8x2x2x16_S8x4096x8x64) (ix4 b t n d)
      = turned q t.val d := by
  rw [split8, pair8, h1, h2, hc, hs, ← turned_of q t.val d _ _ _ _ rfl rfl rfl rfl]
  have hA : angle t.val (d.val / 32 * 32 + d.val % 16) = angle t.val d.val := by
    unfold angle
    rw [show (d.val / 32 * 32 + d.val % 16) / 32 = d.val / 32 by omega, show (d.val / 32 * 32 + d.val % 16) % 16 = d.val % 16 by omega]
  simp only [hA]
  exact if_congr (by omega) rfl rfl

theorem flat8 (z : FVec Ideal S8x4096x8x64 .f32) (b : Fin 8) (t : Fin 4096) (n : Fin 512) :
    (shapeCast S8x4096x512 z shapeCasts_S8x4096x8x64_S8x4096x512) (ix3 b t n) = z (ix4 b t ⟨n.val / 64, by omega⟩ ⟨n.val % 64, by omega⟩) := by
  pointwise

theorem split4 (z : FVec Ideal S8x4096x4x2x2x16 .f32) (b : Fin 8) (t : Fin 4096) (n : Fin 4) (d : Fin 64) :
    (shapeCast S8x4096x4x64 z shapeCasts_S8x4096x4x2x2x16_S8x4096x4x64) (ix4 b t n d)
      = z (ix6 b t n ⟨d.val / 32, by omega⟩ ⟨d.val / 16 % 2, by omega⟩ ⟨d.val % 16, by omega⟩) := by
  pointwise

theorem pair4 (z1 z2 : FVec Ideal S8x4096x4x2x16 .f32) (c s : FVec Ideal S1x4096x1x2x16 .f32) (b : Fin 8) (t : Fin 4096) (n : Fin 4) (a e : Fin 2) (i : Fin 16) :
    (concatenate S8x4096x4x2x2x16 4 [⟨S8x4096x4x2x1x16, (broadcastInDim S8x4096x4x2x1x16 ![0, 1, 2, 3, 5] bcast_S8x4096x4x2x16_S8x4096x4x2x1x16_0_1_2_3_5 (subf (mulf z1 (broadcastInDim S8x4096x4x2x16 ![0, 1, 2, 3, 4] bcast_S1x4096x1x2x16_S8x4096x4x2x16_0_1_2_3_4 c)) (mulf z2 (broadcastInDim S8x4096x4x2x16 ![0, 1, 2, 3, 4] bcast_S1x4096x1x2x16_S8x4096x4x2x16_0_1_2_3_4 s))))⟩, ⟨S8x4096x4x2x1x16, (broadcastInDim S8x4096x4x2x1x16 ![0, 1, 2, 3, 5] bcast_S8x4096x4x2x16_S8x4096x4x2x1x16_0_1_2_3_5 (addf (mulf z2 (broadcastInDim S8x4096x4x2x16 ![0, 1, 2, 3, 4] bcast_S1x4096x1x2x16_S8x4096x4x2x16_0_1_2_3_4 c)) (mulf z1 (broadcastInDim S8x4096x4x2x16 ![0, 1, 2, 3, 4] bcast_S1x4096x1x2x16_S8x4096x4x2x16_0_1_2_3_4 s))))⟩] concatenates_S8x4096x4x2x1x16_S8x4096x4x2x1x16_S8x4096x4x2x2x16_d4 : FVec Ideal S8x4096x4x2x2x16 .f32) (ix6 b t n a e i)
      = if e.val < 1 then z1 (ix5 b t n a i) * c (ix5 0 t 0 a i) - z2 (ix5 b t n a i) * s (ix5 0 t 0 a i)
        else z2 (ix5 b t n a i) * c (ix5 0 t 0 a i) + z1 (ix5 b t n a i) * s (ix5 0 t 0 a i) := by
  pointwise
  exact dite_eq_ite

theorem turn4 (z1 z2 : FVec Ideal S8x4096x4x2x16 .f32) (c s : FVec Ideal S1x4096x1x2x16 .f32) (b : Fin 8) (t : Fin 4096) (n : Fin 4) (d : Fin 64) (q : Fin 64 → EReal)
    (h1 : ∀ a i, z1 (ix5 b t n a i) = q ⟨a.val * 32 + i.val, by omega⟩)
    (h2 : ∀ a i, z2 (ix5 b t n a i) = q ⟨a.val * 32 + 16 + i.val, by omega⟩)
    (hc : ∀ a i, c (ix5 0 t 0 a i) = Ideal.cos (angle t.val (a.val * 32 + i.val)))
    (hs : ∀ a i, s (ix5 0 t 0 a i) = Ideal.sin (angle t.val (a.val * 32 + i.val))) :
    (shapeCast S8x4096x4x64 (concatenate S8x4096x4x2x2x16 4 [⟨S8x4096x4x2x1x16, (broadcastInDim S8x4096x4x2x1x16 ![0, 1, 2, 3, 5] bcast_S8x4096x4x2x16_S8x4096x4x2x1x16_0_1_2_3_5 (subf (mulf z1 (broadcastInDim S8x4096x4x2x16 ![0, 1, 2, 3, 4] bcast_S1x4096x1x2x16_S8x4096x4x2x16_0_1_2_3_4 c)) (mulf z2 (broadcastInDim S8x4096x4x2x16 ![0, 1, 2, 3, 4] bcast_S1x4096x1x2x16_S8x4096x4x2x16_0_1_2_3_4 s))))⟩, ⟨S8x4096x4x2x1x16, (broadcastInDim S8x4096x4x2x1x16 ![0, 1, 2, 3, 5] bcast_S8x4096x4x2x16_S8x4096x4x2x1x16_0_1_2_3_5 (addf (mulf z2 (broadcastInDim S8x4096x4x2x16 ![0, 1, 2, 3, 4] bcast_S1x4096x1x2x16_S8x4096x4x2x16_0_1_2_3_4 c)) (mulf z1 (broadcastInDim S8x4096x4x2x16 ![0, 1, 2, 3, 4] bcast_S1x4096x1x2x16_S8x4096x4x2x16_0_1_2_3_4 s))))⟩] concatenates_S8x4096x4x2x1x16_S8x4096x4x2x1x16_S8x4096x4x2x2x16_d4 : FVec Ideal S8x4096x4x2x2x16 .f32) shapeCasts_S8x4096x4x2x2x16_S8x4096x4x64) (ix4 b t n d)
      = turned q t.val d := by
  rw [split4, pair4, h1, h2, hc, hs, ← turned_of q t.val d _ _ _ _ rfl rfl rfl rfl]
  have hA : angle t.val (d.val / 32 * 32 + d.val % 16) = angle t.val d.val := by
    unfold angle
    rw [show (d.val / 32 * 32 + d.val % 16) / 32 = d.val / 32 by omega, show (d.val / 32 * 32 + d.val % 16) % 16 = d.val % 16 by omega]
  simp only [hA]
  exact if_congr (by omega) rfl rfl

theorem flat4 (z : FVec Ideal S8x4096x4x64 .f32) (b : Fin 8) (t : Fin 4096) (n : Fin 256) :
    (shapeCast S8x4096x256 z shapeCasts_S8x4096x4x64_S8x4096x256) (ix3 b t n) = z (ix4 b t ⟨n.val / 64, by omega⟩ ⟨n.val % 64, by omega⟩) := by
  pointwise

theorem split2 (z : FVec Ideal S8x4096x2x2x2x16 .f32) (b : Fin 8) (t : Fin 4096) (n : Fin 2) (d : Fin 64) :
    (shapeCast S8x4096x2x64 z shapeCasts_S8x4096x2x2x2x16_S8x4096x2x64) (ix4 b t n d)
      = z (ix6 b t n ⟨d.val / 32, by omega⟩ ⟨d.val / 16 % 2, by omega⟩ ⟨d.val % 16, by omega⟩) := by
  pointwise

theorem pair2 (z1 z2 : FVec Ideal S8x4096x2x2x16 .f32) (c s : FVec Ideal S1x4096x1x2x16 .f32) (b : Fin 8) (t : Fin 4096) (n : Fin 2) (a e : Fin 2) (i : Fin 16) :
    (concatenate S8x4096x2x2x2x16 4 [⟨S8x4096x2x2x1x16, (broadcastInDim S8x4096x2x2x1x16 ![0, 1, 2, 3, 5] bcast_S8x4096x2x2x16_S8x4096x2x2x1x16_0_1_2_3_5 (subf (mulf z1 (broadcastInDim S8x4096x2x2x16 ![0, 1, 2, 3, 4] bcast_S1x4096x1x2x16_S8x4096x2x2x16_0_1_2_3_4 c)) (mulf z2 (broadcastInDim S8x4096x2x2x16 ![0, 1, 2, 3, 4] bcast_S1x4096x1x2x16_S8x4096x2x2x16_0_1_2_3_4 s))))⟩, ⟨S8x4096x2x2x1x16, (broadcastInDim S8x4096x2x2x1x16 ![0, 1, 2, 3, 5] bcast_S8x4096x2x2x16_S8x4096x2x2x1x16_0_1_2_3_5 (addf (mulf z2 (broadcastInDim S8x4096x2x2x16 ![0, 1, 2, 3, 4] bcast_S1x4096x1x2x16_S8x4096x2x2x16_0_1_2_3_4 c)) (mulf z1 (broadcastInDim S8x4096x2x2x16 ![0, 1, 2, 3, 4] bcast_S1x4096x1x2x16_S8x4096x2x2x16_0_1_2_3_4 s))))⟩] concatenates_S8x4096x2x2x1x16_S8x4096x2x2x1x16_S8x4096x2x2x2x16_d4 : FVec Ideal S8x4096x2x2x2x16 .f32) (ix6 b t n a e i)
      = if e.val < 1 then z1 (ix5 b t n a i) * c (ix5 0 t 0 a i) - z2 (ix5 b t n a i) * s (ix5 0 t 0 a i)
        else z2 (ix5 b t n a i) * c (ix5 0 t 0 a i) + z1 (ix5 b t n a i) * s (ix5 0 t 0 a i) := by
  pointwise
  exact dite_eq_ite

theorem turn2 (z1 z2 : FVec Ideal S8x4096x2x2x16 .f32) (c s : FVec Ideal S1x4096x1x2x16 .f32) (b : Fin 8) (t : Fin 4096) (n : Fin 2) (d : Fin 64) (q : Fin 64 → EReal)
    (h1 : ∀ a i, z1 (ix5 b t n a i) = q ⟨a.val * 32 + i.val, by omega⟩)
    (h2 : ∀ a i, z2 (ix5 b t n a i) = q ⟨a.val * 32 + 16 + i.val, by omega⟩)
    (hc : ∀ a i, c (ix5 0 t 0 a i) = Ideal.cos (angle t.val (a.val * 32 + i.val)))
    (hs : ∀ a i, s (ix5 0 t 0 a i) = Ideal.sin (angle t.val (a.val * 32 + i.val))) :
    (shapeCast S8x4096x2x64 (concatenate S8x4096x2x2x2x16 4 [⟨S8x4096x2x2x1x16, (broadcastInDim S8x4096x2x2x1x16 ![0, 1, 2, 3, 5] bcast_S8x4096x2x2x16_S8x4096x2x2x1x16_0_1_2_3_5 (subf (mulf z1 (broadcastInDim S8x4096x2x2x16 ![0, 1, 2, 3, 4] bcast_S1x4096x1x2x16_S8x4096x2x2x16_0_1_2_3_4 c)) (mulf z2 (broadcastInDim S8x4096x2x2x16 ![0, 1, 2, 3, 4] bcast_S1x4096x1x2x16_S8x4096x2x2x16_0_1_2_3_4 s))))⟩, ⟨S8x4096x2x2x1x16, (broadcastInDim S8x4096x2x2x1x16 ![0, 1, 2, 3, 5] bcast_S8x4096x2x2x16_S8x4096x2x2x1x16_0_1_2_3_5 (addf (mulf z2 (broadcastInDim S8x4096x2x2x16 ![0, 1, 2, 3, 4] bcast_S1x4096x1x2x16_S8x4096x2x2x16_0_1_2_3_4 c)) (mulf z1 (broadcastInDim S8x4096x2x2x16 ![0, 1, 2, 3, 4] bcast_S1x4096x1x2x16_S8x4096x2x2x16_0_1_2_3_4 s))))⟩] concatenates_S8x4096x2x2x1x16_S8x4096x2x2x1x16_S8x4096x2x2x2x16_d4 : FVec Ideal S8x4096x2x2x2x16 .f32) shapeCasts_S8x4096x2x2x2x16_S8x4096x2x64) (ix4 b t n d)
      = turned q t.val d := by
  rw [split2, pair2, h1, h2, hc, hs, ← turned_of q t.val d _ _ _ _ rfl rfl rfl rfl]
  have hA : angle t.val (d.val / 32 * 32 + d.val % 16) = angle t.val d.val := by
    unfold angle
    rw [show (d.val / 32 * 32 + d.val % 16) / 32 = d.val / 32 by omega, show (d.val / 32 * 32 + d.val % 16) % 16 = d.val % 16 by omega]
  simp only [hA]
  exact if_congr (by omega) rfl rfl

theorem repeat4 (z : FVec Ideal S8x4096x2x64 .f32) (b : Fin 8) (t : Fin 4096) (n : Fin 512) :
    (shapeCast S8x4096x512 (shapeCast S8x4096x8x64 (broadcastInDim S8x4096x2x4x64 ![0, 1, 2, 4] bcast_S8x4096x2x64_S8x4096x2x4x64_0_1_2_4 z) shapeCasts_S8x4096x2x4x64_S8x4096x8x64) shapeCasts_S8x4096x8x64_S8x4096x512) (ix3 b t n)
      = z (ix4 b t ⟨n.val / 256, by omega⟩ ⟨n.val % 64, by omega⟩) := by
  pointwise
theorem repeat2 (z : FVec Ideal S8x4096x2x64 .f32) (b : Fin 8) (t : Fin 4096) (n : Fin 256) :
    (shapeCast S8x4096x256 (shapeCast S8x4096x4x64 (broadcastInDim S8x4096x2x2x64 ![0, 1, 2, 4] bcast_S8x4096x2x64_S8x4096x2x2x64_0_1_2_4 z) shapeCasts_S8x4096x2x2x64_S8x4096x4x64) shapeCasts_S8x4096x4x64_S8x4096x256) (ix3 b t n)
      = z (ix4 b t ⟨n.val / 128, by omega⟩ ⟨n.val % 64, by omega⟩) := by
  pointwise

/-! ## The stages -/

variable (V : Valuation τ sig (Elt Ideal))

/-- The arguments. -/
def xOf : Stream := V (Proc.devRef .tc main_arg0)
def shiftOf : Modulation := V (Proc.devRef .tc main_arg1)
def scaleOf : Modulation := V (Proc.devRef .tc main_arg2)
def matrixOf : Matrix := V (Proc.devRef .tc main_arg3)
def qGain : Gain := V (Proc.devRef .tc main_arg4)
def kGain : Gain := V (Proc.devRef .tc main_arg5)

/-- A projected row. -/
abbrev rowOf (b : Fin 8) (t : Fin 4096) : Fin 1536 → EReal := projected (xOf V) (shiftOf V) (scaleOf V) (matrixOf V) b t

theorem frequency_eq (i : Fin 16) : res_main_v16 V (ix1 i) = frequency i.val := by
  pointwise [res_main_v16, frequency]

theorem angle_eq (t : Fin 4096) (a : Fin 2) (i : Fin 16) : res_main_v31 V (ix3 t a i) = angle t.val (a.val * 32 + i.val) := by
  have h : res_main_v31 V (ix3 t a i) = if a.val < 1 then FloatOps.sitofp (F := Ideal) .f32 (BitVec.ofNat 32 (t.val / 64)) * res_main_v16 V (ix1 i)
      else FloatOps.sitofp (F := Ideal) .f32 (BitVec.ofNat 32 (t.val % 64)) * res_main_v16 V (ix1 i) := by
    pointwise [res_main_v31]
    exact dite_eq_ite
  rw [h, frequency_eq, angle, show (a.val * 32 + i.val) / 32 = a.val by omega, show (a.val * 32 + i.val) % 16 = i.val by omega]
  by_cases ha : a.val < 1
  · rw [if_pos ha, if_pos ha]
  · rw [if_neg ha, if_neg ha]

theorem row_eq (b : Fin 8) (t : Fin 4096) (n : Fin 1536) : res_main_v60 V (ix3 b t n) = rowOf V b t n := by
  pointwise [res_main_v60, res_main_v39, res_main_v37, rowOf, projected, modulated, normed, variance, mean, width, xOf, shiftOf, scaleOf, matrixOf]

theorem table93 (t : Fin 4096) (a : Fin 2) (i : Fin 16) : res_main_v93 V (ix5 0 t 0 a i) = Ideal.cos (angle t.val (a.val * 32 + i.val)) := by
  have h : res_main_v93 V (ix5 0 t 0 a i) = Ideal.cos (res_main_v31 V (ix3 t a i)) := by
    pointwise [res_main_v93, res_main_v32]
  rw [h, angle_eq]

theorem table94 (t : Fin 4096) (a : Fin 2) (i : Fin 16) : res_main_v94 V (ix5 0 t 0 a i) = Ideal.sin (angle t.val (a.val * 32 + i.val)) := by
  have h : res_main_v94 V (ix5 0 t 0 a i) = Ideal.sin (res_main_v31 V (ix3 t a i)) := by
    pointwise [res_main_v94, res_main_v33]
  rw [h, angle_eq]

theorem table129 (t : Fin 4096) (a : Fin 2) (i : Fin 16) : res_main_v129 V (ix5 0 t 0 a i) = Ideal.cos (angle t.val (a.val * 32 + i.val)) := by
  have h : res_main_v129 V (ix5 0 t 0 a i) = Ideal.cos (res_main_v31 V (ix3 t a i)) := by
    pointwise [res_main_v129, res_main_v32]
  rw [h, angle_eq]

theorem table130 (t : Fin 4096) (a : Fin 2) (i : Fin 16) : res_main_v130 V (ix5 0 t 0 a i) = Ideal.sin (angle t.val (a.val * 32 + i.val)) := by
  have h : res_main_v130 V (ix5 0 t 0 a i) = Ideal.sin (res_main_v31 V (ix3 t a i)) := by
    pointwise [res_main_v130, res_main_v33]
  rw [h, angle_eq]

theorem table151 (t : Fin 4096) (a : Fin 2) (i : Fin 16) : res_main_v151 V (ix5 0 t 0 a i) = Ideal.cos (angle t.val (a.val * 32 + i.val)) := by
  have h : res_main_v151 V (ix5 0 t 0 a i) = Ideal.cos (res_main_v31 V (ix3 t a i)) := by
    pointwise [res_main_v151, res_main_v32]
  rw [h, angle_eq]

theorem table152 (t : Fin 4096) (a : Fin 2) (i : Fin 16) : res_main_v152 V (ix5 0 t 0 a i) = Ideal.sin (angle t.val (a.val * 32 + i.val)) := by
  have h : res_main_v152 V (ix5 0 t 0 a i) = Ideal.sin (res_main_v31 V (ix3 t a i)) := by
    pointwise [res_main_v152, res_main_v33]
  rw [h, angle_eq]

theorem table172 (t : Fin 4096) (a : Fin 2) (i : Fin 16) : res_main_v172 V (ix5 0 t 0 a i) = Ideal.cos (angle t.val (a.val * 32 + i.val)) := by
  have h : res_main_v172 V (ix5 0 t 0 a i) = Ideal.cos (res_main_v31 V (ix3 t a i)) := by
    pointwise [res_main_v172, res_main_v32]
  rw [h, angle_eq]

theorem table173 (t : Fin 4096) (a : Fin 2) (i : Fin 16) : res_main_v173 V (ix5 0 t 0 a i) = Ideal.sin (angle t.val (a.val * 32 + i.val)) := by
  have h : res_main_v173 V (ix5 0 t 0 a i) = Ideal.sin (res_main_v31 V (ix3 t a i)) := by
    pointwise [res_main_v173, res_main_v33]
  rw [h, angle_eq]

theorem head72 (b : Fin 8) (t : Fin 4096) (n : Fin 8) (d : Fin 64) :
    res_main_v72 V (ix4 b t n d) = headOf (rowOf V b t) (64 * n.val) (by omega) d := by
  have h : res_main_v72 V (ix4 b t n d) = res_main_v60 V (ix3 b t ⟨64 * n.val + d.val, by omega⟩) := by
    pointwise [res_main_v72]
    exact congrArg (fun k => res_main_v60 V (ix3 b t k)) (Fin.ext (by simp only; omega))
  rw [h, row_eq]
  rfl

theorem head88 (b : Fin 8) (t : Fin 4096) (n : Fin 8) (a e : Fin 2) (i : Fin 16) :
    res_main_v88 V (ix6 b t n a e i)
      = rmsNormed (headOf (rowOf V b t) (64 * n.val) (by omega)) (fun d => qGain V (ix2 0 d)) ⟨a.val * 32 + e.val * 16 + i.val, by omega⟩ := by
  have h : res_main_v88 V (ix6 b t n a e i)
      = rmsNormed (fun d => res_main_v72 V (ix4 b t n d)) (fun d => qGain V (ix2 0 d)) ⟨a.val * 32 + e.val * 16 + i.val, by omega⟩ := by
    pointwise [res_main_v88, rmsNormed, qGain]
  rw [h]
  simp only [head72]

theorem head65 (b : Fin 8) (t : Fin 4096) (n : Fin 2) (d : Fin 64) :
    res_main_v65 V (ix4 b t n d) = headOf (rowOf V b t) (1024 + 64 * n.val) (by omega) d := by
  have h : res_main_v65 V (ix4 b t n d) = res_main_v60 V (ix3 b t ⟨1024 + 64 * n.val + d.val, by omega⟩) := by
    pointwise [res_main_v65]
    exact congrArg (fun k => res_main_v60 V (ix3 b t k)) (Fin.ext (by simp only; omega))
  rw [h, row_eq]
  rfl

theorem head124 (b : Fin 8) (t : Fin 4096) (n : Fin 2) (a e : Fin 2) (i : Fin 16) :
    res_main_v124 V (ix6 b t n a e i)
      = rmsNormed (headOf (rowOf V b t) (1024 + 64 * n.val) (by omega)) (fun d => kGain V (ix2 0 d)) ⟨a.val * 32 + e.val * 16 + i.val, by omega⟩ := by
  have h : res_main_v124 V (ix6 b t n a e i)
      = rmsNormed (fun d => res_main_v65 V (ix4 b t n d)) (fun d => kGain V (ix2 0 d)) ⟨a.val * 32 + e.val * 16 + i.val, by omega⟩ := by
    pointwise [res_main_v124, rmsNormed, kGain]
  rw [h]
  simp only [head65]

theorem head146 (b : Fin 8) (t : Fin 4096) (n : Fin 4) (a e : Fin 2) (i : Fin 16) :
    res_main_v146 V (ix6 b t n a e i)
      = headOf (rowOf V b t) (512 + 64 * n.val) (by omega) ⟨a.val * 32 + e.val * 16 + i.val, by omega⟩ := by
  have h : res_main_v146 V (ix6 b t n a e i) = res_main_v60 V (ix3 b t ⟨512 + 64 * n.val + (a.val * 32 + e.val * 16 + i.val), by omega⟩) := by
    pointwise [res_main_v146]
    exact congrArg (fun k => res_main_v60 V (ix3 b t k)) (Fin.ext (by simp only; omega))
  rw [h, row_eq]
  rfl

theorem head167 (b : Fin 8) (t : Fin 4096) (n : Fin 2) (a e : Fin 2) (i : Fin 16) :
    res_main_v167 V (ix6 b t n a e i)
      = headOf (rowOf V b t) (1280 + 64 * n.val) (by omega) ⟨a.val * 32 + e.val * 16 + i.val, by omega⟩ := by
  have h : res_main_v167 V (ix6 b t n a e i) = res_main_v60 V (ix3 b t ⟨1280 + 64 * n.val + (a.val * 32 + e.val * 16 + i.val), by omega⟩) := by
    pointwise [res_main_v167]
    exact congrArg (fun k => res_main_v60 V (ix3 b t k)) (Fin.ext (by simp only; omega))
  rw [h, row_eq]
  rfl

theorem half90 (b : Fin 8) (t : Fin 4096) (n : Fin 8) (a : Fin 2) (i : Fin 16) :
    res_main_v90 V (ix5 b t n a i) = (rmsNormed (headOf (rowOf V b t) (64 * n.val) (by omega)) (fun d => qGain V (ix2 0 d))) ⟨a.val * 32 + i.val, by omega⟩ := by
  have h : res_main_v90 V (ix5 b t n a i) = res_main_v88 V (ix6 b t n a 0 i) := by
    pointwise [res_main_v90]
  rw [h, head88]
  exact congrArg _ (Fin.ext (show a.val * 32 + 0 * 16 + i.val = a.val * 32 + i.val by omega))

theorem half92 (b : Fin 8) (t : Fin 4096) (n : Fin 8) (a : Fin 2) (i : Fin 16) :
    res_main_v92 V (ix5 b t n a i) = (rmsNormed (headOf (rowOf V b t) (64 * n.val) (by omega)) (fun d => qGain V (ix2 0 d))) ⟨a.val * 32 + 16 + i.val, by omega⟩ := by
  have h : res_main_v92 V (ix5 b t n a i) = res_main_v88 V (ix6 b t n a 1 i) := by
    pointwise [res_main_v92]
  rw [h, head88]
  exact congrArg _ (Fin.ext (show a.val * 32 + 1 * 16 + i.val = a.val * 32 + 16 + i.val by omega))

theorem half126 (b : Fin 8) (t : Fin 4096) (n : Fin 2) (a : Fin 2) (i : Fin 16) :
    res_main_v126 V (ix5 b t n a i) = (rmsNormed (headOf (rowOf V b t) (1024 + 64 * n.val) (by omega)) (fun d => kGain V (ix2 0 d))) ⟨a.val * 32 + i.val, by omega⟩ := by
  have h : res_main_v126 V (ix5 b t n a i) = res_main_v124 V (ix6 b t n a 0 i) := by
    pointwise [res_main_v126]
  rw [h, head124]
  exact congrArg _ (Fin.ext (show a.val * 32 + 0 * 16 + i.val = a.val * 32 + i.val by omega))

theorem half128 (b : Fin 8) (t : Fin 4096) (n : Fin 2) (a : Fin 2) (i : Fin 16) :
    res_main_v128 V (ix5 b t n a i) = (rmsNormed (headOf (rowOf V b t) (1024 + 64 * n.val) (by omega)) (fun d => kGain V (ix2 0 d))) ⟨a.val * 32 + 16 + i.val, by omega⟩ := by
  have h : res_main_v128 V (ix5 b t n a i) = res_main_v124 V (ix6 b t n a 1 i) := by
    pointwise [res_main_v128]
  rw [h, head124]
  exact congrArg _ (Fin.ext (show a.val * 32 + 1 * 16 + i.val = a.val * 32 + 16 + i.val by omega))

theorem half148 (b : Fin 8) (t : Fin 4096) (n : Fin 4) (a : Fin 2) (i : Fin 16) :
    res_main_v148 V (ix5 b t n a i) = headOf (rowOf V b t) (512 + 64 * n.val) (by omega) ⟨a.val * 32 + i.val, by omega⟩ := by
  have h : res_main_v148 V (ix5 b t n a i) = res_main_v146 V (ix6 b t n a 0 i) := by
    pointwise [res_main_v148]
  rw [h, head146]
  exact congrArg _ (Fin.ext (show a.val * 32 + 0 * 16 + i.val = a.val * 32 + i.val by omega))

theorem half150 (b : Fin 8) (t : Fin 4096) (n : Fin 4) (a : Fin 2) (i : Fin 16) :
    res_main_v150 V (ix5 b t n a i) = headOf (rowOf V b t) (512 + 64 * n.val) (by omega) ⟨a.val * 32 + 16 + i.val, by omega⟩ := by
  have h : res_main_v150 V (ix5 b t n a i) = res_main_v146 V (ix6 b t n a 1 i) := by
    pointwise [res_main_v150]
  rw [h, head146]
  exact congrArg _ (Fin.ext (show a.val * 32 + 1 * 16 + i.val = a.val * 32 + 16 + i.val by omega))

theorem half169 (b : Fin 8) (t : Fin 4096) (n : Fin 2) (a : Fin 2) (i : Fin 16) :
    res_main_v169 V (ix5 b t n a i) = headOf (rowOf V b t) (1280 + 64 * n.val) (by omega) ⟨a.val * 32 + i.val, by omega⟩ := by
  have h : res_main_v169 V (ix5 b t n a i) = res_main_v167 V (ix6 b t n a 0 i) := by
    pointwise [res_main_v169]
  rw [h, head167]
  exact congrArg _ (Fin.ext (show a.val * 32 + 0 * 16 + i.val = a.val * 32 + i.val by omega))

theorem half171 (b : Fin 8) (t : Fin 4096) (n : Fin 2) (a : Fin 2) (i : Fin 16) :
    res_main_v171 V (ix5 b t n a i) = headOf (rowOf V b t) (1280 + 64 * n.val) (by omega) ⟨a.val * 32 + 16 + i.val, by omega⟩ := by
  have h : res_main_v171 V (ix5 b t n a i) = res_main_v167 V (ix6 b t n a 1 i) := by
    pointwise [res_main_v171]
  rw [h, head167]
  exact congrArg _ (Fin.ext (show a.val * 32 + 1 * 16 + i.val = a.val * 32 + 16 + i.val by omega))

theorem scale_eq : res_main_v189 V ix0 = logitScale := by
  pointwise [res_main_v189, logitScale]

/-! ## The results -/

theorem narrowed {S : Shape} (z : FVec Ideal S .f32) (i : S.Idx) : truncf .bf16 z bitsLt_bf16_f32 i = z i := by
  pointwise
theorem scaled {S : Shape} (z k : FVec Ideal S .f32) (i : S.Idx) : mulf z k i = z i * k i := by
  pointwise
theorem constant8 (b : Fin 8) (t : Fin 4096) (n : Fin 8) (d : Fin 64) :
    broadcastInDim S8x4096x8x64 ![] bcast_S_S8x4096x8x64 (res_main_v189 V) (ix4 b t n d) = res_main_v189 V ix0 := by
  pointwise
theorem constant4 (b : Fin 8) (t : Fin 4096) (n : Fin 4) (d : Fin 64) :
    broadcastInDim S8x4096x4x64 ![] bcast_S_S8x4096x4x64 (res_main_v189 V) (ix4 b t n d) = res_main_v189 V ix0 := by
  pointwise

theorem result_qa (b : Fin 8) (t : Fin 4096) (n : Fin 512) :
    (truncf .bf16 (shapeCast _ (mulf (shapeCast _ (concatenate S8x4096x8x2x2x16 4 [⟨S8x4096x8x2x1x16, (broadcastInDim S8x4096x8x2x1x16 ![0, 1, 2, 3, 5] bcast_S8x4096x8x2x16_S8x4096x8x2x1x16_0_1_2_3_5 (subf (mulf (res_main_v90 V) (broadcastInDim S8x4096x8x2x16 ![0, 1, 2, 3, 4] bcast_S1x4096x1x2x16_S8x4096x8x2x16_0_1_2_3_4 (res_main_v93 V))) (mulf (res_main_v92 V) (broadcastInDim S8x4096x8x2x16 ![0, 1, 2, 3, 4] bcast_S1x4096x1x2x16_S8x4096x8x2x16_0_1_2_3_4 (res_main_v94 V)))))⟩, ⟨S8x4096x8x2x1x16, (broadcastInDim S8x4096x8x2x1x16 ![0, 1, 2, 3, 5] bcast_S8x4096x8x2x16_S8x4096x8x2x1x16_0_1_2_3_5 (addf (mulf (res_main_v92 V) (broadcastInDim S8x4096x8x2x16 ![0, 1, 2, 3, 4] bcast_S1x4096x1x2x16_S8x4096x8x2x16_0_1_2_3_4 (res_main_v93 V))) (mulf (res_main_v90 V) (broadcastInDim S8x4096x8x2x16 ![0, 1, 2, 3, 4] bcast_S1x4096x1x2x16_S8x4096x8x2x16_0_1_2_3_4 (res_main_v94 V)))))⟩] concatenates_S8x4096x8x2x1x16_S8x4096x8x2x1x16_S8x4096x8x2x2x16_d4) shapeCasts_S8x4096x8x2x2x16_S8x4096x8x64) (broadcastInDim S8x4096x8x64 ![] bcast_S_S8x4096x8x64 (res_main_v189 V))) shapeCasts_S8x4096x8x64_S8x4096x512) bitsLt_bf16_f32 : FVec Ideal S8x4096x512 .bf16) (ix3 b t n)
      = queryA (rowOf V b t) (qGain V) t.val n := by
  rw [narrowed, flat8, scaled, constant8, scale_eq, turn8 _ _ _ _ b t _ _ _ (half90 V b t _) (half92 V b t _) (table93 V t) (table94 V t)]
  rfl

theorem result_qc (b : Fin 8) (t : Fin 4096) (n : Fin 256) :
    (truncf .bf16 (shapeCast _ (mulf (shapeCast _ (concatenate S8x4096x4x2x2x16 4 [⟨S8x4096x4x2x1x16, (broadcastInDim S8x4096x4x2x1x16 ![0, 1, 2, 3, 5] bcast_S8x4096x4x2x16_S8x4096x4x2x1x16_0_1_2_3_5 (subf (mulf (res_main_v148 V) (broadcastInDim S8x4096x4x2x16 ![0, 1, 2, 3, 4] bcast_S1x4096x1x2x16_S8x4096x4x2x16_0_1_2_3_4 (res_main_v151 V))) (mulf (res_main_v150 V) (broadcastInDim S8x4096x4x2x16 ![0, 1, 2, 3, 4] bcast_S1x4096x1x2x16_S8x4096x4x2x16_0_1_2_3_4 (res_main_v152 V)))))⟩, ⟨S8x4096x4x2x1x16, (broadcastInDim S8x4096x4x2x1x16 ![0, 1, 2, 3, 5] bcast_S8x4096x4x2x16_S8x4096x4x2x1x16_0_1_2_3_5 (addf (mulf (res_main_v150 V) (broadcastInDim S8x4096x4x2x16 ![0, 1, 2, 3, 4] bcast_S1x4096x1x2x16_S8x4096x4x2x16_0_1_2_3_4 (res_main_v151 V))) (mulf (res_main_v148 V) (broadcastInDim S8x4096x4x2x16 ![0, 1, 2, 3, 4] bcast_S1x4096x1x2x16_S8x4096x4x2x16_0_1_2_3_4 (res_main_v152 V)))))⟩] concatenates_S8x4096x4x2x1x16_S8x4096x4x2x1x16_S8x4096x4x2x2x16_d4) shapeCasts_S8x4096x4x2x2x16_S8x4096x4x64) (broadcastInDim S8x4096x4x64 ![] bcast_S_S8x4096x4x64 (res_main_v189 V))) shapeCasts_S8x4096x4x64_S8x4096x256) bitsLt_bf16_f32 : FVec Ideal S8x4096x256 .bf16) (ix3 b t n)
      = queryC (rowOf V b t) t.val n := by
  rw [narrowed, flat4, scaled, constant4, scale_eq, turn4 _ _ _ _ b t _ _ _ (half148 V b t _) (half150 V b t _) (table151 V t) (table152 V t)]
  rfl

theorem result_u (b : Fin 8) (t : Fin 4096) (n : Fin 256) :
    (extractStridedSlice S8x4096x256 ![0, 0, 768] (res_main_v60 V) slices_S8x4096x1536_S8x4096x256_0_0_768 : FVec Ideal S8x4096x256 .f32) (ix3 b t n)
      = gate (rowOf V b t) n := by
  have h : (extractStridedSlice S8x4096x256 ![0, 0, 768] (res_main_v60 V) slices_S8x4096x1536_S8x4096x256_0_0_768 : FVec Ideal S8x4096x256 .f32) (ix3 b t n) = res_main_v60 V (ix3 b t ⟨768 + n.val, by omega⟩) := by
    pointwise
  exact h.trans (row_eq V b t _)

theorem result_ka (b : Fin 8) (t : Fin 4096) (n : Fin 512) :
    (truncf .bf16 (shapeCast _ (shapeCast _ (broadcastInDim S8x4096x2x4x64 ![0, 1, 2, 4] bcast_S8x4096x2x64_S8x4096x2x4x64_0_1_2_4 (shapeCast _ (concatenate S8x4096x2x2x2x16 4 [⟨S8x4096x2x2x1x16, (broadcastInDim S8x4096x2x2x1x16 ![0, 1, 2, 3, 5] bcast_S8x4096x2x2x16_S8x4096x2x2x1x16_0_1_2_3_5 (subf (mulf (res_main_v126 V) (broadcastInDim S8x4096x2x2x16 ![0, 1, 2, 3, 4] bcast_S1x4096x1x2x16_S8x4096x2x2x16_0_1_2_3_4 (res_main_v129 V))) (mulf (res_main_v128 V) (broadcastInDim S8x4096x2x2x16 ![0, 1, 2, 3, 4] bcast_S1x4096x1x2x16_S8x4096x2x2x16_0_1_2_3_4 (res_main_v130 V)))))⟩, ⟨S8x4096x2x2x1x16, (broadcastInDim S8x4096x2x2x1x16 ![0, 1, 2, 3, 5] bcast_S8x4096x2x2x16_S8x4096x2x2x1x16_0_1_2_3_5 (addf (mulf (res_main_v128 V) (broadcastInDim S8x4096x2x2x16 ![0, 1, 2, 3, 4] bcast_S1x4096x1x2x16_S8x4096x2x2x16_0_1_2_3_4 (res_main_v129 V))) (mulf (res_main_v126 V) (broadcastInDim S8x4096x2x2x16 ![0, 1, 2, 3, 4] bcast_S1x4096x1x2x16_S8x4096x2x2x16_0_1_2_3_4 (res_main_v130 V)))))⟩] concatenates_S8x4096x2x2x1x16_S8x4096x2x2x1x16_S8x4096x2x2x2x16_d4) shapeCasts_S8x4096x2x2x2x16_S8x4096x2x64)) shapeCasts_S8x4096x2x4x64_S8x4096x8x64) shapeCasts_S8x4096x8x64_S8x4096x512) bitsLt_bf16_f32 : FVec Ideal S8x4096x512 .bf16) (ix3 b t n)
      = keyA (rowOf V b t) (kGain V) t.val n := by
  rw [narrowed, repeat4]
  rw [turn2 _ _ _ _ b t _ _ _ (half126 V b t _) (half128 V b t _) (table129 V t) (table130 V t)]
  rfl

theorem result_va (b : Fin 8) (t : Fin 4096) (n : Fin 512) :
    (truncf .bf16 (shapeCast _ (shapeCast _ (broadcastInDim S8x4096x2x4x64 ![0, 1, 2, 4] bcast_S8x4096x2x64_S8x4096x2x4x64_0_1_2_4 (shapeCast _ (extractStridedSlice S8x4096x128 ![0, 0, 1152] (res_main_v60 V) slices_S8x4096x1536_S8x4096x128_0_0_1152) shapeCasts_S8x4096x128_S8x4096x2x64)) shapeCasts_S8x4096x2x4x64_S8x4096x8x64) shapeCasts_S8x4096x8x64_S8x4096x512) bitsLt_bf16_f32 : FVec Ideal S8x4096x512 .bf16) (ix3 b t n)
      = valueA (rowOf V b t) n := by
  rw [narrowed, repeat4]
  have h : ∀ (k : Fin 2) (d : Fin 64), (shapeCast S8x4096x2x64 (extractStridedSlice S8x4096x128 ![0, 0, 1152] (res_main_v60 V) slices_S8x4096x1536_S8x4096x128_0_0_1152) shapeCasts_S8x4096x128_S8x4096x2x64 : FVec Ideal S8x4096x2x64 .f32) (ix4 b t k d) = res_main_v60 V (ix3 b t ⟨1152 + 64 * k.val + d.val, by omega⟩) := by
    intro k d
    pointwise
    exact congrArg (fun k => res_main_v60 V (ix3 b t k)) (Fin.ext (by simp only; omega))
  rw [h]
  exact row_eq V b t _

theorem result_vc (b : Fin 8) (t : Fin 4096) (n : Fin 256) :
    (truncf .bf16 (shapeCast _ (shapeCast _ (broadcastInDim S8x4096x2x2x64 ![0, 1, 2, 4] bcast_S8x4096x2x64_S8x4096x2x2x64_0_1_2_4 (shapeCast _ (extractStridedSlice S8x4096x128 ![0, 0, 1408] (res_main_v60 V) slices_S8x4096x1536_S8x4096x128_0_0_1408) shapeCasts_S8x4096x128_S8x4096x2x64)) shapeCasts_S8x4096x2x2x64_S8x4096x4x64) shapeCasts_S8x4096x4x64_S8x4096x256) bitsLt_bf16_f32 : FVec Ideal S8x4096x256 .bf16) (ix3 b t n)
      = valueC (rowOf V b t) n := by
  rw [narrowed, repeat2]
  have h : ∀ (k : Fin 2) (d : Fin 64), (shapeCast S8x4096x2x64 (extractStridedSlice S8x4096x128 ![0, 0, 1408] (res_main_v60 V) slices_S8x4096x1536_S8x4096x128_0_0_1408) shapeCasts_S8x4096x128_S8x4096x2x64 : FVec Ideal S8x4096x2x64 .f32) (ix4 b t k d) = res_main_v60 V (ix3 b t ⟨1408 + 64 * k.val + d.val, by omega⟩) := by
    intro k d
    pointwise
    exact congrArg (fun k => res_main_v60 V (ix3 b t k)) (Fin.ext (by simp only; omega))
  rw [h]
  exact row_eq V b t _

theorem result_kc (b : Fin 8) (t : Fin 4096) (n : Fin 256) :
    (truncf .bf16 (shapeCast _ (shapeCast _ (broadcastInDim S8x4096x2x2x64 ![0, 1, 2, 4] bcast_S8x4096x2x64_S8x4096x2x2x64_0_1_2_4 (shapeCast _ (concatenate S8x4096x2x2x2x16 4 [⟨S8x4096x2x2x1x16, (broadcastInDim S8x4096x2x2x1x16 ![0, 1, 2, 3, 5] bcast_S8x4096x2x2x16_S8x4096x2x2x1x16_0_1_2_3_5 (subf (mulf (res_main_v169 V) (broadcastInDim S8x4096x2x2x16 ![0, 1, 2, 3, 4] bcast_S1x4096x1x2x16_S8x4096x2x2x16_0_1_2_3_4 (res_main_v172 V))) (mulf (res_main_v171 V) (broadcastInDim S8x4096x2x2x16 ![0, 1, 2, 3, 4] bcast_S1x4096x1x2x16_S8x4096x2x2x16_0_1_2_3_4 (res_main_v173 V)))))⟩, ⟨S8x4096x2x2x1x16, (broadcastInDim S8x4096x2x2x1x16 ![0, 1, 2, 3, 5] bcast_S8x4096x2x2x16_S8x4096x2x2x1x16_0_1_2_3_5 (addf (mulf (res_main_v171 V) (broadcastInDim S8x4096x2x2x16 ![0, 1, 2, 3, 4] bcast_S1x4096x1x2x16_S8x4096x2x2x16_0_1_2_3_4 (res_main_v172 V))) (mulf (res_main_v169 V) (broadcastInDim S8x4096x2x2x16 ![0, 1, 2, 3, 4] bcast_S1x4096x1x2x16_S8x4096x2x2x16_0_1_2_3_4 (res_main_v173 V)))))⟩] concatenates_S8x4096x2x2x1x16_S8x4096x2x2x1x16_S8x4096x2x2x2x16_d4) shapeCasts_S8x4096x2x2x2x16_S8x4096x2x64)) shapeCasts_S8x4096x2x2x64_S8x4096x4x64) shapeCasts_S8x4096x4x64_S8x4096x256) bitsLt_bf16_f32 : FVec Ideal S8x4096x256 .bf16) (ix3 b t n)
      = keyC (rowOf V b t) t.val n := by
  rw [narrowed, repeat2]
  rw [turn2 _ _ _ _ b t _ _ _ (half169 V b t _) (half171 V b t _) (table172 V t) (table173 V t)]
  rfl

/-- The reference's run: its results are the seven arrays of its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v193) = queryAArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v197) = queryCArray (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v63) = gateArray (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v201) = keyAArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v205) = valueAArray (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v209) = keyCArray (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v213) = valueCArray (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.Reference4Ideal.Value.run (F := Ideal) m ρ)
  obtain ⟨h0, h1, h2, h3, h4, h5, h6, ha⟩ := h c
  refine ⟨h0.trans ?_, h1.trans ?_, h2.trans ?_, h3.trans ?_, h4.trans ?_, h5.trans ?_, h6.trans ?_, ha⟩ <;>
    clear h h0 h1 h2 h3 h4 h5 h6 ha <;> funext i <;> obtain ⟨b, t, n, rfl⟩ : ∃ b t n, i = ix3 b t n := ⟨i 0, i 1, i 2, (ix3_eta i).symm⟩
  · exact result_qa (launchContents m c) b t n
  · exact result_qc (launchContents m c) b t n
  · exact result_u (launchContents m c) b t n
  · exact result_ka (launchContents m c) b t n
  · exact result_va (launchContents m c) b t n
  · exact result_kc (launchContents m c) b t n
  · exact result_vc (launchContents m c) b t n

end Cert.InProj.Ref

end
-- ==== Proof.InProjValue.lean ====
/-
  The input projection computes the reference: each point projects 512 tokens of one sample, so its seven output blocks
  are the seven parts of the specification at those tokens, and the blocks tile the arrays.
-/
module

public import proofs.«01_k».proof.Proof.InProjBlocks
public import proofs.«01_k».proof.Proof.InProjTables
public import proofs.«01_k».proof.Proof.InProjRef

@[expose] public section

set_option maxRecDepth 16384

noncomputable section

namespace Cert.InProj

open Cert.Kernel4Ideal Cert.Kernel4Ideal.Gen Cert.Kernel4Ideal.Value Idealize.ShloMosaic Idealize.SL.Sem Idealize.ShloMosaic.TcCoe Idealize.ShloMosaic.Tactic

/-- The window index maps, decided over the grid. -/
theorem index0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem index1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val / 8 ∧ win0_2.index t (1 : Fin 3) = 0 ∧ win0_2.index t (2 : Fin 3) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = t.val % 8 ∧ win0_8.index t (1 : Fin 2) = 0 :=
  (by decide +kernel : ∀ t : Fin grid0.N, _)
theorem index9 : ∀ t : Fin cfg0.N, win0_9.index t (0 : Fin 2) = t.val % 8 ∧ win0_9.index t (1 : Fin 2) = 0 :=
  (by decide +kernel : ∀ t : Fin grid0.N, _)
theorem index10 : ∀ t : Fin cfg0.N, win0_10.index t (0 : Fin 3) = t.val / 8 ∧ win0_10.index t (1 : Fin 3) = t.val % 8 ∧ win0_10.index t (2 : Fin 3) = 0 :=
  (by decide +kernel : ∀ t : Fin grid0.N, _)
theorem index11 : ∀ t : Fin cfg0.N, win0_11.index t (0 : Fin 3) = t.val / 8 ∧ win0_11.index t (1 : Fin 3) = t.val % 8 ∧ win0_11.index t (2 : Fin 3) = 0 :=
  (by decide +kernel : ∀ t : Fin grid0.N, _)
theorem index12 : ∀ t : Fin cfg0.N, win0_12.index t (0 : Fin 3) = t.val / 8 ∧ win0_12.index t (1 : Fin 3) = t.val % 8 ∧ win0_12.index t (2 : Fin 3) = 0 :=
  (by decide +kernel : ∀ t : Fin grid0.N, _)
theorem index13 : ∀ t : Fin cfg0.N, win0_13.index t (0 : Fin 3) = t.val / 8 ∧ win0_13.index t (1 : Fin 3) = t.val % 8 ∧ win0_13.index t (2 : Fin 3) = 0 :=
  (by decide +kernel : ∀ t : Fin grid0.N, _)
theorem index14 : ∀ t : Fin cfg0.N, win0_14.index t (0 : Fin 3) = t.val / 8 ∧ win0_14.index t (1 : Fin 3) = t.val % 8 ∧ win0_14.index t (2 : Fin 3) = 0 :=
  (by decide +kernel : ∀ t : Fin grid0.N, _)
theorem index15 : ∀ t : Fin cfg0.N, win0_15.index t (0 : Fin 3) = t.val / 8 ∧ win0_15.index t (1 : Fin 3) = t.val % 8 ∧ win0_15.index t (2 : Fin 3) = 0 :=
  (by decide +kernel : ∀ t : Fin grid0.N, _)
theorem index16 : ∀ t : Fin cfg0.N, win0_16.index t (0 : Fin 3) = t.val / 8 ∧ win0_16.index t (1 : Fin 3) = t.val % 8 ∧ win0_16.index t (2 : Fin 3) = 0 :=
  (by decide +kernel : ∀ t : Fin grid0.N, _)

variable (m : (ℓ : Loc nD τ sig) → Buf (Elt Ideal) ℓ)

/-- The sample of a point, -/
def sampleAt (t : Fin cfg0.N) : Fin 8 := ⟨t.val / 8, by have h := lt_of_lt_of_eq t.isLt (show cfg0.N = 64 from N_0); omega⟩
/-- and the token of its row. -/
def tokenAt (t : Fin cfg0.N) (r : Fin 512) : Fin 4096 := ⟨512 * (t.val % 8) + r.val, by omega⟩

theorem emb0 (t : Fin cfg0.N) (r : Fin 512) (n : Fin 1024) : (((cfg0.win 0).blk t).view.emb (ix3 0 r n) : S8x4096x1024.Idx) = ix3 (sampleAt t) (tokenAt t r) n := by
  obtain ⟨e0, e1, e2⟩ := index0 t
  have hb0 : (((cfg0.win 0).blk t).view.emb (ix3 0 r n) 0).val = win0_0.index t (0 : Fin 3) * 1 + 1 * 0 := rfl
  have hb1 : (((cfg0.win 0).blk t).view.emb (ix3 0 r n) 1).val = win0_0.index t (1 : Fin 3) * 512 + 1 * r.val := rfl
  have hb2 : (((cfg0.win 0).blk t).view.emb (ix3 0 r n) 2).val = win0_0.index t (2 : Fin 3) * 1024 + 1 * n.val := rfl
  rw [e0] at hb0
  rw [e1] at hb1
  rw [e2] at hb2
  funext a; apply Fin.ext
  match a with
  | ⟨0, _⟩ => exact hb0.trans (by show _ = t.val / 8; omega)
  | ⟨1, _⟩ => exact hb1.trans (by show _ = 512 * (t.val % 8) + r.val; omega)
  | ⟨2, _⟩ => exact hb2.trans (by show _ = n.val; omega)

theorem emb1 (t : Fin cfg0.N) (n : Fin 1024) : (((cfg0.win 1).blk t).view.emb (ix3 0 0 n) : S8x1x1024.Idx) = ix3 (sampleAt t) 0 n := by
  obtain ⟨e0, e1, e2⟩ := index1 t
  have hb0 : (((cfg0.win 1).blk t).view.emb (ix3 0 0 n) 0).val = win0_1.index t (0 : Fin 3) * 1 + 1 * 0 := rfl
  have hb1 : (((cfg0.win 1).blk t).view.emb (ix3 0 0 n) 1).val = win0_1.index t (1 : Fin 3) * 1 + 1 * 0 := rfl
  have hb2 : (((cfg0.win 1).blk t).view.emb (ix3 0 0 n) 2).val = win0_1.index t (2 : Fin 3) * 1024 + 1 * n.val := rfl
  rw [e0] at hb0
  rw [e1] at hb1
  rw [e2] at hb2
  funext a; apply Fin.ext
  match a with
  | ⟨0, _⟩ => exact hb0.trans (by show _ = t.val / 8; omega)
  | ⟨1, _⟩ => exact hb1.trans (by show _ = 0; omega)
  | ⟨2, _⟩ => exact hb2.trans (by show _ = n.val; omega)

theorem emb2 (t : Fin cfg0.N) (n : Fin 1024) : (((cfg0.win 2).blk t).view.emb (ix3 0 0 n) : S8x1x1024.Idx) = ix3 (sampleAt t) 0 n := by
  obtain ⟨e0, e1, e2⟩ := index2 t
  have hb0 : (((cfg0.win 2).blk t).view.emb (ix3 0 0 n) 0).val = win0_2.index t (0 : Fin 3) * 1 + 1 * 0 := rfl
  have hb1 : (((cfg0.win 2).blk t).view.emb (ix3 0 0 n) 1).val = win0_2.index t (1 : Fin 3) * 1 + 1 * 0 := rfl
  have hb2 : (((cfg0.win 2).blk t).view.emb (ix3 0 0 n) 2).val = win0_2.index t (2 : Fin 3) * 1024 + 1 * n.val := rfl
  rw [e0] at hb0
  rw [e1] at hb1
  rw [e2] at hb2
  funext a; apply Fin.ext
  match a with
  | ⟨0, _⟩ => exact hb0.trans (by show _ = t.val / 8; omega)
  | ⟨1, _⟩ => exact hb1.trans (by show _ = 0; omega)
  | ⟨2, _⟩ => exact hb2.trans (by show _ = n.val; omega)

theorem emb3 (t : Fin cfg0.N) (r : Fin 1024) (n : Fin 1536) : (((cfg0.win 3).blk t).view.emb (ix2 r n) : S1024x1536.Idx) = ix2 r n := by
  obtain ⟨e0, e1⟩ := index3 t
  have hb0 : (((cfg0.win 3).blk t).view.emb (ix2 r n) 0).val = win0_3.index t (0 : Fin 2) * 1024 + 1 * r.val := rfl
  have hb1 : (((cfg0.win 3).blk t).view.emb (ix2 r n) 1).val = win0_3.index t (1 : Fin 2) * 1536 + 1 * n.val := rfl
  rw [e0] at hb0
  rw [e1] at hb1
  funext a; apply Fin.ext
  match a with
  | ⟨0, _⟩ => exact hb0.trans (by show _ = r.val; omega)
  | ⟨1, _⟩ => exact hb1.trans (by show _ = n.val; omega)

theorem emb4 (t : Fin cfg0.N) (n : Fin 512) : (((cfg0.win 4).blk t).view.emb (ix2 0 n) : S1x512.Idx) = ix2 0 n := by
  obtain ⟨e0, e1⟩ := index4 t
  have hb0 : (((cfg0.win 4).blk t).view.emb (ix2 0 n) 0).val = win0_4.index t (0 : Fin 2) * 1 + 1 * 0 := rfl
  have hb1 : (((cfg0.win 4).blk t).view.emb (ix2 0 n) 1).val = win0_4.index t (1 : Fin 2) * 512 + 1 * n.val := rfl
  rw [e0] at hb0
  rw [e1] at hb1
  funext a; apply Fin.ext
  match a with
  | ⟨0, _⟩ => exact hb0.trans (by show _ = 0; omega)
  | ⟨1, _⟩ => exact hb1.trans (by show _ = n.val; omega)

theorem emb5 (t : Fin cfg0.N) (n : Fin 128) : (((cfg0.win 5).blk t).view.emb (ix2 0 n) : S1x128.Idx) = ix2 0 n := by
  obtain ⟨e0, e1⟩ := index5 t
  have hb0 : (((cfg0.win 5).blk t).view.emb (ix2 0 n) 0).val = win0_5.index t (0 : Fin 2) * 1 + 1 * 0 := rfl
  have hb1 : (((cfg0.win 5).blk t).view.emb (ix2 0 n) 1).val = win0_5.index t (1 : Fin 2) * 128 + 1 * n.val := rfl
  rw [e0] at hb0
  rw [e1] at hb1
  funext a; apply Fin.ext
  match a with
  | ⟨0, _⟩ => exact hb0.trans (by show _ = 0; omega)
  | ⟨1, _⟩ => exact hb1.trans (by show _ = n.val; omega)

theorem emb6 (t : Fin cfg0.N) (r n : Fin 512) : (((cfg0.win 6).blk t).view.emb (ix2 r n) : S512x512.Idx) = ix2 r n := by
  obtain ⟨e0, e1⟩ := index6 t
  have hb0 : (((cfg0.win 6).blk t).view.emb (ix2 r n) 0).val = win0_6.index t (0 : Fin 2) * 512 + 1 * r.val := rfl
  have hb1 : (((cfg0.win 6).blk t).view.emb (ix2 r n) 1).val = win0_6.index t (1 : Fin 2) * 512 + 1 * n.val := rfl
  rw [e0] at hb0
  rw [e1] at hb1
  funext a; apply Fin.ext
  match a with
  | ⟨0, _⟩ => exact hb0.trans (by show _ = r.val; omega)
  | ⟨1, _⟩ => exact hb1.trans (by show _ = n.val; omega)

theorem emb7 (t : Fin cfg0.N) (r n : Fin 128) : (((cfg0.win 7).blk t).view.emb (ix2 r n) : S128x128.Idx) = ix2 r n := by
  obtain ⟨e0, e1⟩ := index7 t
  have hb0 : (((cfg0.win 7).blk t).view.emb (ix2 r n) 0).val = win0_7.index t (0 : Fin 2) * 128 + 1 * r.val := rfl
  have hb1 : (((cfg0.win 7).blk t).view.emb (ix2 r n) 1).val = win0_7.index t (1 : Fin 2) * 128 + 1 * n.val := rfl
  rw [e0] at hb0
  rw [e1] at hb1
  funext a; apply Fin.ext
  match a with
  | ⟨0, _⟩ => exact hb0.trans (by show _ = r.val; omega)
  | ⟨1, _⟩ => exact hb1.trans (by show _ = n.val; omega)

theorem emb8 (t : Fin cfg0.N) (r : Fin 512) (n : Fin 128) : (((cfg0.win 8).blk t).view.emb (ix2 r n) : S4096x128.Idx) = ix2 (tokenAt t r) n := by
  obtain ⟨e0, e1⟩ := index8 t
  have hb0 : (((cfg0.win 8).blk t).view.emb (ix2 r n) 0).val = win0_8.index t (0 : Fin 2) * 512 + 1 * r.val := rfl
  have hb1 : (((cfg0.win 8).blk t).view.emb (ix2 r n) 1).val = win0_8.index t (1 : Fin 2) * 128 + 1 * n.val := rfl
  rw [e0] at hb0
  rw [e1] at hb1
  funext a; apply Fin.ext
  match a with
  | ⟨0, _⟩ => exact hb0.trans (by show _ = 512 * (t.val % 8) + r.val; omega)
  | ⟨1, _⟩ => exact hb1.trans (by show _ = n.val; omega)

theorem emb9 (t : Fin cfg0.N) (r : Fin 512) (n : Fin 128) : (((cfg0.win 9).blk t).view.emb (ix2 r n) : S4096x128.Idx) = ix2 (tokenAt t r) n := by
  obtain ⟨e0, e1⟩ := index9 t
  have hb0 : (((cfg0.win 9).blk t).view.emb (ix2 r n) 0).val = win0_9.index t (0 : Fin 2) * 512 + 1 * r.val := rfl
  have hb1 : (((cfg0.win 9).blk t).view.emb (ix2 r n) 1).val = win0_9.index t (1 : Fin 2) * 128 + 1 * n.val := rfl
  rw [e0] at hb0
  rw [e1] at hb1
  funext a; apply Fin.ext
  match a with
  | ⟨0, _⟩ => exact hb0.trans (by show _ = 512 * (t.val % 8) + r.val; omega)
  | ⟨1, _⟩ => exact hb1.trans (by show _ = n.val; omega)

theorem emb10 (t : Fin cfg0.N) (r : Fin 512) (n : Fin 512) : (((cfg0.win 10).blk t).view.emb (ix3 0 r n) : S8x4096x512.Idx) = ix3 (sampleAt t) (tokenAt t r) n := by
  obtain ⟨e0, e1, e2⟩ := index10 t
  have hb0 : (((cfg0.win 10).blk t).view.emb (ix3 0 r n) 0).val = win0_10.index t (0 : Fin 3) * 1 + 1 * 0 := rfl
  have hb1 : (((cfg0.win 10).blk t).view.emb (ix3 0 r n) 1).val = win0_10.index t (1 : Fin 3) * 512 + 1 * r.val := rfl
  have hb2 : (((cfg0.win 10).blk t).view.emb (ix3 0 r n) 2).val = win0_10.index t (2 : Fin 3) * 512 + 1 * n.val := rfl
  rw [e0] at hb0
  rw [e1] at hb1
  rw [e2] at hb2
  funext a; apply Fin.ext
  match a with
  | ⟨0, _⟩ => exact hb0.trans (by show _ = t.val / 8; omega)
  | ⟨1, _⟩ => exact hb1.trans (by show _ = 512 * (t.val % 8) + r.val; omega)
  | ⟨2, _⟩ => exact hb2.trans (by show _ = n.val; omega)

theorem emb11 (t : Fin cfg0.N) (r : Fin 512) (n : Fin 256) : (((cfg0.win 11).blk t).view.emb (ix3 0 r n) : S8x4096x256.Idx) = ix3 (sampleAt t) (tokenAt t r) n := by
  obtain ⟨e0, e1, e2⟩ := index11 t
  have hb0 : (((cfg0.win 11).blk t).view.emb (ix3 0 r n) 0).val = win0_11.index t (0 : Fin 3) * 1 + 1 * 0 := rfl
  have hb1 : (((cfg0.win 11).blk t).view.emb (ix3 0 r n) 1).val = win0_11.index t (1 : Fin 3) * 512 + 1 * r.val := rfl
  have hb2 : (((cfg0.win 11).blk t).view.emb (ix3 0 r n) 2).val = win0_11.index t (2 : Fin 3) * 256 + 1 * n.val := rfl
  rw [e0] at hb0
  rw [e1] at hb1
  rw [e2] at hb2
  funext a; apply Fin.ext
  match a with
  | ⟨0, _⟩ => exact hb0.trans (by show _ = t.val / 8; omega)
  | ⟨1, _⟩ => exact hb1.trans (by show _ = 512 * (t.val % 8) + r.val; omega)
  | ⟨2, _⟩ => exact hb2.trans (by show _ = n.val; omega)

theorem emb12 (t : Fin cfg0.N) (r : Fin 512) (n : Fin 256) : (((cfg0.win 12).blk t).view.emb (ix3 0 r n) : S8x4096x256.Idx) = ix3 (sampleAt t) (tokenAt t r) n := by
  obtain ⟨e0, e1, e2⟩ := index12 t
  have hb0 : (((cfg0.win 12).blk t).view.emb (ix3 0 r n) 0).val = win0_12.index t (0 : Fin 3) * 1 + 1 * 0 := rfl
  have hb1 : (((cfg0.win 12).blk t).view.emb (ix3 0 r n) 1).val = win0_12.index t (1 : Fin 3) * 512 + 1 * r.val := rfl
  have hb2 : (((cfg0.win 12).blk t).view.emb (ix3 0 r n) 2).val = win0_12.index t (2 : Fin 3) * 256 + 1 * n.val := rfl
  rw [e0] at hb0
  rw [e1] at hb1
  rw [e2] at hb2
  funext a; apply Fin.ext
  match a with
  | ⟨0, _⟩ => exact hb0.trans (by show _ = t.val / 8; omega)
  | ⟨1, _⟩ => exact hb1.trans (by show _ = 512 * (t.val % 8) + r.val; omega)
  | ⟨2, _⟩ => exact hb2.trans (by show _ = n.val; omega)

theorem emb13 (t : Fin cfg0.N) (r : Fin 512) (n : Fin 512) : (((cfg0.win 13).blk t).view.emb (ix3 0 r n) : S8x4096x512.Idx) = ix3 (sampleAt t) (tokenAt t r) n := by
  obtain ⟨e0, e1, e2⟩ := index13 t
  have hb0 : (((cfg0.win 13).blk t).view.emb (ix3 0 r n) 0).val = win0_13.index t (0 : Fin 3) * 1 + 1 * 0 := rfl
  have hb1 : (((cfg0.win 13).blk t).view.emb (ix3 0 r n) 1).val = win0_13.index t (1 : Fin 3) * 512 + 1 * r.val := rfl
  have hb2 : (((cfg0.win 13).blk t).view.emb (ix3 0 r n) 2).val = win0_13.index t (2 : Fin 3) * 512 + 1 * n.val := rfl
  rw [e0] at hb0
  rw [e1] at hb1
  rw [e2] at hb2
  funext a; apply Fin.ext
  match a with
  | ⟨0, _⟩ => exact hb0.trans (by show _ = t.val / 8; omega)
  | ⟨1, _⟩ => exact hb1.trans (by show _ = 512 * (t.val % 8) + r.val; omega)
  | ⟨2, _⟩ => exact hb2.trans (by show _ = n.val; omega)

theorem emb14 (t : Fin cfg0.N) (r : Fin 512) (n : Fin 512) : (((cfg0.win 14).blk t).view.emb (ix3 0 r n) : S8x4096x512.Idx) = ix3 (sampleAt t) (tokenAt t r) n := by
  obtain ⟨e0, e1, e2⟩ := index14 t
  have hb0 : (((cfg0.win 14).blk t).view.emb (ix3 0 r n) 0).val = win0_14.index t (0 : Fin 3) * 1 + 1 * 0 := rfl
  have hb1 : (((cfg0.win 14).blk t).view.emb (ix3 0 r n) 1).val = win0_14.index t (1 : Fin 3) * 512 + 1 * r.val := rfl
  have hb2 : (((cfg0.win 14).blk t).view.emb (ix3 0 r n) 2).val = win0_14.index t (2 : Fin 3) * 512 + 1 * n.val := rfl
  rw [e0] at hb0
  rw [e1] at hb1
  rw [e2] at hb2
  funext a; apply Fin.ext
  match a with
  | ⟨0, _⟩ => exact hb0.trans (by show _ = t.val / 8; omega)
  | ⟨1, _⟩ => exact hb1.trans (by show _ = 512 * (t.val % 8) + r.val; omega)
  | ⟨2, _⟩ => exact hb2.trans (by show _ = n.val; omega)

theorem emb15 (t : Fin cfg0.N) (r : Fin 512) (n : Fin 256) : (((cfg0.win 15).blk t).view.emb (ix3 0 r n) : S8x4096x256.Idx) = ix3 (sampleAt t) (tokenAt t r) n := by
  obtain ⟨e0, e1, e2⟩ := index15 t
  have hb0 : (((cfg0.win 15).blk t).view.emb (ix3 0 r n) 0).val = win0_15.index t (0 : Fin 3) * 1 + 1 * 0 := rfl
  have hb1 : (((cfg0.win 15).blk t).view.emb (ix3 0 r n) 1).val = win0_15.index t (1 : Fin 3) * 512 + 1 * r.val := rfl
  have hb2 : (((cfg0.win 15).blk t).view.emb (ix3 0 r n) 2).val = win0_15.index t (2 : Fin 3) * 256 + 1 * n.val := rfl
  rw [e0] at hb0
  rw [e1] at hb1
  rw [e2] at hb2
  funext a; apply Fin.ext
  match a with
  | ⟨0, _⟩ => exact hb0.trans (by show _ = t.val / 8; omega)
  | ⟨1, _⟩ => exact hb1.trans (by show _ = 512 * (t.val % 8) + r.val; omega)
  | ⟨2, _⟩ => exact hb2.trans (by show _ = n.val; omega)

theorem emb16 (t : Fin cfg0.N) (r : Fin 512) (n : Fin 256) : (((cfg0.win 16).blk t).view.emb (ix3 0 r n) : S8x4096x256.Idx) = ix3 (sampleAt t) (tokenAt t r) n := by
  obtain ⟨e0, e1, e2⟩ := index16 t
  have hb0 : (((cfg0.win 16).blk t).view.emb (ix3 0 r n) 0).val = win0_16.index t (0 : Fin 3) * 1 + 1 * 0 := rfl
  have hb1 : (((cfg0.win 16).blk t).view.emb (ix3 0 r n) 1).val = win0_16.index t (1 : Fin 3) * 512 + 1 * r.val := rfl
  have hb2 : (((cfg0.win 16).blk t).view.emb (ix3 0 r n) 2).val = win0_16.index t (2 : Fin 3) * 256 + 1 * n.val := rfl
  rw [e0] at hb0
  rw [e1] at hb1
  rw [e2] at hb2
  funext a; apply Fin.ext
  match a with
  | ⟨0, _⟩ => exact hb0.trans (by show _ = t.val / 8; omega)
  | ⟨1, _⟩ => exact hb1.trans (by show _ = 512 * (t.val % 8) + r.val; omega)
  | ⟨2, _⟩ => exact hb2.trans (by show _ = n.val; omega)

/-! ## What a point is given -/

theorem given0 (c : Dev nD) (t : Fin cfg0.N) (r : Fin 512) (k : Fin 1024) : iblk m c 0 t (ix3 0 r k) = kx m c (ix3 (sampleAt t) (tokenAt t r) k) := by
  have e : iblk m c 0 t (ix3 0 r k) = V m c main_arg0 (((cfg0.win 0).blk t).view.emb (ix3 0 r k)) := rfl
  have i := emb0 t r k
  generalize ((cfg0.win 0).blk t).view.emb (ix3 0 r k) = p at e i
  rw [e, i]
  rw [V_main_arg0]; rfl

theorem given1 (c : Dev nD) (t : Fin cfg0.N) (k : Fin 1024) : iblk m c 1 t (ix3 0 0 k) = kshift m c (ix3 (sampleAt t) 0 k) := by
  have e : iblk m c 1 t (ix3 0 0 k) = V m c main_arg1 (((cfg0.win 1).blk t).view.emb (ix3 0 0 k)) := rfl
  have i := emb1 t k
  generalize ((cfg0.win 1).blk t).view.emb (ix3 0 0 k) = p at e i
  rw [e, i]
  rw [V_main_arg1]; rfl

theorem given2 (c : Dev nD) (t : Fin cfg0.N) (k : Fin 1024) : iblk m c 2 t (ix3 0 0 k) = kscale m c (ix3 (sampleAt t) 0 k) := by
  have e : iblk m c 2 t (ix3 0 0 k) = V m c main_arg2 (((cfg0.win 2).blk t).view.emb (ix3 0 0 k)) := rfl
  have i := emb2 t k
  generalize ((cfg0.win 2).blk t).view.emb (ix3 0 0 k) = p at e i
  rw [e, i]
  rw [V_main_arg2]; rfl

theorem given3 (c : Dev nD) (t : Fin cfg0.N) (k : Fin 1024) (n : Fin 1536) : iblk m c 3 t (ix2 k n) = kmatrix m c (ix3 0 k n) := by
  have e : iblk m c 3 t (ix2 k n) = V m c main_v63 (((cfg0.win 3).blk t).view.emb (ix2 k n)) := rfl
  have i := emb3 t k n
  generalize ((cfg0.win 3).blk t).view.emb (ix2 k n) = p at e i
  rw [e, i]
  exact matrix_eq m c k n

theorem given4 (c : Dev nD) (t : Fin cfg0.N) (n : Fin 512) : iblk m c 4 t (ix2 0 n) = kqGain m c (ix2 0 ⟨n.val % 64, by omega⟩) := by
  have e : iblk m c 4 t (ix2 0 n) = V m c main_v54 (((cfg0.win 4).blk t).view.emb (ix2 0 n)) := rfl
  have i := emb4 t n
  generalize ((cfg0.win 4).blk t).view.emb (ix2 0 n) = p at e i
  rw [e, i]
  exact qGain_eq m c n

theorem given5 (c : Dev nD) (t : Fin cfg0.N) (n : Fin 128) : iblk m c 5 t (ix2 0 n) = kkGain m c (ix2 0 ⟨n.val % 64, by omega⟩) := by
  have e : iblk m c 5 t (ix2 0 n) = V m c main_v60 (((cfg0.win 5).blk t).view.emb (ix2 0 n)) := rfl
  have i := emb5 t n
  generalize ((cfg0.win 5).blk t).view.emb (ix2 0 n) = p at e i
  rw [e, i]
  exact kGain_eq m c n

theorem given6 (c : Dev nD) (t : Fin cfg0.N) (k n : Fin 512) : iblk m c 6 t (ix2 k n) = if k.val / 64 = n.val / 64 then (1 : EReal) else 0 := by
  have e : iblk m c 6 t (ix2 k n) = V m c main_v39 (((cfg0.win 6).blk t).view.emb (ix2 k n)) := rfl
  have i := emb6 t k n
  generalize ((cfg0.win 6).blk t).view.emb (ix2 k n) = p at e i
  rw [e, i]
  exact qHeads_eq m c k n

theorem given7 (c : Dev nD) (t : Fin cfg0.N) (k n : Fin 128) : iblk m c 7 t (ix2 k n) = if k.val / 64 = n.val / 64 then (1 : EReal) else 0 := by
  have e : iblk m c 7 t (ix2 k n) = V m c main_v48 (((cfg0.win 7).blk t).view.emb (ix2 k n)) := rfl
  have i := emb7 t k n
  generalize ((cfg0.win 7).blk t).view.emb (ix2 k n) = p at e i
  rw [e, i]
  exact kHeads_eq m c k n

theorem given8 (c : Dev nD) (t : Fin cfg0.N) (r : Fin 512) (j : Fin 128) : iblk m c 8 t (ix2 r j) = Ideal.cos (angle (tokenAt t r).val (j.val % 64)) := by
  have e : iblk m c 8 t (ix2 r j) = V m c main_v26 (((cfg0.win 8).blk t).view.emb (ix2 r j)) := rfl
  have i := emb8 t r j
  generalize ((cfg0.win 8).blk t).view.emb (ix2 r j) = p at e i
  rw [e, i]
  exact cos_eq m c (tokenAt t r) j

theorem given9 (c : Dev nD) (t : Fin cfg0.N) (r : Fin 512) (j : Fin 128) : iblk m c 9 t (ix2 r j) = Ideal.sin (angle (tokenAt t r).val (j.val % 64)) * sign j.val := by
  have e : iblk m c 9 t (ix2 r j) = V m c main_v30 (((cfg0.win 9).blk t).view.emb (ix2 r j)) := rfl
  have i := emb9 t r j
  generalize ((cfg0.win 9).blk t).view.emb (ix2 r j) = p at e i
  rw [e, i]
  exact sin_eq m c (tokenAt t r) j

/-- What a point is given. -/
theorem blocks_at (c : Dev nD) (t : Fin cfg0.N) :
    Blocks (iblk m c 0 t) (iblk m c 1 t) (iblk m c 2 t) (iblk m c 3 t) (iblk m c 4 t) (iblk m c 5 t) (iblk m c 6 t) (iblk m c 7 t) (iblk m c 8 t) (iblk m c 9 t)
      (kx m c) (kshift m c) (kscale m c) (kmatrix m c) (kqGain m c) (kkGain m c) (sampleAt t) (tokenAt t) :=
  ⟨given0 m c t, given1 m c t, given2 m c t, given3 m c t, given4 m c t, given5 m c t, given6 m c t, given7 m c t, given8 m c t, given9 m c t⟩

/-! ## The arrays -/

theorem array10 (c : Dev nD) : (dats m 0 c).arrAt 10 cfg0.N = queryAArray (kx m c) (kshift m c) (kscale m c) (kmatrix m c) (kqGain m c) := by
  refine (dats m 0 c).arrAt_eq_of_covers 10 _ (by decide +kernel) fun t hf y => ?_
  obtain ⟨r, n, rfl⟩ := rows512_512 y
  refine ((congrFun (after0_10 m c t) _).trans (out10_apply _ _ _ _ _ _ _ _ _ _ _ _ _ _ _ _ _ _ (blocks_at m c t) (ix3 0 r n))).trans ?_
  exact (congrArg (queryAArray (kx m c) (kshift m c) (kscale m c) (kmatrix m c) (kqGain m c)) (emb10 t r n)).symm

theorem array11 (c : Dev nD) : (dats m 0 c).arrAt 11 cfg0.N = queryCArray (kx m c) (kshift m c) (kscale m c) (kmatrix m c) := by
  refine (dats m 0 c).arrAt_eq_of_covers 11 _ (by decide +kernel) fun t hf y => ?_
  obtain ⟨r, n, rfl⟩ := rows512_256 y
  refine ((congrFun (after0_11 m c t) _).trans (out11_apply _ _ _ _ _ _ _ _ _ _ _ _ _ _ _ _ _ _ (blocks_at m c t) (ix3 0 r n))).trans ?_
  exact (congrArg (queryCArray (kx m c) (kshift m c) (kscale m c) (kmatrix m c)) (emb11 t r n)).symm

theorem array12 (c : Dev nD) : (dats m 0 c).arrAt 12 cfg0.N = gateArray (kx m c) (kshift m c) (kscale m c) (kmatrix m c) := by
  refine (dats m 0 c).arrAt_eq_of_covers 12 _ (by decide +kernel) fun t hf y => ?_
  obtain ⟨r, n, rfl⟩ := rows512_256 y
  refine ((congrFun (after0_12 m c t) _).trans (out12_apply _ _ _ _ _ _ _ _ _ _ _ _ _ _ _ _ _ _ (blocks_at m c t) (ix3 0 r n))).trans ?_
  exact (congrArg (gateArray (kx m c) (kshift m c) (kscale m c) (kmatrix m c)) (emb12 t r n)).symm

theorem array13 (c : Dev nD) : (dats m 0 c).arrAt 13 cfg0.N = keyAArray (kx m c) (kshift m c) (kscale m c) (kmatrix m c) (kkGain m c) := by
  refine (dats m 0 c).arrAt_eq_of_covers 13 _ (by decide +kernel) fun t hf y => ?_
  obtain ⟨r, n, rfl⟩ := rows512_512 y
  refine ((congrFun (after0_13 m c t) _).trans (out13_apply _ _ _ _ _ _ _ _ _ _ _ _ _ _ _ _ _ _ (blocks_at m c t) (ix3 0 r n))).trans ?_
  exact (congrArg (keyAArray (kx m c) (kshift m c) (kscale m c) (kmatrix m c) (kkGain m c)) (emb13 t r n)).symm

theorem array14 (c : Dev nD) : (dats m 0 c).arrAt 14 cfg0.N = valueAArray (kx m c) (kshift m c) (kscale m c) (kmatrix m c) := by
  refine (dats m 0 c).arrAt_eq_of_covers 14 _ (by decide +kernel) fun t hf y => ?_
  obtain ⟨r, n, rfl⟩ := rows512_512 y
  refine ((congrFun (after0_14 m c t) _).trans (out14_apply _ _ _ _ _ _ _ _ _ _ _ _ _ _ _ _ _ _ (blocks_at m c t) (ix3 0 r n))).trans ?_
  exact (congrArg (valueAArray (kx m c) (kshift m c) (kscale m c) (kmatrix m c)) (emb14 t r n)).symm

theorem array15 (c : Dev nD) : (dats m 0 c).arrAt 15 cfg0.N = keyCArray (kx m c) (kshift m c) (kscale m c) (kmatrix m c) := by
  refine (dats m 0 c).arrAt_eq_of_covers 15 _ (by decide +kernel) fun t hf y => ?_
  obtain ⟨r, n, rfl⟩ := rows512_256 y
  refine ((congrFun (after0_15 m c t) _).trans (out15_apply _ _ _ _ _ _ _ _ _ _ _ _ _ _ _ _ _ _ (blocks_at m c t) (ix3 0 r n))).trans ?_
  exact (congrArg (keyCArray (kx m c) (kshift m c) (kscale m c) (kmatrix m c)) (emb15 t r n)).symm

theorem array16 (c : Dev nD) : (dats m 0 c).arrAt 16 cfg0.N = valueCArray (kx m c) (kshift m c) (kscale m c) (kmatrix m c) := by
  refine (dats m 0 c).arrAt_eq_of_covers 16 _ (by decide +kernel) fun t hf y => ?_
  obtain ⟨r, n, rfl⟩ := rows512_256 y
  refine ((congrFun (after0_16 m c t) _).trans (out16_apply _ _ _ _ _ _ _ _ _ _ _ _ _ _ _ _ _ _ (blocks_at m c t) (ix3 0 r n))).trans ?_
  exact (congrArg (valueCArray (kx m c) (kshift m c) (kscale m c) (kmatrix m c)) (emb16 t r n)).symm

/-- Over the extended reals the kernel and the reference leave the same seven results. -/
theorem algebraic : Cert.algebraic_Kernel4Ideal_Reference4Ideal (hKernel4Ideal := Cert.Kernel4Ideal.Gen.facts) (hReference4Ideal := Cert.Reference4Ideal.Gen.facts) := by
  intro m g m' g' hpre hargs
  refine ⟨fun c => queryAArray (kx m c) (kshift m c) (kscale m c) (kmatrix m c) (kqGain m c),
    fun c => queryCArray (kx m c) (kshift m c) (kscale m c) (kmatrix m c),
    fun c => gateArray (kx m c) (kshift m c) (kscale m c) (kmatrix m c),
    fun c => keyAArray (kx m c) (kshift m c) (kscale m c) (kmatrix m c) (kkGain m c),
    fun c => valueAArray (kx m c) (kshift m c) (kscale m c) (kmatrix m c),
    fun c => keyCArray (kx m c) (kshift m c) (kscale m c) (kmatrix m c),
    fun c => valueCArray (kx m c) (kshift m c) (kscale m c) (kmatrix m c),
    (θ_run _ _ _).mono (fun r h c => ?_) (run_blocks (F := Ideal) m g),
    (θ_run _ _ _).mono (fun r h c => ?_) (Ref.reference_run m' g')⟩
  · obtain ⟨r0, r1, r2, r3, r4, r5, r6, ra⟩ := h c
    exact ⟨r0.trans (array10 m c), r1.trans (array11 m c), r2.trans (array12 m c), r3.trans (array13 m c), r4.trans (array14 m c), r5.trans (array15 m c), r6.trans (array16 m c), ra⟩
  · obtain ⟨r0, r1, r2, r3, r4, r5, r6, ra⟩ := h c
    obtain ⟨h0, h1, h2, h3, h4, h5⟩ := hargs c
    rw [h0, h1, h2, h3] at r0 r1 r2 r3 r4 r5 r6
    rw [h4] at r0
    rw [h5] at r3
    exact ⟨r0, r1, r2, r3, r4, r5, r6, ra⟩

end Cert.InProj

end
-- ==== Proof.lean ====
module

public import proofs.«01_k».proof.Defs
public import proofs.«01_k».proof.Proof.Frames
public import proofs.«01_k».proof.Proof.AttnClaim
public import proofs.«01_k».proof.Proof.FfnValue
public import proofs.«01_k».proof.Proof.NormValue
public import proofs.«01_k».proof.Proof.InProjValue
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.KernelIdeal.Attn.finite_facts, Cert.Ffn.gates_facts,
    frame_attention, frame_attention_ideal, fun m ρ _ => frame_attention_ideal m ρ trivial, frame_attention_reference, fun m ρ _ => frame_attention_reference m ρ trivial,
    frame_ffn, frame_ffn_ideal, fun m ρ _ => frame_ffn_ideal m ρ trivial, frame_ffn_reference, fun m ρ _ => frame_ffn_reference m ρ trivial,
    frame_norm, frame_norm_ideal, frame_norm_reference,
    frame_projection, frame_projection_ideal, frame_projection_reference,
    trivial, Cert.KernelIdeal.Attn.algebraic (hP := Cert.KernelIdeal.Attn.finite_facts), trivial, Cert.Ffn.algebraic (hP := Cert.Ffn.gates_facts),
    trivial, Cert.Norm.algebraic,
    IdealRules.named_const.statement Cert.Kernel4Ideal.κ "logit_scale" .f32 0x3E38AA3B#32 _ rfl, Cert.InProj.algebraic⟩

end Cert.Proof

end
